-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![2, 1024, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 768]⟩ ⟨2, ![1024, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 768]⟩ ⟨3, ![2, 1024, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S2x256x768 .f32) (main_arg1 : FVec F S768x256 .f32) (main_arg2 : FVec F S768x256 .f32) (main_arg3 : FVec F S768x256 .f32) (main_arg4 : FVec F S256x768 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Pre_finite_ReferenceIdeal.lean ====
abbrev S2x1024x768 : Shape := ⟨3, ![2, 1024, 768]⟩
abbrev S768x1024 : Shape := ⟨2, ![768, 1024]⟩
abbrev S1024x768 : Shape := ⟨2, ![1024, 768]⟩
abbrev S_ : Shape := ⟨0, ![]⟩

class Facts : Prop where
  bcast_S_S2x1024x768 : S_.BroadcastsInDim S2x1024x768 (![] : Fin 0 → Fin S2x1024x768.rank)
  reducesTo_S2x1024x768_S_d0_1_2 : S2x1024x768.ReducesTo [0, 1, 2] S_
  h_S_ : 0 < S_.numel
  bcast_S_S768x1024 : S_.BroadcastsInDim S768x1024 (![] : Fin 0 → Fin S768x1024.rank)
  reducesTo_S768x1024_S_d0_1 : S768x1024.ReducesTo [0, 1] S_

variable [Facts]

def fn {F : FTy → Type} [FloatOps F] (main_arg0 : FVec F S2x1024x768 .f32) (main_arg1 : FVec F S768x1024 .f32) (main_arg2 : FVec F S768x1024 .f32) (main_arg3 : FVec F S768x1024 .f32) (main_arg4 : FVec F S1024x768 .f32) : IVec S_ 1 :=
  let main_v0 : FVec F S2x1024x768 .f32 := Host.absf main_arg0
  let main_cst : FVec F S_ .f32 := constant S_ .f32 0x7F800000#32
  let main_v1 : FVec F S2x1024x768 .f32 := broadcastInDim S2x1024x768 ![] bcast_S_S2x1024x768 main_cst
  let main_v2 : IVec S2x1024x768 1 := cmpf .olt main_v0 main_v1
  let main_c : IVec S_ 1 := constantI S_ 1 1#1
  let main_v3 : IVec S_ 1 := (fun x v => Host.reduce IntOp.andi x v reducesTo_S2x1024x768_S_d0_1_2 h_S_) main_v2 main_c
  let main_v4 : FVec F S768x1024 .f32 := Host.absf main_arg1
  let main_cst_0 : FVec F S_ .f32 := constant S_ .f32 0x7F800000#32
  let main_v5 : FVec F S768x1024 .f32 := broadcastInDim S768x1024 ![] bcast_S_S768x1024 main_cst_0
  let main_v6 : IVec S768x1024 1 := cmpf .olt main_v4 main_v5
  let main_c_1 : IVec S_ 1 := constantI S_ 1 1#1
  let main_v7 : IVec S_ 1 := (fun x v => Host.reduce IntOp.andi x v reducesTo_S768x1024_S_d0_1 h_S_) main_v6 main_c_1
  let main_v8 : IVec S_ 1 := andi main_v3 main_v7
  let main_v9 : FVec F S768x1024 .f32 := Host.absf main_arg2
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  main_v13
-- ==== Kernel.lean ====
abbrev S2x256x768 : Shape := ⟨3, ![2, 256, 768]⟩
abbrev S768x256 : Shape := ⟨2, ![768, 256]⟩
abbrev S256x768 : Shape := ⟨2, ![256, 768]⟩
abbrev S4x2x256x768 : Shape := ⟨4, ![4, 2, 256, 768]⟩
abbrev S768x768 : Shape := ⟨2, ![768, 768]⟩
abbrev S4x256x768 : Shape := ⟨3, ![4, 256, 768]⟩
abbrev S2x1024x256 : Shape := ⟨3, ![2, 1024, 256]⟩
abbrev S4x2x256x256 : Shape := ⟨4, ![4, 2, 256, 256]⟩
abbrev S3x2x256x256 : Shape := ⟨4, ![3, 2, 256, 256]⟩
abbrev S1024x256 : Shape := ⟨2, ![1024, 256]⟩
abbrev S4 : Shape := ⟨1, ![4]⟩
abbrev S3 : Shape := ⟨1, ![3]⟩
abbrev S_ : Shape := ⟨0, ![]⟩
abbrev S1 : Shape := ⟨1, ![1]⟩
abbrev S1x2x256x768 : Shape := ⟨4, ![1, 2, 256, 768]⟩
abbrev S1x256x768 : Shape := ⟨3, ![1, 256, 768]⟩
abbrev S256x256 : Shape := ⟨2, ![256, 256]⟩
abbrev S1x256x256 : Shape := ⟨3, ![1, 256, 256]⟩
abbrev S1x1x256x768 : Shape := ⟨4, ![1, 1, 256, 768]⟩
abbrev S1x256x64 : Shape := ⟨3, ![1, 256, 64]⟩
abbrev S256x64 : Shape := ⟨2, ![256, 64]⟩
abbrev S1x1024x64 : Shape := ⟨3, ![1, 1024, 64]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩
abbrev S1x1x256x64 : Shape := ⟨4, ![1, 1, 256, 64]⟩
abbrev S1x2x256x256 : Shape := ⟨4, ![1, 2, 256, 256]⟩
abbrev S2x256x256 : Shape := ⟨3, ![2, 256, 256]⟩
abbrev S1x1x256x256 : Shape := ⟨4, ![1, 1, 256, 256]⟩

abbrev nBuf : Space → Nat
  | .hbm => 6
  | .vmem => 18
  | .smem => 0
  | _ => 0

abbrev bufTy : (tb : Table) → Fin (tcTables nBuf tb) → BufTy
  | .hbm, ⟨0, _⟩ => ⟨S2x256x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S2x256x768, .f32⟩
  | .local _ .vmem, ⟨0, _⟩ => ⟨S2x256x768, .f32⟩
  | .local _ .vmem, ⟨1, _⟩ => ⟨S768x256, .f32⟩
  | .local _ .vmem, ⟨2, _⟩ => ⟨S768x256, .f32⟩
  | .local _ .vmem, ⟨3, _⟩ => ⟨S768x256, .f32⟩
  | .local _ .vmem, ⟨4, _⟩ => ⟨S256x768, .f32⟩
  | .local _ .vmem, ⟨5, _⟩ => ⟨S2x256x768, .f32⟩
  | .local _ .vmem, ⟨6, _⟩ => ⟨S2x256x768, .bf16⟩
  | .local _ .vmem, ⟨7, _⟩ => ⟨S4x2x256x768, .bf16⟩
  | .local _ .vmem, ⟨8, _⟩ => ⟨S768x768, .bf16⟩
  | .local _ .vmem, ⟨9, _⟩ => ⟨S256x768, .bf16⟩
  | .local _ .vmem, ⟨10, _⟩ => ⟨S4x256x768, .bf16⟩
  | .local _ .vmem, ⟨11, _⟩ => ⟨S2x1024x256, .bf16⟩
  | .local _ .vmem, ⟨12, _⟩ => ⟨S2x1024x256, .bf16⟩
  | .local _ .vmem, ⟨13, _⟩ => ⟨S2x1024x256, .bf16⟩
  | .local _ .vmem, ⟨14, _⟩ => ⟨S4x2x256x256, .bf16⟩
  | .local _ .vmem, ⟨15, _⟩ => ⟨S3x2x256x256, .bf16⟩
  | .local _ .vmem, ⟨16, _⟩ => ⟨S1024x256, .f32⟩
  | .local _ .vmem, ⟨17, _⟩ => ⟨S1024x256, .f32⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_22 : BitVec 32 := 1#32
  let v23 : BitVec 32 := Scalar.muli v7 c1_i32_22
  let v24 : BitVec 32 := Scalar.addi c0_i32_23 v23
  v24.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_30 : BitVec 32 := 1#32
  let v31 : BitVec 32 := Scalar.muli v5 c1_i32_30
  let v32 : BitVec 32 := Scalar.addi c0_i32_31 v31
  v32.toNat
def k0_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_42 : BitVec 32 := 1#32
  let v45 : BitVec 32 := Scalar.muli v7 c1_i32_42
  let v46 : BitVec 32 := Scalar.addi c0_i32_43 v45
  v46.toNat
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_49 : BitVec 32 := 1#32
  let v53 : BitVec 32 := Scalar.muli v5 c1_i32_49
  let v54 : BitVec 32 := Scalar.addi c0_i32_50 v53
  v54.toNat
def k0_off1 (d0 : Dev nD) (c4_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v189 : BitVec 32 := Scalar.addi v2 c4_i32_99
  let c4_i32_100 : BitVec 32 := 4#32
  let v190 : BitVec 32 := Scalar.remsi v189 c4_i32_100
  let c256_i32 : BitVec 32 := 256#32
  let v191 : BitVec 32 := Scalar.muli v190 c256_i32
  let v192 : Index := Scalar.indexCast v191
  let c0_101 : Index := 0#32
  ![v192.toNat, 0]
def k0_off2 (d0 : Dev nD) (c4_i32_99 : BitVec 32) : Fin 3 → Nat :=
  let c0_110 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v189 : BitVec 32 := Scalar.addi v2 c4_i32_99
  let c4_i32_100 : BitVec 32 := 4#32
  let v190 : BitVec 32 := Scalar.remsi v189 c4_i32_100
  let c256_i32 : BitVec 32 := 256#32
  let v191 : BitVec 32 := Scalar.muli v190 c256_i32
  let v207 : Index := Scalar.indexCast v191
  let c0_111 : Index := 0#32
  ![0, v207.toNat, 0]
def k0_off3 (d0 : Dev nD) (c4_i32_99 : BitVec 32) : Fin 3 → Nat :=
  let c1_123 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v189 : BitVec 32 := Scalar.addi v2 c4_i32_99
  let c4_i32_100 : BitVec 32 := 4#32
  let v190 : BitVec 32 := Scalar.remsi v189 c4_i32_100
  let c256_i32 : BitVec 32 := 256#32
  let v191 : BitVec 32 := Scalar.muli v190 c256_i32
  let v237 : Index := Scalar.indexCast v191
  let c0_124 : Index := 0#32
  ![1, v237.toNat, 0]
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_144 : BitVec 32 := 1#32
  let v262 : BitVec 32 := Scalar.muli v7 c1_i32_144
  let v263 : BitVec 32 := Scalar.addi c0_i32_145 v262
  v263.toNat
def k0_dev9 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_164 : BitVec 32 := 1#32
  let v278 : BitVec 32 := Scalar.muli v5 c1_i32_164
  let v279 : BitVec 32 := Scalar.addi c0_i32_165 v278
  v279.toNat
def k0_dev10 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_250 : BitVec 32 := 1#32
  let v428 : BitVec 32 := Scalar.muli v7 c1_i32_250
  let v429 : BitVec 32 := Scalar.addi c0_i32_251 v428
  v429.toNat
def k0_off4 (d0 : Dev nD) (c2_i32_314 : BitVec 32) : Fin 3 → Nat :=
  let c0_317 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v521 : BitVec 32 := Scalar.addi v2 c2_i32_314
  let c4_i32_315 : BitVec 32 := 4#32
  let v522 : BitVec 32 := Scalar.remsi v521 c4_i32_315
  let c256_i32_316 : BitVec 32 := 256#32
  let v523 : BitVec 32 := Scalar.muli v522 c256_i32_316
  let v524 : Index := Scalar.indexCast v523
  let c0_318 : Index := 0#32
  ![0, v524.toNat, 0]
def k0_off5 (d0 : Dev nD) (c2_i32_314 : BitVec 32) : Fin 3 → Nat :=
  let c0_333 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v521 : BitVec 32 := Scalar.addi v2 c2_i32_314
  let c4_i32_315 : BitVec 32 := 4#32
  let v522 : BitVec 32 := Scalar.remsi v521 c4_i32_315
  let c256_i32_316 : BitVec 32 := 256#32
  let v523 : BitVec 32 := Scalar.muli v522 c256_i32_316
  let v545 : Index := Scalar.indexCast v523
  let c64 : Index := 64#32
  ![0, v545.toNat, 64]
def k0_off6 (d0 : Dev nD) (c2_i32_314 : BitVec 32) : Fin 3 → Nat :=
  let c0_348 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v521 : BitVec 32 := Scalar.addi v2 c2_i32_314
  let c4_i32_315 : BitVec 32 := 4#32
  let v522 : BitVec 32 := Scalar.remsi v521 c4_i32_315
  let c256_i32_316 : BitVec 32 := 256#32
  let v523 : BitVec 32 := Scalar.muli v522 c256_i32_316
  let v566 : Index := Scalar.indexCast v523
  let c128 : Index := 128#32
  ![0, v566.toNat, 128]
def k0_off7 (d0 : Dev nD) (c2_i32_314 : BitVec 32) : Fin 3 → Nat :=
  let c0_363 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v521 : BitVec 32 := Scalar.addi v2 c2_i32_314
  let c4_i32_315 : BitVec 32 := 4#32
  let v522 : BitVec 32 := Scalar.remsi v521 c4_i32_315
  let c256_i32_316 : BitVec 32 := 256#32
  let v523 : BitVec 32 := Scalar.muli v522 c256_i32_316
  let v587 : Index := Scalar.indexCast v523
  let c192 : Index := 192#32
  ![0, v587.toNat, 192]
def k0_off8 (d0 : Dev nD) (c2_i32_378 : BitVec 32) : Fin 3 → Nat :=
  let c1_381 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v608 : BitVec 32 := Scalar.addi v2 c2_i32_378
  let c4_i32_379 : BitVec 32 := 4#32
  let v609 : BitVec 32 := Scalar.remsi v608 c4_i32_379
  let c256_i32_380 : BitVec 32 := 256#32
  let v610 : BitVec 32 := Scalar.muli v609 c256_i32_380
  let v611 : Index := Scalar.indexCast v610
  let c0_382 : Index := 0#32
  ![1, v611.toNat, 0]
def k0_off9 (d0 : Dev nD) (c2_i32_378 : BitVec 32) : Fin 3 → Nat :=
  let c1_397 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v608 : BitVec 32 := Scalar.addi v2 c2_i32_378
  let c4_i32_379 : BitVec 32 := 4#32
  let v609 : BitVec 32 := Scalar.remsi v608 c4_i32_379
  let c256_i32_380 : BitVec 32 := 256#32
  let v610 : BitVec 32 := Scalar.muli v609 c256_i32_380
  let v632 : Index := Scalar.indexCast v610
  let c64_398 : Index := 64#32
  ![1, v632.toNat, 64]
def k0_off10 (d0 : Dev nD) (c2_i32_378 : BitVec 32) : Fin 3 → Nat :=
  let c1_413 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v608 : BitVec 32 := Scalar.addi v2 c2_i32_378
  let c4_i32_379 : BitVec 32 := 4#32
  let v609 : BitVec 32 := Scalar.remsi v608 c4_i32_379
  let c256_i32_380 : BitVec 32 := 256#32
  let v610 : BitVec 32 := Scalar.muli v609 c256_i32_380
  let v653 : Index := Scalar.indexCast v610
  let c128_414 : Index := 128#32
  ![1, v653.toNat, 128]
def k0_off11 (d0 : Dev nD) (c2_i32_378 : BitVec 32) : Fin 3 → Nat :=
  let c1_429 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v608 : BitVec 32 := Scalar.addi v2 c2_i32_378
  let c4_i32_379 : BitVec 32 := 4#32
  let v609 : BitVec 32 := Scalar.remsi v608 c4_i32_379
  let c256_i32_380 : BitVec 32 := 256#32
  let v610 : BitVec 32 := Scalar.muli v609 c256_i32_380
  let v674 : Index := Scalar.indexCast v610
  let c192_430 : Index := 192#32
  ![1, v674.toNat, 192]
def k0_dev11 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_449 : BitVec 32 := 1#32
  let v695 : BitVec 32 := Scalar.muli v9 c1_i32_449
  let v696 : BitVec 32 := Scalar.addi c0_i32_450 v695
  v696.toNat
def k0_dev12 (d0 : Dev nD) : Nat :=
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_595 : BitVec 32 := 1#32
  let v879 : BitVec 32 := Scalar.muli v5 c1_i32_595
  let v880 : BitVec 32 := Scalar.addi c0_i32_596 v879
  v880.toNat
def k0_dev13 (d0 : Dev nD) : Nat :=
  let c0_i32_742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_741 : BitVec 32 := 1#32
  let v1063 : BitVec 32 := Scalar.muli v7 c1_i32_741
  let v1064 : BitVec 32 := Scalar.addi c0_i32_742 v1063
  v1064.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x768 : Shape := ⟨3, ![2, 1024, 768]⟩
abbrev S768x1024 : Shape := ⟨2, ![768, 1024]⟩
abbrev S1024x768 : Shape := ⟨2, ![1024, 768]⟩
abbrev S32 : Shape := ⟨1, ![32]⟩
abbrev S_ : Shape := ⟨0, ![]⟩
abbrev S1024 : Shape := ⟨1, ![1024]⟩
abbrev S1024x1 : Shape := ⟨2, ![1024, 1]⟩
abbrev S1x32 : Shape := ⟨2, ![1, 32]⟩
abbrev S1024x32 : Shape := ⟨2, ![1024, 32]⟩
abbrev S1024x32x2 : Shape := ⟨3, ![1024, 32, 2]⟩
abbrev S1024x64 : Shape := ⟨2, ![1024, 64]⟩
abbrev S2x1024x1024 : Shape := ⟨3, ![2, 1024, 1024]⟩
abbrev S2x1024x16x64 : Shape := ⟨4, ![2, 1024, 16, 64]⟩
abbrev S2x1024x16x32x2 : Shape := ⟨5, ![2, 1024, 16, 32, 2]⟩
abbrev S2x1024x16x32x1 : Shape := ⟨5, ![2, 1024, 16, 32, 1]⟩
abbrev S2x1024x16x32 : Shape := ⟨4, ![2, 1024, 16, 32]⟩
abbrev S1x1024x1x64 : Shape := ⟨4, ![1, 1024, 1, 64]⟩
abbrev S2x16x1024x1024 : Shape := ⟨4, ![2, 16, 1024, 1024]⟩
abbrev S2x16x1024 : Shape := ⟨3, ![2, 16, 1024]⟩
abbrev S2x16x1024x1 : Shape := ⟨4, ![2, 16, 1024, 1]⟩
abbrev S2x16x64x1024 : Shape := ⟨4, ![2, 16, 64, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S1024x768, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1024, .i32⟩
  | .hbm, ⟨23, _⟩ => ⟨S1024x1, .i32⟩
  | .hbm, ⟨24, _⟩ => ⟨S1x32, .f32⟩
  | .hbm, ⟨25, _⟩ => ⟨S1024x1, .f32⟩
  | .hbm, ⟨26, _⟩ => ⟨S1024x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1024x32x2, .f32⟩
  | .hbm, ⟨31, _⟩ => ⟨S1024x64, .f32⟩
  | .hbm, ⟨32, _⟩ => ⟨S1024x32, .f32⟩
  | .hbm, ⟨33, _⟩ => ⟨S1024x32x2, .f32⟩
  | .hbm, ⟨34, _⟩ => ⟨S1024x64, .f32⟩
  | .hbm, ⟨35, _⟩ => ⟨S2x1024x1024, .f32⟩
  | .hbm, ⟨36, _⟩ => ⟨S2x1024x16x64, .f32⟩
  | .hbm, ⟨37, _⟩ => ⟨S2x1024x16x32x2, .f32⟩
  | .hbm, ⟨38, _⟩ => ⟨S2x1024x16x32x1, .f32⟩
  | .hbm, ⟨39, _⟩ => ⟨S2x1024x16x32, .f32⟩
  | .hbm, ⟨40, _⟩ => ⟨S2x1024x16x32, .f32⟩
  | .hbm, ⟨41, _⟩ => ⟨S2x1024x16x32x1, .f32⟩
  | .hbm, ⟨42, _⟩ => ⟨S2x1024x16x32, .f32⟩
  | .hbm, ⟨43, _⟩ => ⟨S2x1024x16x32x1, .f32⟩
  | .hbm, ⟨44, _⟩ => ⟨S2x1024x16x32x1, .f32⟩
  | .hbm, ⟨45, _⟩ => ⟨S2x1024x16x32x2, .f32⟩
  | .hbm, ⟨46, _⟩ => ⟨S2x1024x16x64, .f32⟩
  | .hbm, ⟨47, _⟩ => ⟨S1x1024x1x64, .f32⟩
  | .hbm, ⟨48, _⟩ => ⟨S2x1024x16x64, .f32⟩
  | .hbm, ⟨49, _⟩ => ⟨S2x1024x16x64, .f32⟩
  | .hbm, ⟨50, _⟩ => ⟨S1x1024x1x64, .f32⟩
  | .hbm, ⟨51, _⟩ => ⟨S2x1024x16x64, .f32⟩
  | .hbm, ⟨52, _⟩ => ⟨S2x1024x16x64, .f32⟩
  | .hbm, ⟨53, _⟩ => ⟨S2x1024x16x64, .f32⟩
  | .hbm, ⟨54, _⟩ => ⟨S2x1024x1024, .f32⟩
  | .hbm, ⟨55, _⟩ => ⟨S2x1024x16x64, .f32⟩
  | .hbm, ⟨56, _⟩ => ⟨S2x1024x16x32x2, .f32⟩
  | .hbm, ⟨57, _⟩ => ⟨S2x1024x16x32x1, .f32⟩
  | .hbm, ⟨58, _⟩ => ⟨S2x1024x16x32, .f32⟩
  | .hbm, ⟨59, _⟩ => ⟨S2x1024x16x32, .f32⟩
  | .hbm, ⟨60, _⟩ => ⟨S2x1024x16x32x1, .f32⟩
  | .hbm, ⟨61, _⟩ => ⟨S2x1024x16x32, .f32⟩
  | .hbm, ⟨62, _⟩ => ⟨S2x1024x16x32x1, .f32⟩
  | .hbm, ⟨63, _⟩ => ⟨S2x1024x16x32x1, .f32⟩
  | .hbm, ⟨64, _⟩ => ⟨S2x1024x16x32x2, .f32⟩
  | .hbm, ⟨65, _⟩ => ⟨S2x1024x16x64, .f32⟩
  | .hbm, ⟨66, _⟩ => ⟨S1x1024x1x64, .f32⟩
  | .hbm, ⟨67, _⟩ => ⟨S2x1024x16x64, .f32⟩
  | .hbm, ⟨68, _⟩ => ⟨S2x1024x16x64, .f32⟩
  | .hbm, ⟨69, _⟩ => ⟨S1x1024x1x64, .f32⟩
  | .hbm, ⟨70, _⟩ => ⟨S2x1024x16x64, .f32⟩
  | .hbm, ⟨71, _⟩ => ⟨S2x1024x16x64, .f32⟩
  | .hbm, ⟨72, _⟩ => ⟨S2x1024x16x64, .f32⟩
  | .hbm, ⟨73, _⟩ => ⟨S2x1024x1024, .f32⟩
  | .hbm, ⟨74, _⟩ => ⟨S2x1024x16x64, .f32⟩
  | .hbm, ⟨75, _⟩ => ⟨S2x16x1024x1024, .f32⟩
  | .hbm, ⟨76, _⟩ => ⟨S_, .f32⟩
  | .hbm, ⟨77, _⟩ => ⟨S2x16x1024x1024, .f32⟩
  | .hbm, ⟨78, _⟩ => ⟨S2x16x1024x1024, .f32⟩
  | .hbm, ⟨79, _⟩ => ⟨S_, .f32⟩
  | .hbm, ⟨80, _⟩ => ⟨S2x16x1024, .f32⟩
  | .hbm, ⟨81, _⟩ => ⟨S2x16x1024x1, .f32⟩
  | .hbm, ⟨82, _⟩ => ⟨S2x16x1024x1024, .f32⟩
  | .hbm, ⟨83, _⟩ => ⟨S2x16x1024x1024, .f32⟩
  | .hbm, ⟨84, _⟩ => ⟨S2x16x1024x1024, .f32⟩
  | .hbm, ⟨85, _⟩ => ⟨S_, .f32⟩
  | .hbm, ⟨86, _⟩ => ⟨S2x16x1024, .f32⟩
  | .hbm, ⟨87, _⟩ => ⟨S2x16x1024x1, .f32⟩
  | .hbm, ⟨88, _⟩ => ⟨S2x16x1024x1024, .f32⟩
  | .hbm, ⟨89, _⟩ => ⟨S2x16x1024x1024, .f32⟩
  | .hbm, ⟨90, _⟩ => ⟨S2x16x64x1024, .f32⟩
  | .hbm, ⟨91, _⟩ => ⟨S2x1024x16x64, .f32⟩
  | .hbm, ⟨92, _⟩ => ⟨S2x1024x1024, .f32⟩
  | .hbm, ⟨93, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Vals.lean ====
/-
What every buffer of the launch holds, as functions of the argument blocks the devices start from: the
narrowed blocks, the gathered copies, the rotated queries and keys, the values, the attention of every
head and the four partial products summed into the result. Everything is stated for any float instance.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueIdx
public import Idealize.ShloMosaic.Lib.Tactic

@[expose] public section

noncomputable section

namespace Cert.KernelIdeal.Att

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## The devices -/

set_option backward.proofsInPublic true in
/-- The device `k` places further along the mesh. -/
def rot (c : Dev nD) (k : ℕ) : Dev nD := ⟨(c.val + k) % 4, Nat.mod_lt _ (by decide)⟩

theorem rot_val (c : Dev nD) (k : ℕ) : (rot c k).val = (c.val + k) % 4 := rfl

/-- An index of the given extent, read modulo the extent. -/
abbrev fin (n : ℕ) (k : ℕ) (h : 0 < n := by decide) : Fin n := ⟨k % n, Nat.mod_lt _ h⟩

/-! ## The blocks the devices start from -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of the input. -/
def xin (c : Dev nD) : Vec F S2x256x768 .f32 := (win0_0.blk (0 : Fin 1)).view.read (Elt F) ((s₀ m ρ).mem ((c : Thread nD τ).loc main_arg0))
/-- Device `c`'s columns of the query weights. -/
def wqin (c : Dev nD) : Vec F S768x256 .f32 := (win0_1.blk (0 : Fin 1)).view.read (Elt F) ((s₀ m ρ).mem ((c : Thread nD τ).loc main_arg1))
/-- Device `c`'s columns of the key weights. -/
def wkin (c : Dev nD) : Vec F S768x256 .f32 := (win0_2.blk (0 : Fin 1)).view.read (Elt F) ((s₀ m ρ).mem ((c : Thread nD τ).loc main_arg2))
/-- Device `c`'s columns of the value weights. -/
def wvin (c : Dev nD) : Vec F S768x256 .f32 := (win0_3.blk (0 : Fin 1)).view.read (Elt F) ((s₀ m ρ).mem ((c : Thread nD τ).loc main_arg3))
/-- Device `c`'s rows of the output weights. -/
def woin (c : Dev nD) : Vec F S256x768 .f32 := (win0_4.blk (0 : Fin 1)).view.read (Elt F) ((s₀ m ρ).mem ((c : Thread nD τ).loc main_arg4))

/-! ## The narrowed and the gathered blocks -/

/-- Device `c`'s input block, narrowed. -/
def X16 (c : Dev nD) : Vec F S2x256x768 .bf16 := k0_pay1 (xin m ρ c)
/-- Device `c`'s output weights, narrowed. -/
def WO16 (c : Dev nD) : Vec F S256x768 .bf16 := k0_pay2 (woin m ρ c)
/-- The gathered input: slot `r` holds the block of the device `r` places before. -/
def XG (c : Dev nD) : Vec F S4x2x256x768 .bf16 := fun i => X16 m ρ (rot c (4 - (i 0).val)) (ix3 (i 1) (i 2) (i 3))
/-- The gathered output weights: slot `r` holds the rows of the device `r` places before. -/
def WOALL (c : Dev nD) : Vec F S4x256x768 .bf16 := fun i => WO16 m ρ (rot c (4 - (i 0).val)) (ix2 (i 1) (i 2))
/-- The three weight blocks side by side. -/
def WQKV (c : Dev nD) : Vec F S768x768 .bf16 := fun i =>
  if (i 1).val < 256 then k0_pay3 (wqin m ρ c) (ix2 (i 0) (fin 256 (i 1).val))
  else if (i 1).val < 512 then k0_pay4 (wkin m ρ c) (ix2 (i 0) (fin 256 (i 1).val))
  else k0_pay5 (wvin m ρ c) (ix2 (i 0) (fin 256 (i 1).val))

/-! ## The tables -/

/-- The period of the frequencies, as the kernel selects it. -/
abbrev hd64 : BitVec 32 := Scalar.select (Scalar.cmpi .eq 64#32 0#32) 1#32 64#32
/-- The parity's modulus, as the kernel selects it. -/
abbrev two2 : BitVec 32 := Scalar.select (Scalar.cmpi .eq 2#32 0#32) 1#32 2#32
/-- The table of cosines. -/
def COS : Vec F S1024x256 .f32 := k0_pay11 k0_pay6 hd64 k0_pay7 k0_pay8 k0_pay9
/-- The table of sines. -/
def SIN : Vec F S1024x256 .f32 := k0_pay13 (k0_pay12 k0_pay6 hd64 k0_pay7 k0_pay8 k0_pay9)
/-- The matrix that turns each pair of columns a quarter turn. -/
def RMAT : FVec F S256x256 .f32 := k0_pay18 k0_pay14 k0_pay15 two2 k0_pay16 k0_pay17
/-- The cosines of one block of positions. -/
def cosB (d : ℕ) : Vec F S256x256 .f32 := fun j => COS (ix2 (fin 1024 (256 * d + (j 0).val)) (j 1))
/-- The sines of one block of positions. -/
def sinB (d : ℕ) : Vec F S256x256 .f32 := fun j => SIN (ix2 (fin 1024 (256 * d + (j 0).val)) (j 1))

/-! ## Queries, keys and values -/

/-- One batch row of one device's input block. -/
def xB (d : Dev nD) (b : Fin 2) : Vec F S1x256x768 .bf16 := fun j => X16 m ρ d (ix3 b (j 1) (j 2))

/-- Device `c`'s queries. -/
def QP (c : Dev nD) : Vec F S2x1024x256 .bf16 := fun i =>
  k0_pay25 RMAT (cosB ((i 1).val / 256)) (sinB ((i 1).val / 256)) (xB m ρ (fin 4 ((i 1).val / 256)) (i 0)) (WQKV m ρ c) (ix3 0 (fin 256 (i 1).val) (i 2))
/-- Device `c`'s keys. -/
def KP (c : Dev nD) : Vec F S2x1024x256 .bf16 := fun i =>
  k0_pay26 RMAT (cosB ((i 1).val / 256)) (sinB ((i 1).val / 256)) (xB m ρ (fin 4 ((i 1).val / 256)) (i 0)) (WQKV m ρ c) (ix3 0 (fin 256 (i 1).val) (i 2))
/-- Device `c`'s values. -/
def VP (c : Dev nD) : Vec F S2x1024x256 .bf16 := fun i =>
  k0_pay27 (xB m ρ (fin 4 ((i 1).val / 256)) (i 0)) (WQKV m ρ c) (ix3 0 (fin 256 (i 1).val) (i 2))

/-! ## The attention of the heads -/

/-- The queries of one head at the positions of block `d`. -/
def qH (c : Dev nD) (d : ℕ) (b : Fin 2) (h : ℕ) : Vec F S1x256x64 .bf16 := fun j => QP m ρ c (ix3 b (fin 1024 (256 * d + (j 1).val)) (fin 256 (64 * h + (j 2).val)))
/-- The keys of one head. -/
def kH (c : Dev nD) (b : Fin 2) (h : ℕ) : Vec F S1x1024x64 .bf16 := fun j => KP m ρ c (ix3 b (j 1) (fin 256 (64 * h + (j 2).val)))
/-- The values of one head. -/
def vH (c : Dev nD) (b : Fin 2) (h : ℕ) : Vec F S1x1024x64 .bf16 := fun j => VP m ρ c (ix3 b (j 1) (fin 256 (64 * h + (j 2).val)))
/-- The attention of one head at the positions of block `d`. -/
def head (c : Dev nD) (d : ℕ) (b : Fin 2) (h : ℕ) : FVec F S1x1x256x64 .bf16 := k0_pay55 (qH m ρ c d b h) (kH m ρ c b h) (vH m ρ c b h)
/-- Device `c`'s context: slot `r` is at the positions of the device `r` places before. -/
def CTXA (c : Dev nD) : Vec F S4x2x256x256 .bf16 := fun i =>
  head m ρ c ((c.val + (4 - (i 0).val)) % 4) (i 1) ((i 3).val / 64) (ix4 0 0 (i 2) (fin 64 (i 3).val))
/-- The slot of its sender's context that landing slot `k` receives; also how many places after it the sender is. -/
abbrev rxs (k : ℕ) : ℕ := if k = 0 then 3 else k
/-- The context blocks that land on device `c`. -/
def RX (c : Dev nD) : Vec F S3x2x256x256 .bf16 := fun i => CTXA m ρ (rot c (rxs (i 0).val)) (ix4 (fin 4 (rxs (i 0).val)) (i 1) (i 2) (i 3))

/-! ## The result -/

/-- One batch row of the device's own context. -/
def ctx0 (c : Dev nD) (b : Fin 2) : Vec F S1x1x256x256 .bf16 := fun j => CTXA m ρ c (ix4 0 b (j 2) (j 3))
/-- One batch row of a landed context block. -/
def rxB (c : Dev nD) (k : ℕ) (b : Fin 2) : Vec F S1x1x256x256 .bf16 := fun j => RX m ρ c (ix4 (fin 3 k) b (j 2) (j 3))
/-- One slot of the gathered output weights. -/
def woB (c : Dev nD) (k : ℕ) : Vec F S1x256x768 .bf16 := fun j => WOALL m ρ c (ix3 (fin 4 k) (j 1) (j 2))
/-- The result's row after `n` of the three additions. -/
def outS (c : Dev nD) (b : Fin 2) : ℕ → FVec F S1x256x768 .f32
  | 0 => k0_pay117 (ctx0 m ρ c b) (WO16 m ρ c)
  | 1 => k0_pay120 (k0_pay117 (ctx0 m ρ c b) (WO16 m ρ c)) (rxB m ρ c 0 b) (woB m ρ c 1)
  | 2 => k0_pay120 (k0_pay120 (k0_pay117 (ctx0 m ρ c b) (WO16 m ρ c)) (rxB m ρ c 0 b) (woB m ρ c 1)) (rxB m ρ c 2 b) (woB m ρ c 2)
  | _ => k0_pay120 (k0_pay120 (k0_pay120 (k0_pay117 (ctx0 m ρ c b) (WO16 m ρ c)) (rxB m ρ c 0 b) (woB m ρ c 1)) (rxB m ρ c 2 b) (woB m ρ c 2)) (rxB m ρ c 1 b) (woB m ρ c 3)
/-- The result block with `n0` additions made in the first row and `n1` in the second. -/
def OUTS (c : Dev nD) (n0 n1 : ℕ) : Vec F S2x256x768 .f32 := fun i => outS m ρ c (i 0) (if (i 0).val = 0 then n0 else n1) (ix3 0 (i 1) (i 2))
/-- The result block of device `c`. -/
def OUT (c : Dev nD) : Vec F S2x256x768 .f32 := OUTS m ρ c 3 3

end Cert.KernelIdeal.Att

end
-- ==== Proof.Proto.lean ====
/-
The protocol across the devices: the cells (a barrier cell, a send and a receive cell per transfer on every
device), the one round each of them runs, what each duty hands over, what a device owes, the levels that
order the waits, and one rule each for the signal, the transfer and the two kinds of wait.
-/
module

public import proofs.«01_k».proof.Proof.Vals
public import Idealize.ShloMosaic.Lib.Pipeline.Launch
public import Idealize.ShloMosaic.Lib.Pipeline.Kit

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-! ## The transfers and the cells

Transfer 0, 1: the input block to the right and to the left; 2, 3: the halves of the block that came from the
left and from the right passed on; 4, 5, 6: the same for the output weights (not halved); 7, 8, 9: the context
blocks to the right, to the left and to the device opposite. -/

set_option backward.proofsInPublic true in
/-- How many places further along the mesh transfer `t` goes. -/
def hop : Fin 10 → ℕ := ![1, 3, 1, 3, 1, 3, 1, 1, 3, 2]
/-- The device transfer `t` of device `c` goes to. -/
def tgt (t : Fin 10) (c : Dev nD) : Dev nD := rot c (hop t)
/-- The device whose transfer `t` comes to device `c`. -/
def org (t : Fin 10) (c : Dev nD) : Dev nD := rot c (4 - hop t)

theorem org_tgt : ∀ (t : Fin 10) (c : Dev nD), org t (tgt t c) = c := by decide
theorem tgt_org : ∀ (t : Fin 10) (c : Dev nD), tgt t (org t c) = c := by decide
/-- Transfer `t` pairs the devices one to one. -/
def tgtE (t : Fin 10) : Dev nD ≃ Dev nD := ⟨tgt t, org t, org_tgt t, tgt_org t⟩
theorem rot13 : ∀ c : Dev nD, rot (rot c 1) 3 = c := by decide
theorem rot31 : ∀ c : Dev nD, rot (rot c 3) 1 = c := by decide
theorem rot22 : ∀ c : Dev nD, rot (rot c 2) 2 = c := by decide
def rotE1 : Dev nD ≃ Dev nD := ⟨(rot · 1), (rot · 3), rot13, rot31⟩
def rotE2 : Dev nD ≃ Dev nD := ⟨(rot · 2), (rot · 2), rot22, rot22⟩

/-- The semaphore transfer `t` is counted on where it leaves, -/
def sendSem : Fin 10 → DmaSem sig := ![6, 7, 8, 9, 14, 15, 16, 20, 21, 22]
/-- and where it lands. -/
def recvSem : Fin 10 → DmaSem sig := ![10, 11, 12, 13, 17, 18, 19, 23, 24, 25]
/-- The barrier semaphore. -/
abbrev barS : Sem sig := (SemArray.scalar (sig.barrier 0 rfl) : Sems sig S_).sem

/-- The names of a device's cells: the barrier's, a transfer's send cell, its receive cell. -/
abbrev Ck : Type := Option (Bool × Fin 10)
def csem : Ck → SemLoc sig
  | none => .reg barS
  | some (false, t) => .dma (sendSem t)
  | some (true, t) => .dma (recvSem t)
/-- Which of them a semaphore is. -/
def role : SemLoc sig → Option Ck
  | .reg s => if s = barS then some none else none
  | .dma q => ((List.finRange 10).find? fun t => sendSem t = q).elim (((List.finRange 10).find? fun t => recvSem t = q).map fun t => some (true, t)) fun t => some (some (false, t))
theorem role_csem : ∀ k : Ck, role (csem k) = some k := by decide
theorem csem_injective : Function.Injective csem := fun a b h => Option.some.inj (by rw [← role_csem a, ← role_csem b, h])

/-- Cell `k` of device `c`. -/
def kcell (ck : Dev nD × Ck) : GSem nD τ sig := ((ck.1 : Thread nD τ), csem ck.2)
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
abbrev barCell (c : Dev nD) : GSem nD τ sig := kcell (c, none)
abbrev sendCell (t : Fin 10) (c : Dev nD) : GSem nD τ sig := kcell (c, some (false, t))
abbrev recvCell (t : Fin 10) (c : Dev nD) : GSem nD τ sig := kcell (c, some (true, t))

/-! ## The pieces of the buffers the transfers move -/

/-- Slot `r` of the gathered input, -/
def xgS (r : ℕ) : Finset S4x2x256x768.Idx := Finset.univ.filter fun i => (i 0).val = r
/-- and one batch row of it. -/
def xgR (r b : ℕ) : Finset S4x2x256x768.Idx := Finset.univ.filter fun i => (i 0).val = r ∧ (i 1).val = b
/-- Slot `r` of the gathered output weights. -/
def woS (r : ℕ) : Finset S4x256x768.Idx := Finset.univ.filter fun i => (i 0).val = r
/-- Slot `r` of the context. -/
def cxS (r : ℕ) : Finset S4x2x256x256.Idx := Finset.univ.filter fun i => (i 0).val = r
/-- Slot `k` of the landing context. -/
def rxS (k : ℕ) : Finset S3x2x256x256.Idx := Finset.univ.filter fun i => (i 0).val = k

/-- The units transfer `t` counts. -/
def amt : Fin 10 → ℕ := ![
  Ref.dmaCredit (sig := sig) cc0_scratch1 S2x256x768 .bf16, Ref.dmaCredit (sig := sig) cc0_scratch1 S2x256x768 .bf16,
  Ref.dmaCredit (sig := sig) cc0_scratch1 S256x768 .bf16, Ref.dmaCredit (sig := sig) cc0_scratch1 S256x768 .bf16,
  Ref.dmaCredit (sig := sig) cc0_scratch4 S256x768 .bf16, Ref.dmaCredit (sig := sig) cc0_scratch4 S256x768 .bf16, Ref.dmaCredit (sig := sig) cc0_scratch4 S256x768 .bf16,
  Ref.dmaCredit (sig := sig) cc0_scratch9 S2x256x256 .bf16, Ref.dmaCredit (sig := sig) cc0_scratch9 S2x256x256 .bf16, Ref.dmaCredit (sig := sig) cc0_scratch9 S2x256x256 .bf16]
theorem amt_pos : ∀ t, 0 < amt t := by
  intro t
  fin_cases t <;> exact RefSig.dmaCredit_pos _ _ _ _ _ _ (by decide)

/-- Where transfer `t` lands on device `d`, at contents `f1`, `f2`, `f3` of the three landing buffers. -/
def landAt (t : Fin 10) (d : Dev nD) (f1 : Vec F S4x2x256x768 .bf16) (f2 : Vec F S4x256x768 .bf16) (f3 : Vec F S3x2x256x256 .bf16) : sProp 𝕄 :=
  match t with
  | 0 => ((d : Thread nD τ).loc cc0_scratch1) ↦[xgS 1]{fullShare} f1
  | 1 => ((d : Thread nD τ).loc cc0_scratch1) ↦[xgS 3]{fullShare} f1
  | 2 => ((d : Thread nD τ).loc cc0_scratch1) ↦[xgR 2 0]{fullShare} f1
  | 3 => ((d : Thread nD τ).loc cc0_scratch1) ↦[xgR 2 1]{fullShare} f1
  | 4 => ((d : Thread nD τ).loc cc0_scratch4) ↦[woS 1]{fullShare} f2
  | 5 => ((d : Thread nD τ).loc cc0_scratch4) ↦[woS 3]{fullShare} f2
  | 6 => ((d : Thread nD τ).loc cc0_scratch4) ↦[woS 2]{fullShare} f2
  | 7 => ((d : Thread nD τ).loc cc0_scratch9) ↦[rxS 0]{fullShare} f3
  | 8 => ((d : Thread nD τ).loc cc0_scratch9) ↦[rxS 1]{fullShare} f3
  | 9 => ((d : Thread nD τ).loc cc0_scratch9) ↦[rxS 2]{fullShare} f3
/-- The landing place of transfer `t` on device `d`, at any contents. -/
def land (t : Fin 10) (d : Dev nD) : sProp 𝕄 := iprop(∃ f1 f2 f3, landAt (F := F) t d f1 f2 f3)
/-- What has landed on device `c` by transfer `t`. -/
def recvPay (t : Fin 10) (c : Dev nD) : sProp 𝕄 := landAt t c (XG m ρ c) (WOALL m ρ c) (RX m ρ c)
/-- What device `c` lends for transfer `t`, given back when it has left. -/
def sendPay (t : Fin 10) (c : Dev nD) : sProp 𝕄 :=
  match t with
  | 0 => ((c : Thread nD τ).loc cc0_scratch0) ↦{fullShare.right.left} (X16 m ρ c : Vec F S2x256x768 .bf16)
  | 1 => ((c : Thread nD τ).loc cc0_scratch0) ↦{fullShare.right.right} (X16 m ρ c : Vec F S2x256x768 .bf16)
  | 2 => ((c : Thread nD τ).loc cc0_scratch1) ↦[xgR 1 0]{fullShare.right} (XG m ρ c : Vec F S4x2x256x768 .bf16)
  | 3 => ((c : Thread nD τ).loc cc0_scratch1) ↦[xgR 3 1]{fullShare.right} (XG m ρ c : Vec F S4x2x256x768 .bf16)
  | 4 => ((c : Thread nD τ).loc cc0_scratch3) ↦{fullShare.right.left} (WO16 m ρ c : Vec F S256x768 .bf16)
  | 5 => ((c : Thread nD τ).loc cc0_scratch3) ↦{fullShare.right.right} (WO16 m ρ c : Vec F S256x768 .bf16)
  | 6 => ((c : Thread nD τ).loc cc0_scratch4) ↦[woS 1]{fullShare.right} (WOALL m ρ c : Vec F S4x256x768 .bf16)
  | 7 => ((c : Thread nD τ).loc cc0_scratch8) ↦[cxS 3]{fullShare} (CTXA m ρ c : Vec F S4x2x256x256 .bf16)
  | 8 => ((c : Thread nD τ).loc cc0_scratch8) ↦[cxS 1]{fullShare} (CTXA m ρ c : Vec F S4x2x256x256 .bf16)
  | 9 => ((c : Thread nD τ).loc cc0_scratch8) ↦[cxS 2]{fullShare} (CTXA m ρ c : Vec F S4x2x256x256 .bf16)
/-- What the signal `d` to device `c`'s barrier hands it: the landing places of the transfers it makes to the signaller. -/
def barPay (c : Dev nD) (d : Fin 3) : sProp 𝕄 :=
  match d with
  | 0 => iprop(land (F := F) 0 (rot c 1) ∗ land (F := F) 2 (rot c 1) ∗ land (F := F) 4 (rot c 1) ∗ land (F := F) 6 (rot c 1) ∗ land (F := F) 7 (rot c 1))
  | 1 => iprop(land (F := F) 1 (rot c 3) ∗ land (F := F) 3 (rot c 3) ∗ land (F := F) 5 (rot c 3) ∗ land (F := F) 8 (rot c 3))
  | 2 => land (F := F) 9 (rot c 2)

omit [FloatOps F] in
instance landAt_storable (t : Fin 10) (d : Dev nD) (f1) (f2) (f3) : BI.Storable (upEmb : UEmb _ 𝕄) (landAt (F := F) t d f1 f2 f3) := by
  fin_cases t <;> (dsimp only [landAt]; infer_instance)
omit [FloatOps F] in
instance land_storable (t : Fin 10) (d : Dev nD) : BI.Storable (upEmb : UEmb _ 𝕄) (land (F := F) t d) := by unfold land; infer_instance
instance recvPay_storable (t : Fin 10) (c : Dev nD) : BI.Storable (upEmb : UEmb _ 𝕄) (recvPay (F := F) m ρ t c) := by unfold recvPay; infer_instance
instance sendPay_storable (t : Fin 10) (c : Dev nD) : BI.Storable (upEmb : UEmb _ 𝕄) (sendPay (F := F) m ρ t c) := by
  fin_cases t <;> (dsimp only [sendPay]; infer_instance)
omit [FloatOps F] in
instance barPay_storable (c : Dev nD) (d : Fin 3) : BI.Storable (upEmb : UEmb _ 𝕄) (barPay (F := F) c d) := by
  fin_cases d <;> (dsimp only [barPay]; infer_instance)

/-! ## The schedule -/

/-- The payload of a cell's duty, by which cell it is. -/
def payOf (r : Option Ck) (c : Dev nD) (d : Fin 3) : sProp 𝕄 :=
  match r with
  | none => iprop(emp)
  | some none => barPay (F := F) c d
  | some (some (false, t)) => sendPay m ρ t c
  | some (some (true, t)) => recvPay m ρ t c
instance payOf_storable (r : Option Ck) (c : Dev nD) (d : Fin 3) : BI.Storable (upEmb : UEmb _ 𝕄) (payOf (F := F) m ρ r c d) := by
  rcases r with _ | _ | ⟨_ | _, t⟩ <;> (dsimp only [payOf]; infer_instance)
def dutOf : Option Ck → Finset (Fin 3)
  | none => ∅
  | some none => Finset.univ
  | some (some _) => {0}
def amtOf : Option Ck → ℕ
  | some (some (_, t)) => amt t
  | _ => 1

/-- One round: a barrier cell has three duties of one unit each, a send or a receive cell one duty of its transfer's units. -/
def Rd : Rounds.Schedule (GSem nD τ sig) (Fin 3) 𝕄 where
  duties g r := if r = 0 ∧ g.1.2 = .tc then dutOf (role g.2) else ∅
  unitless _ := False
  amount g _ _ := amtOf (role g.2)
  payload g _ d := payOf m ρ (role g.2) g.1.1 d
  amount_pos g _ _ _ := by
    rcases role g.2 with _ | _ | ⟨_, t⟩ <;> first | exact Nat.one_pos | exact amt_pos t

instance Rd_payload_storable (g : GSem nD τ sig) (r : ℕ) (d : Fin 3) : BI.Storable (upEmb : UEmb _ 𝕄) ((Rd (F := F) m ρ).payload g r d) := by
  show BI.Storable upEmb (payOf m ρ (role g.2) g.1.1 d); infer_instance

section Sched
variable (c : Dev nD) (t : Fin 10)

theorem duties_k (k : Ck) : (Rd (F := F) m ρ).duties (kcell (c, k)) 0 = dutOf (some k) := by
  show (if 0 = 0 ∧ (kcell (c, k)).1.2 = .tc then dutOf (role (csem k)) else ∅) = _
  rw [role_csem]; exact if_pos ⟨rfl, rfl⟩
theorem duties_later (g : GSem nD τ sig) : ∀ r, 1 ≤ r → (Rd (F := F) m ρ).duties g r = ∅ :=
  fun r hr => if_neg fun h => by omega
theorem amount_k (k : Ck) (d : Fin 3) : (Rd (F := F) m ρ).amount (kcell (c, k)) 0 d = amtOf (some k) := congrArg amtOf (role_csem k)
theorem payload_k (k : Ck) (d : Fin 3) : (Rd (F := F) m ρ).payload (kcell (c, k)) 0 d = payOf m ρ (some k) c d := congrArg (fun r => payOf m ρ r c d) (role_csem k)
theorem expect_bar : (Rd (F := F) m ρ).expect (barCell c) 0 = 3 := by
  unfold Schedule.expect Schedule.amountOf
  rw [duties_k, Finset.sum_congr rfl fun d _ => amount_k m ρ c none d]; rfl
theorem expect_x (b : Bool) : (Rd (F := F) m ρ).expect (kcell (c, some (b, t))) 0 = amt t := by
  unfold Schedule.expect Schedule.amountOf
  rw [duties_k]; show Finset.sum {0} _ = _
  rw [Finset.sum_singleton, amount_k]; rfl
theorem rest_bar : bigSep ((Rd (F := F) m ρ).duties (barCell c) 0 \ ∅) (fun d => (Rd (F := F) m ρ).payload (barCell c) 0 d)
    = iprop(barPay (F := F) c 0 ∗ barPay (F := F) c 1 ∗ barPay (F := F) c 2) := by
  rw [Finset.sdiff_empty, duties_k]
  show bigSep Finset.univ _ = _
  rw [bigSep_univ_eq_bigSepL [0, 1, 2] (by decide) (by decide), bigSepL_cons_cons, bigSepL_cons_cons, bigSepL_singleton, payload_k, payload_k, payload_k]
  rfl
theorem rest_x (b : Bool) : bigSep ((Rd (F := F) m ρ).duties (kcell (c, some (b, t))) 0 \ ∅) (fun d => (Rd (F := F) m ρ).payload (kcell (c, some (b, t))) 0 d)
    = payOf m ρ (some (some (b, t))) c 0 := by
  rw [Finset.sdiff_empty, duties_k]; show bigSep {0} _ = _
  rw [bigSep_singleton, payload_k]
end Sched

/-! ## What a device owes; the levels -/

/-- What device `c` owes while the transfers of the list are still to be made. -/
def owed (c : Dev nD) : List (Fin 10) → CellTallies nD τ sig Unit
  | [] => 0
  | t :: l => owed c l + tallyAt (recvCell t (tgt t c)) () (amt t)
/-- The transfers in the order they are made. -/
abbrev order : List (Fin 10) := [0, 1, 4, 5, 2, 3, 6, 9, 8, 7]
/-- What it owes at launch: one unit to each other device's barrier, and the transfers. -/
def O₃ (c : Dev nD) : CellTallies nD τ sig Unit := owed c order
def O₂ (c : Dev nD) : CellTallies nD τ sig Unit := O₃ c + tallyAt (barCell (rot c 2)) () 1
def O₁ (c : Dev nD) : CellTallies nD τ sig Unit := O₂ c + tallyAt (barCell (rot c 1)) () 1
def O₀ (c : Dev nD) : CellTallies nD τ sig Unit := O₁ c + tallyAt (barCell (rot c 3)) () 1

def L (g : GSem nD τ sig) : Finset Unit := if g.1.2 = .tc then {()} else ∅
set_option backward.proofsInPublic true in
def rl : Fin 10 → ℕ := ![2, 3, 5, 5, 4, 5, 5, 6, 6, 6]
def lvOf : Option Ck → ℕ
  | some none => 1
  | some (some (true, t)) => rl t
  | _ => 0
/-- Barrier cells at 1, receive cells above by when their transfer is made, everything else at 0. -/
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Ck) (u : Unit) : lv (kcell (c, k)) u = lvOf (some k) := congrArg lvOf (role_csem k)

theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h
theorem owed_pos {c : Dev nD} {l : List (Fin 10)} {g : GSem nD τ sig} {u : Unit} (h : 0 < owed c l g u) : ∃ t ∈ l, g = recvCell t (tgt t c) := by
  induction l with
  | nil => exact absurd h (by show ¬ 0 < (0 : ℕ); exact Nat.lt_irrefl 0)
  | cons t l ih =>
    rw [owed, Pi.add_apply, Finsupp.add_apply] at h
    rcases Nat.eq_zero_or_pos (owed c l g u) with h0 | h0
    · rw [h0, Nat.zero_add] at h
      exact ⟨t, List.mem_cons_self, tallyAt_pos h⟩
    · obtain ⟨t', ht', hg⟩ := ih h0; exact ⟨t', List.mem_cons_of_mem _ ht', hg⟩
theorem O₀_pos {c : Dev nD} {g : GSem nD τ sig} {u : Unit} (h : 0 < O₀ c g u) : (∃ t : Fin 10, g = recvCell t (tgt t c)) ∨ ∃ d, g = barCell d := by
  unfold O₀ O₁ O₂ at h
  rw [Pi.add_apply, Finsupp.add_apply, Pi.add_apply, Finsupp.add_apply, Pi.add_apply, Finsupp.add_apply] at h
  rcases Nat.eq_zero_or_pos (O₃ c g u) with h0 | h0
  · rcases Nat.eq_zero_or_pos ((tallyAt (barCell (rot c 2)) () 1 : CellTallies nD τ sig Unit) g u) with h1 | h1
    · rcases Nat.eq_zero_or_pos ((tallyAt (barCell (rot c 1)) () 1 : CellTallies nD τ sig Unit) g u) with h2 | h2
      · rw [h0, h1, h2] at h; exact .inr ⟨_, tallyAt_pos (by simpa using h)⟩
      · exact .inr ⟨_, tallyAt_pos h2⟩
    · exact .inr ⟨_, tallyAt_pos h1⟩
  · obtain ⟨t, -, hg⟩ := owed_pos h0; exact .inl ⟨t, hg⟩

/-- A wait is allowed below everything the device still owes. -/
theorem mayWait_of (c : Dev nD) (sm : SemLoc sig) (O : CellTallies nD τ sig Unit) (n : ℕ) (hn : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

theorem mayWait_owed (c : Dev nD) (k : Ck) (l : List (Fin 10)) (h : ∀ t ∈ l, lvOf (some k) < rl t) :
    (levAts L lv : sProp 𝕄) ⊢ MayWait (c : Thread nD τ) (csem k) () (owed c l) :=
  mayWait_of c _ _ (lvOf (some k)) (le_of_eq (lv_k c k ())) (fun g u hg => by
    obtain ⟨t, ht, rfl⟩ := owed_pos hg
    exact ⟨rfl, by rw [lv_k]; exact h t ht⟩)

theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine mayWait_of c _ _ 0 (by show lvOf (role (.dma q)) ≤ 0; rw [hq]; exact le_refl _) fun g u hg => ?_
    rcases O₀_pos hg with ⟨t, rfl⟩ | ⟨d, rfl⟩
    · refine ⟨rfl, ?_⟩; rw [lv_k]; clear hg; revert t; decide
    · refine ⟨rfl, ?_⟩; rw [lv_k]; decide
  · rw [MayWait_zero]; iintro -; iempintro

/-! ## The records, and the bundles a device's steps consume -/

/-- Every cell's invariant, and that every cell has reached its round. -/
def records (K : Dev nD × Ck → ℕ) : sProp 𝕄 :=
  iprop((bigSep Finset.univ fun ck : Dev nD × Ck => cellInv ER (Rd m ρ) (K ck) (kcell ck))
    ∗ bigSep Finset.univ fun ck : Dev nD × Ck => reached ER (kcell ck) 0)
instance records_persistent (K : Dev nD × Ck → ℕ) : BI.Persistent (records m ρ K) := by unfold records; infer_instance
theorem inv_at (K : Dev nD × Ck → ℕ) (ck : Dev nD × Ck) : (records m ρ K : sProp 𝕄) ⊢ cellInv ER (Rd m ρ) (K ck) (kcell ck) := by
  unfold records; iintro ⟨H, -⟩
  iapply (show (bigSep Finset.univ fun ck : Dev nD × Ck => (cellInv ER (Rd m ρ) (K ck) (kcell ck) : sProp 𝕄)) ⊢ cellInv ER (Rd m ρ) (K ck) (kcell ck) from bigSep_elim (Finset.mem_univ ck))
  iexact H
theorem reached_at (K : Dev nD × Ck → ℕ) (ck : Dev nD × Ck) : (records m ρ K : sProp 𝕄) ⊢ reached ER (kcell ck) 0 := by
  unfold records; iintro ⟨-, H⟩
  iapply (show (bigSep Finset.univ fun ck : Dev nD × Ck => (reached ER (kcell ck) 0 : sProp 𝕄)) ⊢ reached ER (kcell ck) 0 from bigSep_elim (Finset.mem_univ ck))
  iexact H

/-- The tokens of transfer `t`: its two duties, and the position at its send cell. -/
def outg (t : Fin 10) (c : Dev nD) : sProp 𝕄 := iprop(dutyTok ER (sendCell t c) 0 0 ∗ dutyTok ER (recvCell t (tgt t c)) 0 0 ∗ atPos ER (sendCell t c) 0 ∅ 0)
/-- What waits for transfer `t` to land. -/
def inc (t : Fin 10) (c : Dev nD) : sProp 𝕄 := iprop(atPos ER (recvCell t c) 0 ∅ 0 ∗ cred (tallyAt (recvCell t c) () (amt t)))
/-- What waits for transfer `t` to have left. -/
def snt (t : Fin 10) (c : Dev nD) : sProp 𝕄 := iprop(atPos ER (sendCell t c) 0 ∅ 0 ∗ cred (tallyAt (sendCell t c) () (amt t)))
/-- What device `c` owes, whatever it has waited on. -/
def owes' (c : Dev nD) (O : CellTallies nD τ sig Unit) : sProp 𝕄 := iprop(∃ W : Waits sig Unit, owes (c : Thread nD τ) O W)

/-! ## The rules -/

section Rules
variable (K : Dev nD × Ck → ℕ) (c : Dev nD)

/-- A signal to another device's barrier, with the landing places it hands over. -/
theorem wp_sig
    {α : Type} {Q : α → sProp 𝕄} {k : PUnit → Prog (TpuEff nD τ sig (Elt F) Λ₀ .tc) α} (n d : Dev nD) (hn : n = d) (j : Fin 3) (O₀ O : CellTallies nD τ sig Unit) (hO : O₀ = O + tallyAt (barCell d) () 1) (k1 : ℕ) (hk1 : k1 = 1) :
    iprop(records m ρ K ∗ dutyTok ER (barCell d) 0 j ∗ barPay (F := F) d j ∗ owes' c O₀)
      ⊢ iprop((owes' c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS k1) k) Q) := by
  subst hn; subst hk1
  unfold owes'
  iintro ⟨#HR, Ht, Hp, ⟨%W, HO⟩⟩ Hk
  iapply (Rounds.wp_signal 𝒱₀ ER (Rd m ρ) (c : Thread nD τ) none (dst := (n : Thread nD τ)) (sem := barS) (r := 0) (κ := K (n, none))
      (d := j) (by rw [show (((n : Thread nD τ), SemLoc.reg barS) : GSem nD τ sig) = barCell n from rfl, duties_k]; exact Finset.mem_univ _)
      ((amount_k m ρ n none j)) () O hO) $$ [HO Ht Hp]
  · isplitr; · iapply (inv_at m ρ K (n, none)); iexact HR
    isplitl [HO]; · iexact HO
    isplitl [Ht]; · iexact Ht
    isplitl [Hp]
    · iapply (Entails.of_eq (show barPay (F := F) n j = (Rd m ρ).payload ((n : Thread nD τ), SemLoc.reg barS) 0 j from (payload_k m ρ n none j).symm)); iexact Hp
    iapply (reached_at m ρ K (n, none)); iexact HR
  iintro HO
  iapply Hk; iexists W; iexact HO

/-- A transfer: its source is lent, its landing place is given up. -/
theorem wp_xfer
    {α : Type} {Q : α → sProp 𝕄} {k : PUnit → Prog (TpuEff nD τ sig (Elt F) Λ₀ .tc) α} {sp sp' : Space} {s : Shape} {e : EltTy} (t : Fin 10) (l : List (Fin 10)) (n : Dev nD) (hn : n = tgt t c)
    (src : Memref sig .tc sp s e) (dst : Memref sig .tc sp' s e) (sS sR : DmaSem sig) (hS : sS = sendSem t) (hR : sR = recvSem t)
    {hsc : (dst : Memref sig (Dev.tc n : Thread nD τ).2.kind sp' s e).view.ref.isScScratch = false}
    {hsrc : src.view.WordExact} {hdst : dst.view.WordExact}
    {hsem : DmaTarget.Typed sp (.dma sR) (.remote (Dev.tc n : Thread nD τ) dst (.dma sS) hsc)}
    (hN : dst.view.dmaCredit = amt t) (q : PosShare TreeShare) (fs : Buf (Elt F) (src.view.loc (c : Thread nD τ)))
    (hsend : (src.view.loc (c : Thread nD τ) ↦[src.view.set]{q} fs : sProp 𝕄) = sendPay m ρ t c)
    (hland : (land (F := F) t (tgt t c)) ⊢ iprop(∃ fd, (dst.view.loc (tgt t c : Thread nD τ) ↦[dst.view.set]{fullShare} fd)))
    (hrecv : ∀ fd, (dst.view.loc (tgt t c : Thread nD τ) ↦[dst.view.set]{fullShare} (dst.view.write (Elt F) fd (src.view.read (Elt F) fs) Finset.univ) : sProp 𝕄)
      ⊢ recvPay m ρ t (tgt t c)) :
    iprop(records m ρ K ∗ outg t c ∗ sendPay m ρ t c ∗ land (F := F) t (tgt t c) ∗ owes' c (owed c (t :: l)))
      ⊢ iprop((snt t c -∗ owes' c (owed c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma sS) hsc) (.dma sR) hsrc hdst hsem) k) Q) := by
  subst hn; subst hS; subst hR
  unfold owes' outg snt
  rw [← hsend]
  iintro ⟨#HR, ⟨Ht1, Ht2, Hat⟩, Hs, Hl, ⟨%W, HO⟩⟩ Hk
  ihave Hl' := hland $$ Hl
  icases Hl' with ⟨%fd, Hd⟩
  iapply (Rounds.wp_send_pointsTo 𝒱₀ ER (Rd m ρ) (c : Thread nD τ) none (κ₁ := K (c, some (false, t))) (κ₂ := K (tgt t c, some (true, t)))
    (sS := .dma (sendSem t)) (sem := .dma (recvSem t))
    (r₁ := 0) (r₂ := 0) (d₁ := 0) (d₂ := 0) (fd := fd) (fs := fs) (q := q)
    (by rw [show (((c : Thread nD τ), SemLoc.dma (sendSem t)) : GSem nD τ sig) = sendCell t c from rfl, duties_k]; exact Finset.mem_singleton_self _)
    (by rw [show (((tgt t c : Thread nD τ), SemLoc.dma (recvSem t)) : GSem nD τ sig) = recvCell t (tgt t c) from rfl, duties_k]; exact Finset.mem_singleton_self _)
    () () (amt t) hN (amount_k m ρ c (some (false, t)) 0) (amount_k m ρ (tgt t c) (some (true, t)) 0) (owed c l) rfl (W := W)
    ((Entails.of_eq hsend).trans (Entails.of_eq (payload_k m ρ c (some (false, t)) 0).symm))
    ((hrecv fd).trans (Entails.of_eq (payload_k m ρ (tgt t c) (some (true, t)) 0).symm))) $$ [Ht1 Ht2 Hs Hd HO]
  · isplitr; · iapply (inv_at m ρ K (c, some (false, t))); iexact HR
    isplitr; · iapply (inv_at m ρ K (tgt t c, some (true, t))); iexact HR
    isplitl [Hs]; · iexact Hs
    isplitl [Hd]; · iexact Hd
    isplitl [HO]; · iexact HO
    isplitl [Ht1]; · iexact Ht1
    isplitr; · iapply (reached_at m ρ K (c, some (false, t))); iexact HR
    isplitl [Ht2]; · iexact Ht2
    iapply (reached_at m ρ K (tgt t c, some (true, t))); iexact HR
  iintro ⟨Hc, HO⟩
  iapply Hk $$ [Hat Hc] [HO]
  · isplitl [Hat]; · iexact Hat
    iexact Hc
  · iexists W; iexact HO

/-- The wait on one of the device's transfer cells: the duty's payload comes back, and the cell closes at zero. -/
theorem wp_xwait
    {α : Type} {Q : α → sProp 𝕄} {k : PUnit → Prog (TpuEff nD τ sig (Elt F) Λ₀ .tc) α} {sp sp' : Space} {s s' : Shape} {e e' : EltTy} (b : Bool) (t : Fin 10) (l : List (Fin 10))
    (src : Memref sig .tc sp' s' e') (dst : Memref sig .tc sp s e) (sS : DmaSem sig) (hS : SemLoc.dma sS = csem (some (b, t)))
    {hsrc : src.view.WordExact} {hdst : dst.view.WordExact}
    (hN : dst.view.dmaCredit = amt t) (hl : ∀ u ∈ l, lvOf (some (some (b, t))) < rl u) :
    iprop(records m ρ K ∗ levAts L lv ∗ (atPos ER (kcell (c, some (b, t))) 0 ∅ 0 ∗ cred (tallyAt (kcell (c, some (b, t))) () (amt t))) ∗ owes' c (owed c l))
      ⊢ iprop((payOf m ρ (some (some (b, t))) c 0 -∗ semVal (kcell (c, some (b, t))) 0 -∗ owes' c (owed c l) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) := by
  unfold owes'
  iintro ⟨#HR, #Hlev, ⟨Hat, Hc⟩, ⟨%W, HO⟩⟩ Hk
  iapply (Rounds.wp_wait_rest_token 𝒱₀ ER (Rd m ρ) (c : Thread nD τ) none (κ := K (c, some (b, t))) (sm := csem (some (b, t))) (k' := amt t)
      (fun K' => by rw [wpE_waitDma2_eq 𝒱₀ (c : Thread nD τ) none Set.univ K', hN, hS]) (Set.mem_univ _) () (O := owed c l) (W := W) (R := 0) (m := 0) (T := ∅)
      (by rw [Nat.zero_add]; exact (expect_x m ρ c t b).symm)) $$ [Hc HO Hat]
  · isplitr; · iapply (inv_at m ρ K (c, some (b, t))); iexact HR
    isplitl [Hc]; · iexact Hc
    isplitl [HO]; · iexact HO
    isplitr; · iapply (mayWait_owed c (some (b, t)) l hl); iexact Hlev
    iexact Hat
  iintro ⟨HO, Hat, -, Hp⟩
  imod (Rounds.cell_close ER (Rd m ρ) (g := kcell (c, some (b, t))) (Set.mem_univ (K (c, some (b, t)))) (fun h => h) (R := 0 + 1) (duties_later m ρ _)) $$ [Hat] with Hz
  · isplitr; · iapply (inv_at m ρ K (c, some (b, t))); iexact HR
    iexact Hat
  iapply Hk $$ [Hp] [Hz] [HO]
  · iapply (Entails.of_eq (rest_x m ρ c t b)); iexact Hp
  · iexact Hz
  · iexists _; iexact HO

/-- The wait for a transfer to land. -/
theorem wp_rwait
    {α : Type} {Q : α → sProp 𝕄} {k : PUnit → Prog (TpuEff nD τ sig (Elt F) Λ₀ .tc) α} {sp sp' : Space} {s s' : Shape} {e e' : EltTy} (t : Fin 10) (l : List (Fin 10))
    (src : Memref sig .tc sp' s' e') (dst : Memref sig .tc sp s e) (sS : DmaSem sig) (hS : sS = recvSem t)
    {hsrc : src.view.WordExact} {hdst : dst.view.WordExact}
    (hN : dst.view.dmaCredit = amt t) (hl : ∀ u ∈ l, rl t < rl u) :
    iprop(records m ρ K ∗ levAts L lv ∗ inc t c ∗ owes' c (owed c l))
      ⊢ iprop((recvPay m ρ t c -∗ semVal (recvCell t c) 0 -∗ owes' c (owed c l) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) :=
  wp_xwait m ρ K c true t l src dst sS (by rw [hS]; rfl) hN hl

/-- The wait for a transfer to have left. -/
theorem wp_swait
    {α : Type} {Q : α → sProp 𝕄} {k : PUnit → Prog (TpuEff nD τ sig (Elt F) Λ₀ .tc) α} {sp sp' : Space} {s s' : Shape} {e e' : EltTy} (t : Fin 10)
    (src : Memref sig .tc sp' s' e') (dst : Memref sig .tc sp s e) (sS : DmaSem sig) (hS : sS = sendSem t)
    {hsrc : src.view.WordExact} {hdst : dst.view.WordExact} (hN : dst.view.dmaCredit = amt t) :
    iprop(records m ρ K ∗ levAts L lv ∗ snt t c ∗ owes' c 0)
      ⊢ iprop((sendPay m ρ t c -∗ semVal (sendCell t c) 0 -∗ owes' c 0 -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) :=
  wp_xwait m ρ K c false t [] src dst sS (by rw [hS]; rfl) hN (fun _ h => absurd h List.not_mem_nil)

/-- The wait for the three signals. -/
theorem wp_bar
    {α : Type} {Q : α → sProp 𝕄} {k : PUnit → Prog (TpuEff nD τ sig (Elt F) Λ₀ .tc) α} (k3 : ℕ) (hk3 : k3 = 3) :
    iprop(records m ρ K ∗ levAts L lv ∗ atPos ER (barCell c) 0 ∅ 0 ∗ cred (tallyAt (barCell c) () 3) ∗ owes' c (O₃ c))
      ⊢ iprop((barPay (F := F) c 0 ∗ barPay (F := F) c 1 ∗ barPay (F := F) c 2 -∗ semVal (barCell c) 0 -∗ owes' c (O₃ c) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS k3) k) Q) := by
  subst hk3
  unfold owes'
  iintro ⟨#HR, #Hlev, Hat, Hc, ⟨%W, HO⟩⟩ Hk
  iapply (Rounds.wp_wait_rest_token 𝒱₀ ER (Rd m ρ) (c : Thread nD τ) none (κ := K (c, none))
      (wpE_semWait_eq 𝒱₀ (c : Thread nD τ) none Set.univ) (Set.mem_univ _) () (O := O₃ c) (W := W) (R := 0) (m := 0) (T := ∅)
      (by rw [Nat.zero_add]; exact (expect_bar m ρ c).symm)) $$ [Hc HO Hat]
  · isplitr; · iapply (inv_at m ρ K (c, none)); iexact HR
    isplitl [Hc]; · iexact Hc
    isplitl [HO]; · iexact HO
    isplitr; · iapply (mayWait_owed c none order (by decide)); iexact Hlev
    iexact Hat
  iintro ⟨HO, Hat, -, Hp⟩
  imod (Rounds.cell_close ER (Rd m ρ) (g := barCell c) (Set.mem_univ (K (c, none))) (fun h => h) (R := 0 + 1) (duties_later m ρ _)) $$ [Hat] with Hz
  · isplitr; · iapply (inv_at m ρ K (c, none)); iexact HR
    iexact Hat
  iapply Hk $$ [Hp] [Hz] [HO]
  · iapply (Entails.of_eq (rest_bar m ρ c)); iexact Hp
  · iexact Hz
  · iexists _; iexact HO

end Rules

end Cert.KernelIdeal.Att

end
-- ==== Proof.Prog.lean ====
/-
The launch's body written out of the pieces it repeats: a load, a dead load with the store after it, a
transfer and a wait; one head of the attention, the attention of one block of positions, the projection of
one block; and the proof that the printed body is the program built of them.
-/
module

public import proofs.«01_k».proof.Proof.Vals
public import Idealize.ShloMosaic.Lib.Pipeline.Regions

@[expose] public section

noncomputable section

namespace Cert.KernelIdeal.Att

open Cert.KernelIdeal Cert.KernelIdeal.Gen
open Idealize.ShloMosaic Idealize.ShloMosaic.TcCoe
open Idealize.SL Idealize.SL.Sem

variable {F : FTy → Type} [FloatOps F]

/-- The programs of the body. -/
abbrev PR (F : FTy → Type) [FloatOps F] : Type 1 := Prog (TpuEff nD τ sig (Elt F) Λ₀ .tc) PUnit

/-! ## The buffers -/

abbrev A0 : Memref sig .tc .vmem S2x256x768 .f32 := Memref.whole cc0_stg0_0
abbrev A1 : Memref sig .tc .vmem S768x256 .f32 := Memref.whole cc0_stg1_0
abbrev A2 : Memref sig .tc .vmem S768x256 .f32 := Memref.whole cc0_stg2_0
abbrev A3 : Memref sig .tc .vmem S768x256 .f32 := Memref.whole cc0_stg3_0
abbrev A4 : Memref sig .tc .vmem S256x768 .f32 := Memref.whole cc0_stg4_0
abbrev A5 : Memref sig .tc .vmem S2x256x768 .f32 := Memref.whole cc0_stg5_0
abbrev A6 : Memref sig .tc .vmem S2x256x768 .bf16 := Memref.whole cc0_scratch0
abbrev A7 : Memref sig .tc .vmem S4x2x256x768 .bf16 := Memref.whole cc0_scratch1
abbrev A8 : Memref sig .tc .vmem S768x768 .bf16 := Memref.whole cc0_scratch2
abbrev A9 : Memref sig .tc .vmem S256x768 .bf16 := Memref.whole cc0_scratch3
abbrev A10 : Memref sig .tc .vmem S4x256x768 .bf16 := Memref.whole cc0_scratch4
abbrev A11 : Memref sig .tc .vmem S2x1024x256 .bf16 := Memref.whole cc0_scratch5
abbrev A12 : Memref sig .tc .vmem S2x1024x256 .bf16 := Memref.whole cc0_scratch6
abbrev A13 : Memref sig .tc .vmem S2x1024x256 .bf16 := Memref.whole cc0_scratch7
abbrev A14 : Memref sig .tc .vmem S4x2x256x256 .bf16 := Memref.whole cc0_scratch8
abbrev A15 : Memref sig .tc .vmem S3x2x256x256 .bf16 := Memref.whole cc0_scratch9
abbrev A16 : Memref sig .tc .vmem S1024x256 .f32 := Memref.whole cc0_scratch10
abbrev A17 : Memref sig .tc .vmem S1024x256 .f32 := Memref.whole cc0_scratch11

/-! ## The slots, as the transfers name them -/

/-- The element offsets of a slot are within the buffer. -/
theorem xg_inb (r : Fin 4) : ∀ a, (![r.val, 0, 0, 0] : Fin 4 → ℕ) a + S1x2x256x768.size a ≤ S4x2x256x768.size a := by revert r; decide
theorem xg_words (r : Fin 4) : (Rect.unit (s := S4x2x256x768) ![r.val, 0, 0, 0] S1x2x256x768.size (xg_inb r)).WholeWords (EltTy.packing .bf16) := by revert r; decide
theorem xr_inb (r : Fin 4) (b : Fin 2) : ∀ a, (![r.val, b.val, 0, 0] : Fin 4 → ℕ) a + S1x1x256x768.size a ≤ S4x2x256x768.size a := by revert r b; decide
theorem xr_words (r : Fin 4) (b : Fin 2) : (Rect.unit (s := S4x2x256x768) ![r.val, b.val, 0, 0] S1x1x256x768.size (xr_inb r b)).WholeWords (EltTy.packing .bf16) := by revert r b; decide
theorem wo_inb (r : Fin 4) : ∀ a, (![r.val, 0, 0] : Fin 3 → ℕ) a + S1x256x768.size a ≤ S4x256x768.size a := by revert r; decide
theorem wo_words (r : Fin 4) : (Rect.unit (s := S4x256x768) ![r.val, 0, 0] S1x256x768.size (wo_inb r)).WholeWords (EltTy.packing .bf16) := by revert r; decide
theorem cx_inb (r : Fin 4) : ∀ a, (![r.val, 0, 0, 0] : Fin 4 → ℕ) a + S1x2x256x256.size a ≤ S4x2x256x256.size a := by revert r; decide
theorem cx_words (r : Fin 4) : (Rect.unit (s := S4x2x256x256) ![r.val, 0, 0, 0] S1x2x256x256.size (cx_inb r)).WholeWords (EltTy.packing .bf16) := by revert r; decide
theorem rx_inb (k : Fin 3) : ∀ a, (![k.val, 0, 0, 0] : Fin 4 → ℕ) a + S1x2x256x256.size a ≤ S3x2x256x256.size a := by revert k; decide
theorem rx_words (k : Fin 3) : (Rect.unit (s := S3x2x256x256) ![k.val, 0, 0, 0] S1x2x256x256.size (rx_inb k)).WholeWords (EltTy.packing .bf16) := by revert k; decide

/-- Slot `r` of the gathered input, as a transfer names it, -/
abbrev xgM (r : Fin 4) : Memref sig .tc .vmem S2x256x768 .bf16 := (A7.slice (Rect.unit (s := S4x2x256x768) ![r.val, 0, 0, 0] S1x2x256x768.size (xg_inb r)) (fun _ => rfl)).squeeze S2x256x768 squeezes_S1x2x256x768_S2x256x768
/-- one batch row of it, -/
abbrev xrM (r : Fin 4) (b : Fin 2) : Memref sig .tc .vmem S256x768 .bf16 := (A7.slice (Rect.unit (s := S4x2x256x768) ![r.val, b.val, 0, 0] S1x1x256x768.size (xr_inb r b)) (fun _ => rfl)).squeeze S256x768 squeezes_S1x1x256x768_S256x768
/-- slot `r` of the gathered output weights, -/
abbrev woM (r : Fin 4) : Memref sig .tc .vmem S256x768 .bf16 := (A10.slice (Rect.unit (s := S4x256x768) ![r.val, 0, 0] S1x256x768.size (wo_inb r)) (fun _ => rfl)).squeeze S256x768 squeezes_S1x256x768_S256x768
/-- slot `r` of the context, -/
abbrev cxM (r : Fin 4) : Memref sig .tc .vmem S2x256x256 .bf16 := (A14.slice (Rect.unit (s := S4x2x256x256) ![r.val, 0, 0, 0] S1x2x256x256.size (cx_inb r)) (fun _ => rfl)).squeeze S2x256x256 squeezes_S1x2x256x256_S2x256x256
/-- and slot `k` of the context that lands. -/
abbrev rxM (k : Fin 3) : Memref sig .tc .vmem S2x256x256 .bf16 := (A15.slice (Rect.unit (s := S3x2x256x256) ![k.val, 0, 0, 0] S1x2x256x256.size (rx_inb k)) (fun _ => rfl)).squeeze S2x256x256 squeezes_S1x2x256x256_S2x256x256

theorem A6_we : (A6).view.WordExact := (Memref.isWhole_whole _ : A6.IsWhole).wordExact
theorem A9_we : (A9).view.WordExact := (Memref.isWhole_whole _ : A9.IsWhole).wordExact
theorem xgM_we (r : Fin 4) : (xgM r).view.WordExact := ((Memref.isWhole_whole _ : A7.IsWhole).wordExact_slice rfl _ (xg_words r)).reshape _ _
theorem xrM_we (r : Fin 4) (b : Fin 2) : (xrM r b).view.WordExact := ((Memref.isWhole_whole _ : A7.IsWhole).wordExact_slice rfl _ (xr_words r b)).reshape _ _
theorem woM_we (r : Fin 4) : (woM r).view.WordExact := ((Memref.isWhole_whole _ : A10.IsWhole).wordExact_slice rfl _ (wo_words r)).reshape _ _
theorem cxM_we (r : Fin 4) : (cxM r).view.WordExact := ((Memref.isWhole_whole _ : A14.IsWhole).wordExact_slice rfl _ (cx_words r)).reshape _ _
theorem rxM_we (k : Fin 3) : (rxM k).view.WordExact := ((Memref.isWhole_whole _ : A15.IsWhole).wordExact_slice rfl _ (rx_words k)).reshape _ _

/-! ## The single steps -/

/-- A load of a box. -/
def ld {s : Shape} {e : EltTy} (M : Memref sig .tc .vmem s e) (r : Rect s) (h : 0 < r.shape.numel) (k : (r.shape.Idx → Elt F e) → PR F) : PR F :=
  Prog.op (.load M r.toLoadRect (View.loadsAt_vmem h)) k
/-- A store into a box, after a load of it whose value is dropped. -/
def fill {s : Shape} {e : EltTy} (M : Memref sig .tc .vmem s e) (r : Rect s) (h : 0 < r.shape.numel) (w : r.shape.Idx → Elt F e) (hx : (M.access r).Stores Finset.univ) (k : PR F) : PR F :=
  Prog.op (.load M r.toLoadRect (View.loadsAt_vmem h)) fun _ => Prog.op (.store M r w Finset.univ hx (.inl rfl)) fun _ => k
/-- A transfer to another device. -/
def snd {s : Shape} (src dst : Memref sig .tc .vmem s .bf16) (n : Dev nD) (sS sR : DmaSem sig) (hs : src.view.WordExact) (hd : dst.view.WordExact) (k : PR F) : PR F :=
  Prog.op (.enqueueDma src (.remote (Dev.tc n) dst (.dma sS)) (.dma sR) hs hd ⟨⟨rfl, Or.inl rfl⟩, trivial⟩) fun _ => k
/-- A wait for a transfer. -/
def wt {s : Shape} (sm : DmaSem sig) (src dst : Memref sig .tc .vmem s .bf16) (hs : src.view.WordExact) (hd : dst.view.WordExact) (k : PR F) : PR F :=
  Prog.op (.waitDma2 sm src dst hs hd) fun _ => k

/-- Transfer `t`'s send semaphore, as the body slices it. -/
abbrev ss4 (A : DmaSems sig S4) (k : Fin 4) (h : ∀ a, (![k.val] : Fin 1 → ℕ) a + S1.size a ≤ S4.size a := by decide) : DmaSem sig := ((A.slice (Rect.unit (s := S4) ![k.val] S1.size h)).squeeze S_ squeezes_S1_S_).sem
abbrev ss3 (A : DmaSems sig S3) (k : Fin 3) (h : ∀ a, (![k.val] : Fin 1 → ℕ) a + S1.size a ≤ S3.size a := by decide) : DmaSem sig := ((A.slice (Rect.unit (s := S3) ![k.val] S1.size h)).squeeze S_ squeezes_S1_S_).sem

/-- The send semaphores of the transfers, -/
def sSem : Fin 10 → DmaSem sig := ![ss4 cc0_scratch12 0, ss4 cc0_scratch12 1, ss4 cc0_scratch12 2, ss4 cc0_scratch12 3, ss3 cc0_scratch14 0, ss3 cc0_scratch14 1, ss3 cc0_scratch14 2, ss3 cc0_scratch16 0, ss3 cc0_scratch16 1, ss3 cc0_scratch16 2]
/-- and the receive semaphores. -/
def rSem : Fin 10 → DmaSem sig := ![ss4 cc0_scratch13 0, ss4 cc0_scratch13 1, ss4 cc0_scratch13 2, ss4 cc0_scratch13 3, ss3 cc0_scratch15 0, ss3 cc0_scratch15 1, ss3 cc0_scratch15 2, ss3 cc0_scratch17 0, ss3 cc0_scratch17 1, ss3 cc0_scratch17 2]

/-! ## The attention of one block of positions -/

theorem kv_inb (b : Fin 2) (h : Fin 4) : ∀ a, (![b.val, 0, 64 * h.val] : Fin 3 → ℕ) a + S1x1024x64.size a ≤ S2x1024x256.size a := by revert b h; decide
theorem ca_inb (r : Fin 4) (b : Fin 2) (h : Fin 4) : ∀ a, (![r.val, b.val, 0, 64 * h.val] : Fin 4 → ℕ) a + S1x1x256x64.size a ≤ S4x2x256x256.size a := by revert r b h; decide
theorem ca_packed (r : Fin 4) (b : Fin 2) (h : Fin 4) : (Rect.unit (s := S4x2x256x256) ![r.val, b.val, 0, 64 * h.val] S1x1x256x64.size (ca_inb r b h)).PackedRows (EltTy.packing .bf16) := by revert r b h; decide

/-- One head: its queries at `off`, its keys and values, and the store of its attention. -/
def headP (off : Fin 3 → ℕ) (hi : ∀ a, off a + S1x256x64.size a ≤ S2x1024x256.size a) (r : Fin 4) (b : Fin 2) (h : Fin 4) (k : PR F) : PR F :=
  ld A11 (Rect.unit (s := S2x1024x256) off S1x256x64.size hi) h_S1x256x64 fun q =>
  ld A12 (Rect.unit (s := S2x1024x256) ![b.val, 0, 64 * h.val] S1x1024x64.size (kv_inb b h)) h_S1x1024x64 fun kk =>
  ld A13 (Rect.unit (s := S2x1024x256) ![b.val, 0, 64 * h.val] S1x1024x64.size (kv_inb b h)) h_S1x1024x64 fun vv =>
  fill A14 (Rect.unit (s := S4x2x256x256) ![r.val, b.val, 0, 64 * h.val] S1x1x256x64.size (ca_inb r b h)) h_S1x1x256x64 (k0_pay55 q kk vv)
    (View.stores_vmem h_S1x1x256x64 ((Memref.isWhole_whole _ : A14.IsWhole).storeExact_slice rfl _ (ca_packed r b h)) (fun _ => rfl)) k

/-- The word the body names a block by: the device's own block by four, the others by the distance to them. -/
abbrev wd (ri : Fin 4) : BitVec 32 := BitVec.ofNat 32 (1 + ri.val)

/-- All the heads at one block of positions. -/
def attnP (d0 : Dev nD) (ri : Fin 4) (r : Fin 4) (k : PR F) : PR F :=
  headP (k0_off4 d0 (wd ri)) (k0_off4_inb d0 ri) r 0 0 <|
  headP (k0_off5 d0 (wd ri)) (k0_off5_inb d0 ri) r 0 1 <|
  headP (k0_off6 d0 (wd ri)) (k0_off6_inb d0 ri) r 0 2 <|
  headP (k0_off7 d0 (wd ri)) (k0_off7_inb d0 ri) r 0 3 <|
  headP (k0_off8 d0 (wd ri)) (k0_off8_inb d0 ri) r 1 0 <|
  headP (k0_off9 d0 (wd ri)) (k0_off9_inb d0 ri) r 1 1 <|
  headP (k0_off10 d0 (wd ri)) (k0_off10_inb d0 ri) r 1 2 <|
  headP (k0_off11 d0 (wd ri)) (k0_off11_inb d0 ri) r 1 3 k

/-! ## The projection of one block of positions -/

/-- The stores of the queries, keys and values of one batch row of a block. -/
def fill3 (off : Fin 3 → ℕ) (hi : ∀ a, off a + S1x256x256.size a ≤ S2x1024x256.size a) (hp : (Rect.unit (s := S2x1024x256) off S1x256x256.size hi).PackedRows (EltTy.packing .bf16))
    (q kk vv : Vec F S1x256x256 .bf16) (k : PR F) : PR F :=
  fill A11 (Rect.unit (s := S2x1024x256) off S1x256x256.size hi) h_S1x256x256 q (View.stores_vmem h_S1x256x256 ((Memref.isWhole_whole _ : A11.IsWhole).storeExact_slice rfl _ hp) (fun _ => rfl)) <|
  fill A12 (Rect.unit (s := S2x1024x256) off S1x256x256.size hi) h_S1x256x256 kk (View.stores_vmem h_S1x256x256 ((Memref.isWhole_whole _ : A12.IsWhole).storeExact_slice rfl _ hp) (fun _ => rfl)) <|
  fill A13 (Rect.unit (s := S2x1024x256) off S1x256x256.size hi) h_S1x256x256 vv (View.stores_vmem h_S1x256x256 ((Memref.isWhole_whole _ : A13.IsWhole).storeExact_slice rfl _ hp) (fun _ => rfl)) k

/-- A load of all the weights. -/
def ldW (k : Vec F S768x768 .bf16 → PR F) : PR F := ld A8 (Rect.unit (s := S768x768) ![0, 0] S768x768.size inb_S768x768_S768x768_0_0) h_S768x768 k
/-- A load of one batch row of the own block. -/
def ldX0 (b : Fin 2) (hi : ∀ a, (![b.val, 0, 0] : Fin 3 → ℕ) a + S1x256x768.size a ≤ S2x256x768.size a) (k : Vec F S1x256x768 .bf16 → PR F) : PR F := ld A6 (Rect.unit (s := S2x256x768) ![b.val, 0, 0] S1x256x768.size hi) h_S1x256x768 k
/-- A load of one batch row of a gathered block. -/
def ldXR (r : Fin 4) (b : Fin 2) (k : Vec F S1x1x256x768 .bf16 → PR F) : PR F := ld A7 (Rect.unit (s := S4x2x256x768) ![r.val, b.val, 0, 0] S1x1x256x768.size (xr_inb r b)) h_S1x1x256x768 k
/-- A load of a block of the tables. -/
def ldT (M : Memref sig .tc .vmem S1024x256 .f32) (d0 : Dev nD) (ri : Fin 4) (k : Vec F S256x256 .f32 → PR F) : PR F :=
  ld M (Rect.unit (s := S1024x256) (k0_off1 d0 (wd ri)) S256x256.size (k0_off1_inb d0 ri)) h_S256x256 k

/-- The projection of the own block. -/
def proj0P (d0 : Dev nD) (k : PR F) : PR F :=
  ldT A16 d0 3 fun cs => ldT A17 d0 3 fun sn =>
  ldX0 0 inb_S2x256x768_S1x256x768_0_0_0 fun x0 => ldW fun w0 =>
  fill3 (k0_off2 d0 (wd 3)) (k0_off2_inb d0 3) (k0_off2_packedbf16 d0 3) (k0_pay25 RMAT cs sn x0 w0) (k0_pay26 RMAT cs sn x0 w0) (k0_pay27 x0 w0) <|
  ldX0 1 inb_S2x256x768_S1x256x768_1_0_0 fun x1 => ldW fun w1 =>
  fill3 (k0_off3 d0 (wd 3)) (k0_off3_inb d0 3) (k0_off3_packedbf16 d0 3) (k0_pay25 RMAT cs sn x1 w1) (k0_pay26 RMAT cs sn x1 w1) (k0_pay27 x1 w1) k
/-- The projection of a gathered block. -/
def projP (d0 : Dev nD) (ri r : Fin 4) (k : PR F) : PR F :=
  ldT A16 d0 ri fun cs => ldT A17 d0 ri fun sn =>
  ldXR r 0 fun x0 => ldW fun w0 =>
  fill3 (k0_off2 d0 (wd ri)) (k0_off2_inb d0 ri) (k0_off2_packedbf16 d0 ri) (k0_pay29 RMAT cs sn x0 w0) (k0_pay40 RMAT cs sn x0 w0) (k0_pay46 x0 w0) <|
  ldXR r 1 fun x1 => ldW fun w1 =>
  fill3 (k0_off3 d0 (wd ri)) (k0_off3_inb d0 ri) (k0_off3_packedbf16 d0 ri) (k0_pay29 RMAT cs sn x1 w1) (k0_pay40 RMAT cs sn x1 w1) (k0_pay46 x1 w1) k

/-! ## The result -/

theorem o_inb (b : Fin 2) : ∀ a, (![b.val, 0, 0] : Fin 3 → ℕ) a + S1x256x768.size a ≤ S2x256x768.size a := by revert b; decide
theorem c0_inb (b : Fin 2) : ∀ a, (![0, b.val, 0, 0] : Fin 4 → ℕ) a + S1x1x256x256.size a ≤ S4x2x256x256.size a := by revert b; decide
theorem rb_inb (k : Fin 3) (b : Fin 2) : ∀ a, (![k.val, b.val, 0, 0] : Fin 4 → ℕ) a + S1x1x256x256.size a ≤ S3x2x256x256.size a := by revert k b; decide

/-- The own partial product of one batch row. -/
def ownP (b : Fin 2) (k : PR F) : PR F :=
  ld A14 (Rect.unit (s := S4x2x256x256) ![0, b.val, 0, 0] S1x1x256x256.size (c0_inb b)) h_S1x1x256x256 fun x =>
  ld A9 (Rect.unit (s := S256x768) ![0, 0] S256x768.size inb_S256x768_S256x768_0_0) h_S256x768 fun w =>
  fill A5 (Rect.unit (s := S2x256x768) ![b.val, 0, 0] S1x256x768.size (o_inb b)) h_S1x256x768 (k0_pay117 x w) (View.stores_vmem_bits_univ h_S1x256x768 rfl) k
/-- The addition of one landed partial product of one batch row. -/
def accP (kx : Fin 3) (s : Fin 4) (b : Fin 2) (k : PR F) : PR F :=
  ld A5 (Rect.unit (s := S2x256x768) ![b.val, 0, 0] S1x256x768.size (o_inb b)) h_S1x256x768 fun o =>
  ld A15 (Rect.unit (s := S3x2x256x256) ![kx.val, b.val, 0, 0] S1x1x256x256.size (rb_inb kx b)) h_S1x1x256x256 fun x =>
  ld A10 (Rect.unit (s := S4x256x768) ![s.val, 0, 0] S1x256x768.size (wo_inb s)) h_S1x256x768 fun w =>
  fill A5 (Rect.unit (s := S2x256x768) ![b.val, 0, 0] S1x256x768.size (o_inb b)) h_S1x256x768 (k0_pay120 o x w) (View.stores_vmem_bits_univ h_S1x256x768 rfl) k
/-- The wait for one landing context, and its additions. -/
def acc2P (t : Fin 10) (kx : Fin 3) (s : Fin 4) (k : PR F) : PR F :=
  wt (rSem t) (cxM 0) (rxM kx) (cxM_we 0) (rxM_we kx) <| accP kx s 0 <| accP kx s 1 k

/-! ## The body -/

/-- The three signals and the wait for three. -/
def barP (d0 : Dev nD) (k : PR F) : PR F :=
  (semSignalWord (⟨k0_dev1 d0, k0_dev1_lt d0⟩ : Dev nD) (SemArray.scalar (sig.barrier 0 rfl) : Sems sig S_).sem 1#32).bind fun _ =>
  (semSignalWord (⟨k0_dev2 d0, k0_dev2_lt d0⟩ : Dev nD) (SemArray.scalar (sig.barrier 0 rfl) : Sems sig S_).sem 1#32).bind fun _ =>
  (semSignalWord (⟨k0_dev3 d0, k0_dev3_lt d0⟩ : Dev nD) (SemArray.scalar (sig.barrier 0 rfl) : Sems sig S_).sem 1#32).bind fun _ =>
  (semWaitWord (SemArray.scalar (sig.barrier 0 rfl) : Sems sig S_).sem 3#32).bind fun _ => k

/-- The narrowing of the own blocks, their first transfers, the weights and the tables. -/
def preP (d0 : Dev nD) (k : PR F) : PR F :=
  ld A0 (Rect.unit (s := S2x256x768) ![0, 0, 0] S2x256x768.size inb_S2x256x768_S2x256x768_0_0_0) h_S2x256x768 fun x =>
  fill A6 (Rect.unit (s := S2x256x768) ![0, 0, 0] S2x256x768.size inb_S2x256x768_S2x256x768_0_0_0) h_S2x256x768 (k0_pay1 x) (View.stores_vmem h_S2x256x768 ((Memref.isWhole_whole _ : A6.IsWhole).storeExact_slice rfl _ packedbf16_S2x256x768_S2x256x768_0_0_0) (fun _ => rfl)) <|
  snd A6 (xgM 1) ⟨k0_dev4 d0, k0_dev4_lt d0⟩ (sSem 0) (rSem 0) A6_we (xgM_we 1) <|
  snd A6 (xgM 3) ⟨k0_dev5 d0, k0_dev5_lt d0⟩ (sSem 1) (rSem 1) A6_we (xgM_we 3) <|
  ld A4 (Rect.unit (s := S256x768) ![0, 0] S256x768.size inb_S256x768_S256x768_0_0) h_S256x768 fun w =>
  fill A9 (Rect.unit (s := S256x768) ![0, 0] S256x768.size inb_S256x768_S256x768_0_0) h_S256x768 (k0_pay2 w) (View.stores_vmem h_S256x768 ((Memref.isWhole_whole _ : A9.IsWhole).storeExact_slice rfl _ packedbf16_S256x768_S256x768_0_0) (fun _ => rfl)) <|
  snd A9 (woM 1) ⟨k0_dev6 d0, k0_dev6_lt d0⟩ (sSem 4) (rSem 4) A9_we (woM_we 1) <|
  snd A9 (woM 3) ⟨k0_dev7 d0, k0_dev7_lt d0⟩ (sSem 5) (rSem 5) A9_we (woM_we 3) <|
  ld A1 (Rect.unit (s := S768x256) ![0, 0] S768x256.size inb_S768x256_S768x256_0_0) h_S768x256 fun w1 =>
  fill A8 (Rect.unit (s := S768x768) ![0, 0] S768x256.size inb_S768x768_S768x256_0_0) h_S768x256 (k0_pay3 w1) (View.stores_vmem h_S768x256 ((Memref.isWhole_whole _ : A8.IsWhole).storeExact_slice rfl _ packedbf16_S768x768_S768x256_0_0) (fun _ => rfl)) <|
  ld A2 (Rect.unit (s := S768x256) ![0, 0] S768x256.size inb_S768x256_S768x256_0_0) h_S768x256 fun w2 =>
  fill A8 (Rect.unit (s := S768x768) ![0, 256] S768x256.size inb_S768x768_S768x256_0_256) h_S768x256 (k0_pay4 w2) (View.stores_vmem h_S768x256 ((Memref.isWhole_whole _ : A8.IsWhole).storeExact_slice rfl _ packedbf16_S768x768_S768x256_0_256) (fun _ => rfl)) <|
  ld A3 (Rect.unit (s := S768x256) ![0, 0] S768x256.size inb_S768x256_S768x256_0_0) h_S768x256 fun w3 =>
  fill A8 (Rect.unit (s := S768x768) ![0, 512] S768x256.size inb_S768x768_S768x256_0_512) h_S768x256 (k0_pay5 w3) (View.stores_vmem h_S768x256 ((Memref.isWhole_whole _ : A8.IsWhole).storeExact_slice rfl _ packedbf16_S768x768_S768x256_0_512) (fun _ => rfl)) <|
  fill A16 (Rect.unit (s := S1024x256) ![0, 0] S1024x256.size inb_S1024x256_S1024x256_0_0) h_S1024x256 (COS (F := F)) (View.stores_vmem_bits_univ h_S1024x256 rfl) <|
  fill A17 (Rect.unit (s := S1024x256) ![0, 0] S1024x256.size inb_S1024x256_S1024x256_0_0) h_S1024x256 (SIN (F := F)) (View.stores_vmem_bits_univ h_S1024x256 rfl) k

/-- The gathering of the blocks and the projections. -/
def gatP (d0 : Dev nD) (k : PR F) : PR F :=
  proj0P d0 <|
  wt (rSem 0) A6 (xgM 1) A6_we (xgM_we 1) <|
  snd (xrM 1 0) (xrM 2 0) ⟨k0_dev8 d0, k0_dev8_lt d0⟩ (sSem 2) (rSem 2) (xrM_we 1 0) (xrM_we 2 0) <|
  wt (rSem 1) A6 (xgM 3) A6_we (xgM_we 3) <|
  snd (xrM 3 1) (xrM 2 1) ⟨k0_dev9 d0, k0_dev9_lt d0⟩ (sSem 3) (rSem 3) (xrM_we 3 1) (xrM_we 2 1) <|
  projP d0 2 1 <| projP d0 0 3 <|
  wt (rSem 4) A9 (woM 1) A9_we (woM_we 1) <|
  snd (woM 1) (woM 2) ⟨k0_dev10 d0, k0_dev10_lt d0⟩ (sSem 6) (rSem 6) (woM_we 1) (woM_we 2) <|
  wt (rSem 2) (xrM 1 0) (xrM 2 0) (xrM_we 1 0) (xrM_we 2 0) <|
  wt (rSem 3) (xrM 3 1) (xrM 2 1) (xrM_we 3 1) (xrM_we 2 1) <|
  projP d0 1 2 k

/-- The attention, each block sent to its device when it is ready. -/
def attP (d0 : Dev nD) (k : PR F) : PR F :=
  attnP d0 1 2 <| snd (cxM 2) (rxM 2) ⟨k0_dev11 d0, k0_dev11_lt d0⟩ (sSem 9) (rSem 9) (cxM_we 2) (rxM_we 2) <|
  attnP d0 2 1 <| snd (cxM 1) (rxM 1) ⟨k0_dev12 d0, k0_dev12_lt d0⟩ (sSem 8) (rSem 8) (cxM_we 1) (rxM_we 1) <|
  attnP d0 0 3 <| snd (cxM 3) (rxM 0) ⟨k0_dev13 d0, k0_dev13_lt d0⟩ (sSem 7) (rSem 7) (cxM_we 3) (rxM_we 0) <|
  attnP d0 3 0 k

/-- The result. -/
def outP (k : PR F) : PR F :=
  wt (rSem 5) A9 (woM 3) A9_we (woM_we 3) <|
  wt (rSem 6) (woM 1) (woM 2) (woM_we 1) (woM_we 2) <|
  ownP 0 <| ownP 1 <| acc2P 7 0 1 <| acc2P 9 2 2 <| acc2P 8 1 3 k

/-- The waits for the transfers to have left. -/
def finP : PR F :=
  wt (sSem 0) (xgM 1) A6 (xgM_we 1) A6_we <|
  wt (sSem 1) (xgM 3) A6 (xgM_we 3) A6_we <|
  wt (sSem 2) (xrM 2 0) (xrM 1 0) (xrM_we 2 0) (xrM_we 1 0) <|
  wt (sSem 3) (xrM 2 1) (xrM 3 1) (xrM_we 2 1) (xrM_we 3 1) <|
  wt (sSem 4) (woM 1) A9 (woM_we 1) A9_we <|
  wt (sSem 5) (woM 3) A9 (woM_we 3) A9_we <|
  wt (sSem 6) (woM 2) (woM 1) (woM_we 2) (woM_we 1) <|
  wt (sSem 9) (rxM 2) (cxM 2) (rxM_we 2) (cxM_we 2) <|
  wt (sSem 8) (rxM 1) (cxM 1) (rxM_we 1) (cxM_we 1) <|
  wt (sSem 7) (rxM 0) (cxM 3) (rxM_we 0) (cxM_we 3) <| Prog.ret ⟨⟩

/-- The body. -/
def mainP : PR F := Prog.op .deviceId fun d0 => barP d0 <| preP d0 <| gatP d0 <| attP d0 <| outP finP

theorem body_eq : cc0__body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch12 cc0_scratch13 cc0_scratch14 cc0_scratch15 cc0_scratch16 cc0_scratch17 = mainP := by
  chain_rfl

end Cert.KernelIdeal.Att

end
-- ==== Proof.Steps.lean ====
/-
One rule for each piece of the body: a load of known contents, a store that extends what is known of a
buffer, a head of the attention, the attention and the projection of a block of positions, and the additions
into the result.
-/
module

public import proofs.«01_k».proof.Proof.Proto
public import proofs.«01_k».proof.Proof.Prog
public import Idealize.ShloMosaic.Lib.ValueLayout
public import Idealize.ShloMosaic.Lib.ViewIndex

@[expose] public section

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The weakest precondition of a program of device `c`. -/
abbrev WP (c : Dev nD) (p : PR F) (Q : PUnit → sProp 𝕄) : sProp 𝕄 := wp frame (wpE (defs₀ (F := F)) 𝒱₀ (c : Thread nD τ) none) Set.univ p Q

/-! ## Loads and stores of a box -/

theorem rect_mem {s : Shape} {r : Rect s} {i : s.Idx} (h : i ∈ r.set) : ∃ x, r.emb x = i := by
  rw [← Rect.map_emb_univ] at h
  obtain ⟨x, -, hx⟩ := Finset.mem_map.mp h
  exact ⟨x, hx⟩

/-- A load of known contents. -/
theorem wp_ld {Q : PUnit → sProp 𝕄} {s : Shape} {e : EltTy} (c : Dev nD) (M : Memref sig .tc .vmem s e) (r : Rect s) (h : 0 < r.shape.numel) {k : (r.shape.Idx → Elt F e) → PR F}
    (S : Finset (Idx (M.view.loc (c : Thread nD τ)))) (q : PosShare TreeShare) (f : Buf (Elt F) (M.view.loc (c : Thread nD τ))) (v : r.shape.Idx → Elt F e)
    (hS : ∀ x, M.view.emb (r.emb x) ∈ S) (hv : ∀ x, M.view.read (Elt F) f (r.emb x) = v x) :
    (M.view.loc (c : Thread nD τ) ↦[S]{q} f) ⊢ iprop(((M.view.loc (c : Thread nD τ) ↦[S]{q} f) -∗ WP c (k v) Q) -∗ WP c (ld M r h k) Q) := by
  unfold ld
  have e : M.view.readAt (Elt F) r.toLoadRect f = v := funext hv
  have hs : M.view.setOn r.toLoadRect.set ⊆ S := by
    intro i hi
    obtain ⟨x, hx, rfl⟩ := Finset.mem_map.mp hi
    obtain ⟨y, rfl⟩ := rect_mem hx
    exact hS y
  subst e
  exact wp_load 𝒱₀ (defs := defs₀ (F := F)) (c : Thread nD τ) none Set.univ (m := M) (r := r.toLoadRect) (hl := View.loadsAt_vmem h) (k := k) (Q := Q) (q := q) (f := f) hs

/-- What is known of the elements `S` of a buffer: the elements in `P` hold `T`. -/
def part (c : Dev nD) {s : Shape} {e : EltTy} (M : Memref sig .tc .vmem s e) (S : Finset (Idx (M.view.loc (c : Thread nD τ)))) (P : Idx (M.view.loc (c : Thread nD τ)) → Prop)
    (T : Buf (Elt F) (M.view.loc (c : Thread nD τ))) : sProp 𝕄 :=
  iprop(∃ f : {f : Buf (Elt F) (M.view.loc (c : Thread nD τ)) // ∀ i, P i → f i = T i}, (M.view.loc (c : Thread nD τ) ↦[S]{fullShare} f.1))

theorem part_start (c : Dev nD) {s : Shape} {e : EltTy} (M : Memref sig .tc .vmem s e) (S : Finset (Idx (M.view.loc (c : Thread nD τ)))) (P : Idx (M.view.loc (c : Thread nD τ)) → Prop)
    (T f : Buf (Elt F) (M.view.loc (c : Thread nD τ))) (hP : ∀ i, P i → f i = T i) :
    (M.view.loc (c : Thread nD τ) ↦[S]{fullShare} f : sProp 𝕄) ⊢ part c M S P T := by
  unfold part; iintro H; iexists ⟨f, hP⟩; iexact H

theorem part_done (c : Dev nD) {s : Shape} {e : EltTy} (M : Memref sig .tc .vmem s e) (S : Finset (Idx (M.view.loc (c : Thread nD τ)))) (P : Idx (M.view.loc (c : Thread nD τ)) → Prop)
    (T : Buf (Elt F) (M.view.loc (c : Thread nD τ))) (hP : ∀ i ∈ S, P i) :
    (part c M S P T : sProp 𝕄) ⊢ (M.view.loc (c : Thread nD τ) ↦[S]{fullShare} T) := by
  unfold part; iintro ⟨%f, H⟩
  iapply (Entails.of_eq (pointsTo_congr (fun i hi => f.2 i (hP i hi)))); iexact H

/-- A store into a box extends what is known. -/
theorem wp_fill {Q : PUnit → sProp 𝕄} {s : Shape} {e : EltTy} (c : Dev nD) (M : Memref sig .tc .vmem s e) (r : Rect s) (h : 0 < r.shape.numel) (w : r.shape.Idx → Elt F e)
    (hx : (M.access r).Stores Finset.univ) {k : PR F}
    (S : Finset (Idx (M.view.loc (c : Thread nD τ)))) (P P' : Idx (M.view.loc (c : Thread nD τ)) → Prop) (T T' : Buf (Elt F) (M.view.loc (c : Thread nD τ)))
    (hS : ∀ x, M.view.emb (r.emb x) ∈ S) (hw : ∀ x, w x = M.view.read (Elt F) T' (r.emb x))
    (hP : ∀ i, P' i → (P i ∧ T i = T' i) ∨ ∃ x, M.view.emb (r.emb x) = i) :
    (part c M S P T) ⊢ iprop((part c M S P' T' -∗ WP c k Q) -∗ WP c (fill M r h w hx k) Q) := by
  unfold fill part
  have hs : M.view.setOn r.toLoadRect.set ⊆ S := by
    intro i hi
    obtain ⟨x, hx, rfl⟩ := Finset.mem_map.mp hi
    obtain ⟨y, rfl⟩ := rect_mem hx
    exact hS y
  have hs' : (M.access r).setOn Finset.univ ⊆ S := by
    intro i hi
    obtain ⟨x, hx, rfl⟩ := Finset.mem_map.mp hi
    exact hS x
  iintro ⟨%f, H⟩ Hk
  iapply (wp_load 𝒱₀ (defs := defs₀ (F := F)) (c : Thread nD τ) none Set.univ (m := M) (r := r.toLoadRect) (q := fullShare) (f := f.1) hs) $$ [H]
  · iexact H
  iintro H
  iapply (wp_store 𝒱₀ (defs := defs₀ (F := F)) (c : Thread nD τ) none Set.univ (m := M) (r := r) (w := w) (hx := hx) (f := f.1) hs') $$ [H]
  · iexact H
  iintro H
  iapply Hk
  iexists ⟨(M.access r).write (Elt F) f.1 w Finset.univ, fun i hi => by
    by_cases hm : i ∈ (M.access r).setOn Finset.univ
    · obtain ⟨x, hx, rfl⟩ := Finset.mem_map.mp hm
      rw [View.write_emb_of_mem _ _ (Finset.mem_univ x), hw x, View.read_apply]
      exact (cast_cast _ _ _).trans (cast_eq _ _)
    · rw [View.write_of_not_mem _ _ _ hm]
      rcases hP i hi with ⟨h1, h2⟩ | ⟨x, rfl⟩
      · rw [f.2 i h1, h2]
      · exact absurd (Finset.mem_map_of_mem (M.access r).emb (Finset.mem_univ x)) hm⟩
  iexact H

/-- An index within a box of unit strides is one the box names. -/
theorem in_unit {s : Shape} {off size : Fin s.rank → ℕ} {inb} {i : s.Idx} (h : ∀ a, off a ≤ (i a).val ∧ (i a).val < off a + size a) :
    ∃ x, (Rect.unit (s := s) off size inb).emb x = i := by
  exact rect_mem ((Rect.mem_set_unit (inb := inb)).mpr h)

/-- Contents at two indices with the same coordinates are the same, at rank two, -/
theorem at2 {α : Type} {d : Fin 2 → ℕ} (f : (⟨2, d⟩ : Shape).Idx → α) {i j : (⟨2, d⟩ : Shape).Idx} (h0 : (i 0).val = (j 0).val) (h1 : (i 1).val = (j 1).val) : f i = f j :=
  congrArg f (funext fun k => by match k with | 0 => exact Fin.ext h0 | 1 => exact Fin.ext h1)
/-- three, -/
theorem at3 {α : Type} {d : Fin 3 → ℕ} (f : (⟨3, d⟩ : Shape).Idx → α) {i j : (⟨3, d⟩ : Shape).Idx} (h0 : (i 0).val = (j 0).val) (h1 : (i 1).val = (j 1).val) (h2 : (i 2).val = (j 2).val) : f i = f j :=
  congrArg f (funext fun k => by match k with | 0 => exact Fin.ext h0 | 1 => exact Fin.ext h1 | 2 => exact Fin.ext h2)
/-- and four. -/
theorem at4 {α : Type} {d : Fin 4 → ℕ} (f : (⟨4, d⟩ : Shape).Idx → α) {i j : (⟨4, d⟩ : Shape).Idx} (h0 : (i 0).val = (j 0).val) (h1 : (i 1).val = (j 1).val) (h2 : (i 2).val = (j 2).val)
    (h3 : (i 3).val = (j 3).val) : f i = f j :=
  congrArg f (funext fun k => by match k with | 0 => exact Fin.ext h0 | 1 => exact Fin.ext h1 | 2 => exact Fin.ext h2 | 3 => exact Fin.ext h3)

theorem emb_unit {s : Shape} {off size : Fin s.rank → ℕ} {inb} (x) (a : Fin s.rank) : ((Rect.unit (s := s) off size inb).emb x a).val = off a + (x a).val := by
  rw [Rect.emb_apply]; simp

/-! ## The attention of one block of positions -/

variable (m : (ℓ : Loc nD τ sig) → Buf (Elt F) ℓ) (ρ : Dev nD → PrngReg)

/-- The queries, keys and values, complete. -/
def qkv (c : Dev nD) : sProp 𝕄 :=
  iprop(((c : Thread nD τ).loc cc0_scratch5 ↦{fullShare} (QP m ρ c : Vec F S2x1024x256 .bf16)) ∗ ((c : Thread nD τ).loc cc0_scratch6 ↦{fullShare} (KP m ρ c : Vec F S2x1024x256 .bf16))
    ∗ ((c : Thread nD τ).loc cc0_scratch7 ↦{fullShare} (VP m ρ c : Vec F S2x1024x256 .bf16)))

/-- The block of positions slot `r` is at. -/
abbrev blk (c : Dev nD) (r : Fin 4) : ℕ := (c.val + (4 - r.val)) % 4

/-- Slot `r` of the context with its first `n` heads done. -/
def partC (c : Dev nD) (r : Fin 4) (n : ℕ) : sProp 𝕄 :=
  part c A14 (cxS r.val) (fun i : S4x2x256x256.Idx => (i 0).val = r.val ∧ 4 * (i 1).val + (i 3).val / 64 < n) (CTXA m ρ c : Vec F S4x2x256x256 .bf16)

/-- The context at an index of the box one head is stored into. -/
theorem CTXA_at (c : Dev nD) (i : S4x2x256x256.Idx) (b : Fin 2) (h d : ℕ) (x : S1x1x256x64.Idx) (h0 : (c.val + (4 - (i 0).val)) % 4 = d) (h1 : (i 1).val = b.val) (h2 : (i 2).val = (x 2).val)
    (h3 : (i 3).val = 64 * h + (x 3).val) : head m ρ c d b h x = CTXA m ρ c i := by
  have hx0 : (x 0).val < 1 := (x 0).isLt; have hx1 : (x 1).val < 1 := (x 1).isLt; have hx3 : (x 3).val < 64 := (x 3).isLt
  obtain rfl : i 1 = b := Fin.ext h1
  obtain rfl : h = (i 3).val / 64 := by omega
  subst h0
  exact at4 (head m ρ c _ (i 1) _) (by simp; omega) (by simp; omega) h2.symm (by simp; omega)

theorem wp_headP {Q : PUnit → sProp 𝕄} {k : PR F} (c : Dev nD) (off : Fin 3 → ℕ) (hi : ∀ a, off a + S1x256x64.size a ≤ S2x1024x256.size a) (r : Fin 4) (b : Fin 2) (h : Fin 4)
    (hoff : off = ![b.val, 256 * blk c r, 64 * h.val]) :
    iprop(qkv m ρ c ∗ partC m ρ c r (4 * b.val + h.val)) ⊢ iprop((qkv m ρ c -∗ partC m ρ c r (4 * b.val + h.val + 1) -∗ WP c k Q) -∗ WP c (headP off hi r b h k) Q) := by
  subst hoff
  have hc := c.isLt; have hr := r.isLt; have hb := b.isLt; have hh := h.isLt
  have hd : blk c r < 4 := Nat.mod_lt _ (by decide)
  unfold headP qkv partC
  iintro ⟨⟨Hq, Hk, Hv⟩, Hc⟩ Hn
  iapply (wp_ld c A11 (Rect.unit (s := S2x1024x256) ![b.val, 256 * blk c r, 64 * h.val] S1x256x64.size hi) h_S1x256x64 Finset.univ fullShare (QP m ρ c : Vec F S2x1024x256 .bf16) (qH m ρ c (blk c r) b h.val)
    (fun x => Finset.mem_univ _) (fun x => by
      have h0 : (x 0).val < 1 := (x 0).isLt; have h1 : (x 1).val < 256 := (x 1).isLt; have h2 : (x 2).val < 64 := (x 2).isLt
      exact at3 (QP m ρ c) ((emb_unit (inb := hi) x 0).trans (by simp; omega)) ((emb_unit (inb := hi) x 1).trans (by simp; omega)) ((emb_unit (inb := hi) x 2).trans (by simp; omega)))) $$ [Hq]
  · iexact Hq
  iintro Hq
  iapply (wp_ld c A12 (Rect.unit (s := S2x1024x256) ![b.val, 0, 64 * h.val] S1x1024x64.size (kv_inb b h)) h_S1x1024x64 Finset.univ fullShare (KP m ρ c : Vec F S2x1024x256 .bf16) (kH m ρ c b h.val)
    (fun x => Finset.mem_univ _) (fun x => by
      have h0 : (x 0).val < 1 := (x 0).isLt; have h1 : (x 1).val < 1024 := (x 1).isLt; have h2 : (x 2).val < 64 := (x 2).isLt
      exact at3 (KP m ρ c) ((emb_unit (inb := kv_inb b h) x 0).trans (by simp; omega)) ((emb_unit (inb := kv_inb b h) x 1).trans (by simp)) ((emb_unit (inb := kv_inb b h) x 2).trans (by simp; omega)))) $$ [Hk]
  · iexact Hk
  iintro Hk
  iapply (wp_ld c A13 (Rect.unit (s := S2x1024x256) ![b.val, 0, 64 * h.val] S1x1024x64.size (kv_inb b h)) h_S1x1024x64 Finset.univ fullShare (VP m ρ c : Vec F S2x1024x256 .bf16) (vH m ρ c b h.val)
    (fun x => Finset.mem_univ _) (fun x => by
      have h0 : (x 0).val < 1 := (x 0).isLt; have h1 : (x 1).val < 1024 := (x 1).isLt; have h2 : (x 2).val < 64 := (x 2).isLt
      exact at3 (VP m ρ c) ((emb_unit (inb := kv_inb b h) x 0).trans (by simp; omega)) ((emb_unit (inb := kv_inb b h) x 1).trans (by simp)) ((emb_unit (inb := kv_inb b h) x 2).trans (by simp; omega)))) $$ [Hv]
  · iexact Hv
  iintro Hv
  iapply (wp_fill c A14 (Rect.unit (s := S4x2x256x256) ![r.val, b.val, 0, 64 * h.val] S1x1x256x64.size (ca_inb r b h)) h_S1x1x256x64 _ _ (cxS r.val)
      (fun i : S4x2x256x256.Idx => (i 0).val = r.val ∧ 4 * (i 1).val + (i 3).val / 64 < 4 * b.val + h.val) (fun i : S4x2x256x256.Idx => (i 0).val = r.val ∧ 4 * (i 1).val + (i 3).val / 64 < 4 * b.val + h.val + 1)
      (CTXA m ρ c : Vec F S4x2x256x256 .bf16) (CTXA m ρ c : Vec F S4x2x256x256 .bf16)
      (fun x => by
        refine Finset.mem_filter.mpr ⟨Finset.mem_univ _, ?_⟩
        have h0 : (x 0).val < 1 := (x 0).isLt
        show ((Rect.unit (s := S4x2x256x256) ![r.val, b.val, 0, 64 * h.val] S1x1x256x64.size (ca_inb r b h)).emb x 0).val = r.val
        rw [emb_unit]; simp; omega)
      (fun x => by
        have h0 : (x 0).val < 1 := (x 0).isLt; have h1 : (x 1).val < 1 := (x 1).isLt; have h3 : (x 3).val < 64 := (x 3).isLt
        exact CTXA_at m ρ c _ b h.val (blk c r) x (congrArg (fun z => (c.val + (4 - z)) % 4) ((emb_unit (inb := ca_inb r b h) x 0).trans (by simp; omega)))
          ((emb_unit (inb := ca_inb r b h) x 1).trans (by simp; omega)) ((emb_unit (inb := ca_inb r b h) x 2).trans (by simp)) (emb_unit (inb := ca_inb r b h) x 3))
      (fun i hi => by
        by_cases hlt : 4 * (i 1).val + (i 3).val / 64 < 4 * b.val + h.val
        · exact .inl ⟨⟨hi.1, hlt⟩, rfl⟩
        · have h3 : (i 3).val < 256 := (i 3).isLt; have h1 : (i 1).val < 2 := (i 1).isLt; have h2 : (i 2).val < 256 := (i 2).isLt
          obtain ⟨hi0, hi1⟩ := hi
          refine .inr (in_unit fun a => ?_)
          match a with
          | 0 => simp; omega
          | 1 => simp; omega
          | 2 => simp; omega
          | 3 => simp; omega)) $$ [Hc]
  · iexact Hc
  iintro Hc
  iapply Hn $$ [Hq Hk Hv] [Hc]
  · isplitl [Hq]; · iexact Hq
    isplitl [Hk]; · iexact Hk
    iexact Hv
  · iexact Hc

/-- The offsets of the eight heads at one block. -/
theorem mod_blk (c : Dev nD) (r ri : Fin 4) (h : ri.val = 3 - r.val) : (c.val + ri.val + 1) % 4 = blk c r := by
  have := r.isLt; unfold blk; rw [h]; congr 1; omega

theorem wp_attnP {Q : PUnit → sProp 𝕄} {k : PR F} (c : Dev nD) (ri r : Fin 4) (h : ri.val = 3 - r.val) (f : Vec F S4x2x256x256 .bf16) :
    iprop(qkv m ρ c ∗ ((c : Thread nD τ).loc cc0_scratch8 ↦[cxS r.val]{fullShare} f))
      ⊢ iprop((qkv m ρ c -∗ ((c : Thread nD τ).loc cc0_scratch8 ↦[cxS r.val]{fullShare} (CTXA m ρ c : Vec F S4x2x256x256 .bf16)) -∗ WP c k Q) -∗ WP c (attnP c ri r k) Q) := by
  unfold attnP
  have hm := mod_blk c r ri h
  iintro ⟨Hq, Hc⟩ Hn
  ihave Hc := (show ((c : Thread nD τ).loc cc0_scratch8 ↦[cxS r.val]{fullShare} f : sProp 𝕄) ⊢ partC m ρ c r (4 * (0 : Fin 2).val + (0 : Fin 4).val) from
    part_start c A14 (cxS r.val) _ (CTXA m ρ c : Vec F S4x2x256x256 .bf16) f (fun i hi => absurd hi.2 (Nat.not_lt_zero _))) $$ Hc
  iapply (wp_headP m ρ c _ _ r 0 0 (by rw [k0_off4_eq, hm]; rfl)) $$ [Hq Hc]
  · isplitl [Hq]; · iexact Hq
    iexact Hc
  iintro Hq Hc
  iapply (wp_headP m ρ c _ _ r 0 1 (by rw [k0_off5_eq, hm]; rfl)) $$ [Hq Hc]
  · isplitl [Hq]; · iexact Hq
    iexact Hc
  iintro Hq Hc
  iapply (wp_headP m ρ c _ _ r 0 2 (by rw [k0_off6_eq, hm]; rfl)) $$ [Hq Hc]
  · isplitl [Hq]; · iexact Hq
    iexact Hc
  iintro Hq Hc
  iapply (wp_headP m ρ c _ _ r 0 3 (by rw [k0_off7_eq, hm]; rfl)) $$ [Hq Hc]
  · isplitl [Hq]; · iexact Hq
    iexact Hc
  iintro Hq Hc
  iapply (wp_headP m ρ c _ _ r 1 0 (by rw [k0_off8_eq, hm]; rfl)) $$ [Hq Hc]
  · isplitl [Hq]; · iexact Hq
    iexact Hc
  iintro Hq Hc
  iapply (wp_headP m ρ c _ _ r 1 1 (by rw [k0_off9_eq, hm]; rfl)) $$ [Hq Hc]
  · isplitl [Hq]; · iexact Hq
    iexact Hc
  iintro Hq Hc
  iapply (wp_headP m ρ c _ _ r 1 2 (by rw [k0_off10_eq, hm]; rfl)) $$ [Hq Hc]
  · isplitl [Hq]; · iexact Hq
    iexact Hc
  iintro Hq Hc
  iapply (wp_headP m ρ c _ _ r 1 3 (by rw [k0_off11_eq, hm]; rfl)) $$ [Hq Hc]
  · isplitl [Hq]; · iexact Hq
    iexact Hc
  iintro Hq Hc
  iapply Hn $$ [Hq] [Hc]
  · iexact Hq
  iapply (show partC m ρ c r (4 * (1 : Fin 2).val + (3 : Fin 4).val + 1) ⊢ ((c : Thread nD τ).loc cc0_scratch8 ↦[cxS r.val]{fullShare} (CTXA m ρ c : Vec F S4x2x256x256 .bf16) : sProp 𝕄) from
    part_done c A14 (cxS r.val) _ (CTXA m ρ c : Vec F S4x2x256x256 .bf16) (fun (i : S4x2x256x256.Idx) hi => by
      have h1 : (i 1).val < 2 := (i 1).isLt; have h3 : (i 3).val < 256 := (i 3).isLt
      exact ⟨(Finset.mem_filter.mp hi).2, by show 4 * (i 1).val + (i 3).val / 64 < 4 * 1 + 3 + 1; omega⟩))
  iexact Hc

/-! ## The projection of one block of positions -/

/-- What is known of the queries, keys and values: the elements in `P`. -/
def partQ (c : Dev nD) (P : S2x1024x256.Idx → Prop) : sProp 𝕄 :=
  iprop(part c A11 Finset.univ P (QP m ρ c : Vec F S2x1024x256 .bf16) ∗ part c A12 Finset.univ P (KP m ρ c : Vec F S2x1024x256 .bf16) ∗ part c A13 Finset.univ P (VP m ρ c : Vec F S2x1024x256 .bf16))

theorem wp_fill3 {Q : PUnit → sProp 𝕄} {k : PR F} (c : Dev nD) (off : Fin 3 → ℕ) (hi : ∀ a, off a + S1x256x256.size a ≤ S2x1024x256.size a) (hp) (P P' : S2x1024x256.Idx → Prop) (b : Fin 2) (d : ℕ)
    (hoff : off = ![b.val, 256 * d, 0]) (hP : ∀ i, P' i → P i ∨ ((i 0).val = b.val ∧ (i 1).val / 256 = d)) (q kk vv : Vec F S1x256x256 .bf16)
    (hq : q = k0_pay25 RMAT (cosB d) (sinB d) (xB m ρ (fin 4 d) b) (WQKV m ρ c)) (hk : kk = k0_pay26 RMAT (cosB d) (sinB d) (xB m ρ (fin 4 d) b) (WQKV m ρ c))
    (hv : vv = k0_pay27 (xB m ρ (fin 4 d) b) (WQKV m ρ c)) :
    (partQ m ρ c P) ⊢ iprop((partQ m ρ c P' -∗ WP c k Q) -∗ WP c (fill3 off hi hp q kk vv k) Q) := by
  subst hoff
  have hb : ∀ i, P' i → P i ∨ ∃ x, (Rect.unit (s := S2x1024x256) ![b.val, 256 * d, 0] S1x256x256.size hi).emb x = i := fun i hi' => (hP i hi').imp id fun hh => in_unit fun a => by
    have h2 : (i 2).val < 256 := (i 2).isLt
    obtain ⟨g0, g1⟩ := hh
    match a with
    | 0 => simp; omega
    | 1 => simp; omega
    | 2 => simp; omega
  have hx : ∀ x : S1x256x256.Idx, ((Rect.unit (s := S2x1024x256) ![b.val, 256 * d, 0] S1x256x256.size hi).emb x 0) = b ∧ ((Rect.unit (s := S2x1024x256) ![b.val, 256 * d, 0] S1x256x256.size hi).emb x 1).val / 256 = d
      ∧ (ix3 0 (fin 256 ((Rect.unit (s := S2x1024x256) ![b.val, 256 * d, 0] S1x256x256.size hi).emb x 1).val) ((Rect.unit (s := S2x1024x256) ![b.val, 256 * d, 0] S1x256x256.size hi).emb x 2) : S1x256x256.Idx) = x := fun x => by
    have h0 : (x 0).val < 1 := (x 0).isLt; have h1 : (x 1).val < 256 := (x 1).isLt
    have E : ∀ a, ((Rect.unit (s := S2x1024x256) ![b.val, 256 * d, 0] S1x256x256.size hi).emb x a).val = (![b.val, 256 * d, 0] : Fin 3 → ℕ) a + (x a).val := fun a => emb_unit (inb := hi) x a
    have e1 : ((Rect.unit (s := S2x1024x256) ![b.val, 256 * d, 0] S1x256x256.size hi).emb x 1).val = 256 * d + (x 1).val := E 1
    refine ⟨Fin.ext ((E 0).trans (by show b.val + (x 0).val = b.val; omega)), by rw [e1]; omega, ?_⟩
    refine at3 (fun z => z) (by show 0 = (x 0).val; omega) ?_ ((E 2).trans (by show 0 + (x 2).val = (x 2).val; omega))
    show ((Rect.unit (s := S2x1024x256) ![b.val, 256 * d, 0] S1x256x256.size hi).emb x 1).val % 256 = _
    rw [e1]; omega
  unfold fill3 partQ
  iintro ⟨H1, H2, H3⟩ Hn
  iapply (wp_fill c A11 (Rect.unit (s := S2x1024x256) ![b.val, 256 * d, 0] S1x256x256.size hi) h_S1x256x256 q _ Finset.univ P P' (QP m ρ c : Vec F S2x1024x256 .bf16) (QP m ρ c : Vec F S2x1024x256 .bf16)
    (fun x => Finset.mem_univ _) (fun x => by
      obtain ⟨x0, x1, x2⟩ := hx x
      subst hq
      show _ = QP m ρ c ((Rect.unit (s := S2x1024x256) ![b.val, 256 * d, 0] S1x256x256.size hi).emb x)
      unfold QP; rw [x2, x1, x0]) (fun i hi' => (hb i hi').imp (fun h => ⟨h, rfl⟩) id)) $$ [H1]
  · iexact H1
  iintro H1
  iapply (wp_fill c A12 (Rect.unit (s := S2x1024x256) ![b.val, 256 * d, 0] S1x256x256.size hi) h_S1x256x256 kk _ Finset.univ P P' (KP m ρ c : Vec F S2x1024x256 .bf16) (KP m ρ c : Vec F S2x1024x256 .bf16)
    (fun x => Finset.mem_univ _) (fun x => by
      obtain ⟨x0, x1, x2⟩ := hx x
      subst hk
      show _ = KP m ρ c ((Rect.unit (s := S2x1024x256) ![b.val, 256 * d, 0] S1x256x256.size hi).emb x)
      unfold KP; rw [x2, x1, x0]) (fun i hi' => (hb i hi').imp (fun h => ⟨h, rfl⟩) id)) $$ [H2]
  · iexact H2
  iintro H2
  iapply (wp_fill c A13 (Rect.unit (s := S2x1024x256) ![b.val, 256 * d, 0] S1x256x256.size hi) h_S1x256x256 vv _ Finset.univ P P' (VP m ρ c : Vec F S2x1024x256 .bf16) (VP m ρ c : Vec F S2x1024x256 .bf16)
    (fun x => Finset.mem_univ _) (fun x => by
      obtain ⟨x0, x1, x2⟩ := hx x
      subst hv
      show _ = VP m ρ c ((Rect.unit (s := S2x1024x256) ![b.val, 256 * d, 0] S1x256x256.size hi).emb x)
      unfold VP; rw [x2, x1, x0]) (fun i hi' => (hb i hi').imp (fun h => ⟨h, rfl⟩) id)) $$ [H3]
  · iexact H3
  iintro H3
  iapply Hn
  isplitl [H1]; · iexact H1
  isplitl [H2]; · iexact H2
  iexact H3

/-- The tables and the weights, which the projections read. -/
def tabs (c : Dev nD) : sProp 𝕄 :=
  iprop(((c : Thread nD τ).loc cc0_scratch10 ↦{fullShare} (COS : Vec F S1024x256 .f32)) ∗ ((c : Thread nD τ).loc cc0_scratch11 ↦{fullShare} (SIN : Vec F S1024x256 .f32))
    ∗ ((c : Thread nD τ).loc cc0_scratch2 ↦{fullShare} (WQKV m ρ c : Vec F S768x768 .bf16)))

theorem wp_ldT_cos {Q : PUnit → sProp 𝕄} {k : Vec F S256x256 .f32 → PR F} (c : Dev nD) (ri r : Fin 4) (h : ri.val = 3 - r.val) :
    (tabs m ρ c) ⊢ iprop((tabs m ρ c -∗ WP c (k (cosB (blk c r))) Q) -∗ WP c (ldT A16 c ri k) Q) := by
  unfold tabs ldT
  have hm := mod_blk c r ri h
  have hd : blk c r < 4 := Nat.mod_lt _ (by decide)
  have ho : k0_off1 c (wd ri) = ![256 * blk c r, 0] := by rw [k0_off1_eq, hm]
  have ho0 : k0_off1 c (wd ri) 0 = 256 * blk c r := congrFun ho 0
  have ho1 : k0_off1 c (wd ri) 1 = 0 := congrFun ho 1
  iintro ⟨H1, H2, H3⟩ Hn
  iapply (wp_ld c A16 (Rect.unit (s := S1024x256) (k0_off1 c (wd ri)) S256x256.size (k0_off1_inb c ri)) h_S256x256 Finset.univ fullShare (COS : Vec F S1024x256 .f32) (cosB (blk c r)) (fun x => Finset.mem_univ _) (fun x => by
    have h0 : (x 0).val < 256 := (x 0).isLt
    exact at2 COS ((emb_unit (inb := k0_off1_inb c ri) x 0).trans (by
        show k0_off1 c (wd ri) 0 + (x 0).val = (256 * blk c r + (x 0).val) % 1024
        omega))
      ((emb_unit (inb := k0_off1_inb c ri) x 1).trans (by
        show k0_off1 c (wd ri) 1 + (x 1).val = (x 1).val
        omega)))) $$ [H1]
  · iexact H1
  iintro H1
  iapply Hn
  isplitl [H1]; · iexact H1
  isplitl [H2]; · iexact H2
  iexact H3

theorem wp_ldT_sin {Q : PUnit → sProp 𝕄} {k : Vec F S256x256 .f32 → PR F} (c : Dev nD) (ri r : Fin 4) (h : ri.val = 3 - r.val) :
    (tabs m ρ c) ⊢ iprop((tabs m ρ c -∗ WP c (k (sinB (blk c r))) Q) -∗ WP c (ldT A17 c ri k) Q) := by
  unfold tabs ldT
  have hm := mod_blk c r ri h
  have hd : blk c r < 4 := Nat.mod_lt _ (by decide)
  have ho : k0_off1 c (wd ri) = ![256 * blk c r, 0] := by rw [k0_off1_eq, hm]
  have ho0 : k0_off1 c (wd ri) 0 = 256 * blk c r := congrFun ho 0
  have ho1 : k0_off1 c (wd ri) 1 = 0 := congrFun ho 1
  iintro ⟨H1, H2, H3⟩ Hn
  iapply (wp_ld c A17 (Rect.unit (s := S1024x256) (k0_off1 c (wd ri)) S256x256.size (k0_off1_inb c ri)) h_S256x256 Finset.univ fullShare (SIN : Vec F S1024x256 .f32) (sinB (blk c r)) (fun x => Finset.mem_univ _) (fun x => by
    have h0 : (x 0).val < 256 := (x 0).isLt
    exact at2 SIN ((emb_unit (inb := k0_off1_inb c ri) x 0).trans (by
        show k0_off1 c (wd ri) 0 + (x 0).val = (256 * blk c r + (x 0).val) % 1024
        omega))
      ((emb_unit (inb := k0_off1_inb c ri) x 1).trans (by
        show k0_off1 c (wd ri) 1 + (x 1).val = (x 1).val
        omega)))) $$ [H2]
  · iexact H2
  iintro H2
  iapply Hn
  isplitl [H1]; · iexact H1
  isplitl [H2]; · iexact H2
  iexact H3

theorem wp_ldW {Q : PUnit → sProp 𝕄} {k : Vec F S768x768 .bf16 → PR F} (c : Dev nD) :
    (tabs m ρ c) ⊢ iprop((tabs m ρ c -∗ WP c (k (WQKV m ρ c)) Q) -∗ WP c (ldW k) Q) := by
  unfold tabs ldW
  iintro ⟨H1, H2, H3⟩ Hn
  iapply (wp_ld c A8 (Rect.unit (s := S768x768) ![0, 0] S768x768.size inb_S768x768_S768x768_0_0) h_S768x768 Finset.univ fullShare (WQKV m ρ c : Vec F S768x768 .bf16) (WQKV m ρ c) (fun x => Finset.mem_univ _) (fun x =>
    at2 (WQKV m ρ c) ((emb_unit (inb := inb_S768x768_S768x768_0_0) x 0).trans (by simp)) ((emb_unit (inb := inb_S768x768_S768x768_0_0) x 1).trans (by simp)))) $$ [H3]
  · iexact H3
  iintro H3
  iapply Hn
  isplitl [H1]; · iexact H1
  isplitl [H2]; · iexact H2
  iexact H3

end Cert.KernelIdeal.Att

end
-- ==== Proof.Pieces.lean ====
/-
The rules of the larger pieces: the projection of the own and of a gathered block of positions, and the
additions of the partial products into the result.
-/
module

public import proofs.«01_k».proof.Proof.Steps

@[expose] public section

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## The projection of one block -/

/-- One batch row of one gathered block, as it is loaded. -/
def xR (c : Dev nD) (r : Fin 4) (b : Fin 2) : Vec F S1x1x256x768 .bf16 := fun j => XG m ρ c (ix4 r b (j 2) (j 3))

theorem pay28_eq (c : Dev nD) (r : Fin 4) (b : Fin 2) (W : Vec F S768x768 .bf16) : k0_pay28 (xR m ρ c r b) W = k0_pay24 (xB m ρ (fin 4 (blk c r)) b) W := by
  have e : shapeCast S256x768 (xR m ρ c r b) shapeCasts_S1x1x256x768_S256x768 = shapeCast S256x768 (xB m ρ (fin 4 (blk c r)) b) shapeCasts_S1x256x768_S256x768 := by
    funext i
    rw [eq_ix2 i]
    refine (congrArg (xR m ρ c r b) (reshapeEquiv_ix2_11ab shapeCasts_S1x1x256x768_S256x768 (i 0) (i 1))).trans ?_
    refine Eq.trans ?_ (shapeCast_1ab_ab_apply (xB m ρ (fin 4 (blk c r)) b) shapeCasts_S1x256x768_S256x768 (i 0) (i 1)).symm
    have hd : rot c (4 - r.val) = fin 4 (blk c r) := Fin.ext (by show (c.val + (4 - r.val)) % 4 = ((c.val + (4 - r.val)) % 4) % 4; omega)
    show X16 m ρ (rot c (4 - r.val)) (ix3 b (i 0) (i 1)) = X16 m ρ (fin 4 (blk c r)) (ix3 b (i 0) (i 1))
    rw [hd]
  unfold k0_pay28 k0_pay24
  rw [e]

theorem wp_ldX0 {Q : PUnit → sProp 𝕄} {k : Vec F S1x256x768 .bf16 → PR F} (c : Dev nD) (b : Fin 2) (hi) (q : PosShare TreeShare) :
    ((c : Thread nD τ).loc cc0_scratch0 ↦{q} (X16 m ρ c : Vec F S2x256x768 .bf16) : sProp 𝕄)
      ⊢ iprop((((c : Thread nD τ).loc cc0_scratch0 ↦{q} (X16 m ρ c : Vec F S2x256x768 .bf16)) -∗ WP c (k (xB m ρ (fin 4 (blk c 0)) b)) Q) -∗ WP c (ldX0 b hi k) Q) := by
  unfold ldX0
  have hd : (fin 4 (blk c 0) : Dev nD) = c := Fin.ext (by have := c.isLt; show ((c.val + (4 - 0)) % 4) % 4 = c.val; have : c.val < 4 := c.isLt; omega)
  rw [hd]
  exact wp_ld c A6 (Rect.unit (s := S2x256x768) ![b.val, 0, 0] S1x256x768.size hi) h_S1x256x768 Finset.univ q (X16 m ρ c : Vec F S2x256x768 .bf16) (xB m ρ c b) (fun x => Finset.mem_univ _) (fun x => by
    have h0 : (x 0).val < 1 := (x 0).isLt
    exact at3 (X16 m ρ c) ((emb_unit (inb := hi) x 0).trans (by simp <;> omega)) ((emb_unit (inb := hi) x 1).trans (by simp <;> omega)) ((emb_unit (inb := hi) x 2).trans (by simp <;> omega)))

theorem wp_ldXR {Q : PUnit → sProp 𝕄} {k : Vec F S1x1x256x768 .bf16 → PR F} (c : Dev nD) (r : Fin 4) (b : Fin 2) (q : PosShare TreeShare) :
    ((c : Thread nD τ).loc cc0_scratch1 ↦[xgR r.val b.val]{q} (XG m ρ c : Vec F S4x2x256x768 .bf16) : sProp 𝕄)
      ⊢ iprop((((c : Thread nD τ).loc cc0_scratch1 ↦[xgR r.val b.val]{q} (XG m ρ c : Vec F S4x2x256x768 .bf16)) -∗ WP c (k (xR m ρ c r b)) Q) -∗ WP c (ldXR r b k) Q) := by
  unfold ldXR
  exact wp_ld c A7 (Rect.unit (s := S4x2x256x768) ![r.val, b.val, 0, 0] S1x1x256x768.size (xr_inb r b)) h_S1x1x256x768 (xgR r.val b.val) q (XG m ρ c : Vec F S4x2x256x768 .bf16) (xR m ρ c r b) (fun x => by
      have h0 : (x 0).val < 1 := (x 0).isLt; have h1 : (x 1).val < 1 := (x 1).isLt
      exact Finset.mem_filter.mpr ⟨Finset.mem_univ _, (emb_unit (inb := xr_inb r b) x 0).trans (by simp <;> omega), (emb_unit (inb := xr_inb r b) x 1).trans (by simp <;> omega)⟩)
    (fun x => by
      have h0 : (x 0).val < 1 := (x 0).isLt; have h1 : (x 1).val < 1 := (x 1).isLt
      exact at4 (XG m ρ c) ((emb_unit (inb := xr_inb r b) x 0).trans (by simp <;> omega)) ((emb_unit (inb := xr_inb r b) x 1).trans (by simp <;> omega)) ((emb_unit (inb := xr_inb r b) x 2).trans (by simp <;> omega)) ((emb_unit (inb := xr_inb r b) x 3).trans (by simp <;> omega)))

/-- The projection of the own block. -/
theorem wp_proj0P {Q : PUnit → sProp 𝕄} {k : PR F} (c : Dev nD) (q : PosShare TreeShare) (P P' : S2x1024x256.Idx → Prop) (hP : ∀ i, P' i → P i ∨ (i 1).val / 256 = blk c 0) :
    iprop(tabs m ρ c ∗ ((c : Thread nD τ).loc cc0_scratch0 ↦{q} (X16 m ρ c : Vec F S2x256x768 .bf16)) ∗ partQ m ρ c P)
      ⊢ iprop((tabs m ρ c -∗ ((c : Thread nD τ).loc cc0_scratch0 ↦{q} (X16 m ρ c : Vec F S2x256x768 .bf16)) -∗ partQ m ρ c P' -∗ WP c k Q) -∗ WP c (proj0P c k) Q) := by
  unfold proj0P
  have hm := mod_blk c 0 3 rfl
  iintro ⟨Ht, Hx, Hp⟩ Hn
  iapply (wp_ldT_cos m ρ c 3 0 rfl) $$ [Ht]; · iexact Ht
  iintro Ht
  iapply (wp_ldT_sin m ρ c 3 0 rfl) $$ [Ht]; · iexact Ht
  iintro Ht
  iapply (wp_ldX0 m ρ c 0 inb_S2x256x768_S1x256x768_0_0_0 q) $$ [Hx]; · iexact Hx
  iintro Hx
  iapply (wp_ldW m ρ c) $$ [Ht]; · iexact Ht
  iintro Ht
  iapply (wp_fill3 m ρ c (k0_off2 c (wd 3)) (k0_off2_inb c 3) (k0_off2_packedbf16 c 3) P (fun i => P i ∨ ((i 0).val = (0 : Fin 2).val ∧ (i 1).val / 256 = blk c 0)) 0 (blk c 0) (by rw [k0_off2_eq, hm]; rfl) (fun i h => h) _ _ _ rfl rfl rfl) $$ [Hp]; · iexact Hp
  iintro Hp
  iapply (wp_ldX0 m ρ c 1 inb_S2x256x768_S1x256x768_1_0_0 q) $$ [Hx]; · iexact Hx
  iintro Hx
  iapply (wp_ldW m ρ c) $$ [Ht]; · iexact Ht
  iintro Ht
  iapply (wp_fill3 m ρ c (k0_off3 c (wd 3)) (k0_off3_inb c 3) (k0_off3_packedbf16 c 3) (fun i => P i ∨ ((i 0).val = (0 : Fin 2).val ∧ (i 1).val / 256 = blk c 0)) P' 1 (blk c 0) (by rw [k0_off3_eq, hm]; rfl) (fun i h => by
    have h0 : (i 0).val < 2 := (i 0).isLt
    rcases hP i h with h1 | h1
    · exact .inl (.inl h1)
    · rcases Nat.lt_or_ge (i 0).val 1 with h2 | h2
      · exact .inl (.inr ⟨by show (i 0).val = 0; omega, h1⟩)
      · exact .inr ⟨by show (i 0).val = 1; omega, h1⟩) _ _ _ rfl rfl rfl) $$ [Hp]; · iexact Hp
  iintro Hp
  iapply Hn $$ [Ht] [Hx] [Hp]
  · iexact Ht
  · iexact Hx
  · iexact Hp

/-- The projection of a gathered block. -/
theorem wp_projP {Q : PUnit → sProp 𝕄} {k : PR F} (c : Dev nD) (ri r : Fin 4) (h : ri.val = 3 - r.val) (q0 q1 : PosShare TreeShare) (P P' : S2x1024x256.Idx → Prop) (hP : ∀ i, P' i → P i ∨ (i 1).val / 256 = blk c r) :
    iprop(tabs m ρ c ∗ ((c : Thread nD τ).loc cc0_scratch1 ↦[xgR r.val 0]{q0} (XG m ρ c : Vec F S4x2x256x768 .bf16)) ∗ ((c : Thread nD τ).loc cc0_scratch1 ↦[xgR r.val 1]{q1} (XG m ρ c : Vec F S4x2x256x768 .bf16)) ∗ partQ m ρ c P)
      ⊢ iprop((tabs m ρ c -∗ ((c : Thread nD τ).loc cc0_scratch1 ↦[xgR r.val 0]{q0} (XG m ρ c : Vec F S4x2x256x768 .bf16)) -∗ ((c : Thread nD τ).loc cc0_scratch1 ↦[xgR r.val 1]{q1} (XG m ρ c : Vec F S4x2x256x768 .bf16))
          -∗ partQ m ρ c P' -∗ WP c k Q) -∗ WP c (projP c ri r k) Q) := by
  unfold projP
  have hm := mod_blk c r ri h
  have e25 : ∀ b, k0_pay29 RMAT (cosB (blk c r)) (sinB (blk c r)) (xR m ρ c r b) (WQKV m ρ c) = k0_pay25 RMAT (cosB (blk c r)) (sinB (blk c r)) (xB m ρ (fin 4 (blk c r)) b) (WQKV m ρ c) := fun b => by
    unfold k0_pay29 k0_pay25; rw [pay28_eq]
  have e26 : ∀ b, k0_pay40 RMAT (cosB (blk c r)) (sinB (blk c r)) (xR m ρ c r b) (WQKV m ρ c) = k0_pay26 RMAT (cosB (blk c r)) (sinB (blk c r)) (xB m ρ (fin 4 (blk c r)) b) (WQKV m ρ c) := fun b => by
    unfold k0_pay40 k0_pay26; rw [show k0_pay38 (xR m ρ c r b) (WQKV m ρ c) = k0_pay28 (xR m ρ c r b) (WQKV m ρ c) from rfl, pay28_eq]
  have e27 : ∀ b, k0_pay46 (xR m ρ c r b) (WQKV m ρ c) = k0_pay27 (xB m ρ (fin 4 (blk c r)) b) (WQKV m ρ c) := fun b => by
    unfold k0_pay46 k0_pay27; rw [show k0_pay43 (xR m ρ c r b) (WQKV m ρ c) = k0_pay28 (xR m ρ c r b) (WQKV m ρ c) from rfl, pay28_eq]
  iintro ⟨Ht, Hx0, Hx1, Hp⟩ Hn
  iapply (wp_ldT_cos m ρ c ri r h) $$ [Ht]; · iexact Ht
  iintro Ht
  iapply (wp_ldT_sin m ρ c ri r h) $$ [Ht]; · iexact Ht
  iintro Ht
  iapply (wp_ldXR m ρ c r 0 q0) $$ [Hx0]; · iexact Hx0
  iintro Hx0
  iapply (wp_ldW m ρ c) $$ [Ht]; · iexact Ht
  iintro Ht
  iapply (wp_fill3 m ρ c (k0_off2 c (wd ri)) (k0_off2_inb c ri) (k0_off2_packedbf16 c ri) P (fun i => P i ∨ ((i 0).val = (0 : Fin 2).val ∧ (i 1).val / 256 = blk c r)) 0 (blk c r) (by rw [k0_off2_eq, hm]; rfl) (fun i h => h) _ _ _ (e25 0) (e26 0) (e27 0)) $$ [Hp]; · iexact Hp
  iintro Hp
  iapply (wp_ldXR m ρ c r 1 q1) $$ [Hx1]; · iexact Hx1
  iintro Hx1
  iapply (wp_ldW m ρ c) $$ [Ht]; · iexact Ht
  iintro Ht
  iapply (wp_fill3 m ρ c (k0_off3 c (wd ri)) (k0_off3_inb c ri) (k0_off3_packedbf16 c ri) (fun i => P i ∨ ((i 0).val = (0 : Fin 2).val ∧ (i 1).val / 256 = blk c r)) P' 1 (blk c r) (by rw [k0_off3_eq, hm]; rfl) (fun i h => by
    have h0 : (i 0).val < 2 := (i 0).isLt
    rcases hP i h with h1 | h1
    · exact .inl (.inl h1)
    · rcases Nat.lt_or_ge (i 0).val 1 with h2 | h2
      · exact .inl (.inr ⟨by show (i 0).val = 0; omega, h1⟩)
      · exact .inr ⟨by show (i 0).val = 1; omega, h1⟩) _ _ _ (e25 1) (e26 1) (e27 1)) $$ [Hp]; · iexact Hp
  iintro Hp
  iapply Hn $$ [Ht] [Hx0] [Hx1] [Hp]
  · iexact Ht
  · iexact Hx0
  · iexact Hx1
  · iexact Hp

/-! ## The additions into the result -/

/-- What is known of the result block. -/
abbrev partO (c : Dev nD) (P : S2x256x768.Idx → Prop) (n0 n1 : ℕ) : sProp 𝕄 := part c A5 Finset.univ P (OUTS m ρ c n0 n1 : Vec F S2x256x768 .f32)

theorem out_fill {Q : PUnit → sProp 𝕄} {k : PR F} (c : Dev nD) (b : Fin 2) (hx) (w : Vec F S1x256x768 .f32) (P P' : S2x256x768.Idx → Prop) (n0 n1 n0' n1' : ℕ)
    (hw : w = outS m ρ c b (if b.val = 0 then n0' else n1'))
    (hP : ∀ i, P' i → (i 0).val ≠ b.val → P i ∧ (if (i 0).val = 0 then n0 else n1) = (if (i 0).val = 0 then n0' else n1')) :
    (partO m ρ c P n0 n1) ⊢ iprop((partO m ρ c P' n0' n1' -∗ WP c k Q) -∗ WP c (fill A5 (Rect.unit (s := S2x256x768) ![b.val, 0, 0] S1x256x768.size (o_inb b)) h_S1x256x768 w hx k) Q) :=
  wp_fill c A5 (Rect.unit (s := S2x256x768) ![b.val, 0, 0] S1x256x768.size (o_inb b)) h_S1x256x768 w hx Finset.univ P P' (OUTS m ρ c n0 n1 : Vec F S2x256x768 .f32) (OUTS m ρ c n0' n1' : Vec F S2x256x768 .f32)
    (fun x => Finset.mem_univ _) (fun x => by
      have h0 : (x 0).val < 1 := (x 0).isLt
      have e0 : (Rect.unit (s := S2x256x768) ![b.val, 0, 0] S1x256x768.size (o_inb b)).emb x 0 = b := Fin.ext ((emb_unit (inb := o_inb b) x 0).trans (by simp <;> omega))
      subst hw
      show _ = OUTS m ρ c n0' n1' ((Rect.unit (s := S2x256x768) ![b.val, 0, 0] S1x256x768.size (o_inb b)).emb x)
      unfold OUTS; rw [e0]
      exact at3 (outS m ρ c b _) (by simp <;> omega) ((emb_unit (inb := o_inb b) x 1).trans (by simp <;> omega)).symm ((emb_unit (inb := o_inb b) x 2).trans (by simp <;> omega)).symm)
    (fun (i : S2x256x768.Idx) hi => by
      by_cases hb : (i 0).val = b.val
      · have h1 : (i 1).val < 256 := (i 1).isLt; have h2 : (i 2).val < 768 := (i 2).isLt
        refine .inr (in_unit fun a => ?_)
        match a with
        | 0 => simp; omega
        | 1 => simp; omega
        | 2 => simp; omega
      · obtain ⟨h1, h2⟩ := hP i hi hb
        exact .inl ⟨h1, by show OUTS m ρ c n0 n1 i = OUTS m ρ c n0' n1' i; unfold OUTS; rw [h2]⟩)

theorem wp_ownP {Q : PUnit → sProp 𝕄} {k : PR F} (c : Dev nD) (b : Fin 2) (q : PosShare TreeShare) (P P' : S2x256x768.Idx → Prop) (hP : ∀ i, P' i → (i 0).val ≠ b.val → P i) :
    iprop(((c : Thread nD τ).loc cc0_scratch8 ↦[cxS 0]{fullShare} (CTXA m ρ c : Vec F S4x2x256x256 .bf16)) ∗ ((c : Thread nD τ).loc cc0_scratch3 ↦{q} (WO16 m ρ c : Vec F S256x768 .bf16)) ∗ partO m ρ c P 0 0)
      ⊢ iprop((((c : Thread nD τ).loc cc0_scratch8 ↦[cxS 0]{fullShare} (CTXA m ρ c : Vec F S4x2x256x256 .bf16)) -∗ ((c : Thread nD τ).loc cc0_scratch3 ↦{q} (WO16 m ρ c : Vec F S256x768 .bf16)) -∗ partO m ρ c P' 0 0 -∗ WP c k Q)
        -∗ WP c (ownP b k) Q) := by
  unfold ownP
  iintro ⟨Hc, Hw, Ho⟩ Hn
  iapply (wp_ld c A14 (Rect.unit (s := S4x2x256x256) ![0, b.val, 0, 0] S1x1x256x256.size (c0_inb b)) h_S1x1x256x256 (cxS 0) fullShare (CTXA m ρ c : Vec F S4x2x256x256 .bf16) (ctx0 m ρ c b) (fun x => by
      have h0 : (x 0).val < 1 := (x 0).isLt
      exact Finset.mem_filter.mpr ⟨Finset.mem_univ _, (emb_unit (inb := c0_inb b) x 0).trans (by simp <;> omega)⟩)
    (fun x => by
      have h0 : (x 0).val < 1 := (x 0).isLt; have h1 : (x 1).val < 1 := (x 1).isLt
      exact at4 (CTXA m ρ c) ((emb_unit (inb := c0_inb b) x 0).trans (by simp <;> omega)) ((emb_unit (inb := c0_inb b) x 1).trans (by simp <;> omega)) ((emb_unit (inb := c0_inb b) x 2).trans (by simp <;> omega)) ((emb_unit (inb := c0_inb b) x 3).trans (by simp <;> omega)))) $$ [Hc]
  · iexact Hc
  iintro Hc
  iapply (wp_ld c A9 (Rect.unit (s := S256x768) ![0, 0] S256x768.size inb_S256x768_S256x768_0_0) h_S256x768 Finset.univ q (WO16 m ρ c : Vec F S256x768 .bf16) (WO16 m ρ c) (fun x => Finset.mem_univ _) (fun x =>
      at2 (WO16 m ρ c) ((emb_unit (inb := inb_S256x768_S256x768_0_0) x 0).trans (by simp <;> omega)) ((emb_unit (inb := inb_S256x768_S256x768_0_0) x 1).trans (by simp <;> omega)))) $$ [Hw]
  · iexact Hw
  iintro Hw
  iapply (out_fill m ρ c b _ (k0_pay117 (ctx0 m ρ c b) (WO16 m ρ c)) P P' 0 0 0 0 (by rw [ite_self]; rfl) (fun i h1 h2 => ⟨hP i h1 h2, rfl⟩)) $$ [Ho]
  · iexact Ho
  iintro Ho
  iapply Hn $$ [Hc] [Hw] [Ho]
  · iexact Hc
  · iexact Hw
  · iexact Ho

/-- The result block once all of it is known, at known counts of additions. -/
abbrev outA (c : Dev nD) (n0 n1 : ℕ) : sProp 𝕄 := (c : Thread nD τ).loc cc0_stg5_0 ↦{fullShare} (OUTS m ρ c n0 n1 : Vec F S2x256x768 .f32)

theorem wp_accP {Q : PUnit → sProp 𝕄} {k : PR F} (c : Dev nD) (kx : Fin 3) (s : Fin 4) (b : Fin 2) (q : PosShare TreeShare) (n n0 n1 n0' n1' : ℕ)
    (hn : (if b.val = 0 then n0 else n1) = n) (hn' : (if b.val = 0 then n0' else n1') = n + 1) (ho : ∀ j, j < 2 → j ≠ b.val → (if j = 0 then n0 else n1) = (if j = 0 then n0' else n1'))
    (hs : outS m ρ c b (n + 1) = k0_pay120 (outS m ρ c b n) (rxB m ρ c kx.val b) (woB m ρ c s.val)) :
    iprop(((c : Thread nD τ).loc cc0_scratch9 ↦[rxS kx.val]{fullShare} (RX m ρ c : Vec F S3x2x256x256 .bf16)) ∗ ((c : Thread nD τ).loc cc0_scratch4 ↦[woS s.val]{q} (WOALL m ρ c : Vec F S4x256x768 .bf16)) ∗ outA m ρ c n0 n1)
      ⊢ iprop((((c : Thread nD τ).loc cc0_scratch9 ↦[rxS kx.val]{fullShare} (RX m ρ c : Vec F S3x2x256x256 .bf16)) -∗ ((c : Thread nD τ).loc cc0_scratch4 ↦[woS s.val]{q} (WOALL m ρ c : Vec F S4x256x768 .bf16)) -∗ outA m ρ c n0' n1' -∗ WP c k Q)
        -∗ WP c (accP kx s b k) Q) := by
  unfold accP
  iintro ⟨Hx, Hw, Ho⟩ Hn
  iapply (wp_ld c A5 (Rect.unit (s := S2x256x768) ![b.val, 0, 0] S1x256x768.size (o_inb b)) h_S1x256x768 Finset.univ fullShare (OUTS m ρ c n0 n1 : Vec F S2x256x768 .f32) (outS m ρ c b n) (fun x => Finset.mem_univ _) (fun x => by
      have h0 : (x 0).val < 1 := (x 0).isLt
      have e0 : (Rect.unit (s := S2x256x768) ![b.val, 0, 0] S1x256x768.size (o_inb b)).emb x 0 = b := Fin.ext ((emb_unit (inb := o_inb b) x 0).trans (by simp <;> omega))
      show OUTS m ρ c n0 n1 ((Rect.unit (s := S2x256x768) ![b.val, 0, 0] S1x256x768.size (o_inb b)).emb x) = _
      unfold OUTS; rw [e0, hn]
      exact at3 (outS m ρ c b _) (by simp <;> omega) ((emb_unit (inb := o_inb b) x 1).trans (by simp <;> omega)) ((emb_unit (inb := o_inb b) x 2).trans (by simp <;> omega)))) $$ [Ho]
  · iexact Ho
  iintro Ho
  iapply (wp_ld c A15 (Rect.unit (s := S3x2x256x256) ![kx.val, b.val, 0, 0] S1x1x256x256.size (rb_inb kx b)) h_S1x1x256x256 (rxS kx.val) fullShare (RX m ρ c : Vec F S3x2x256x256 .bf16) (rxB m ρ c kx.val b) (fun x => by
      have h0 : (x 0).val < 1 := (x 0).isLt
      exact Finset.mem_filter.mpr ⟨Finset.mem_univ _, (emb_unit (inb := rb_inb kx b) x 0).trans (by simp <;> omega)⟩)
    (fun x => by
      have h0 : (x 0).val < 1 := (x 0).isLt; have h1 : (x 1).val < 1 := (x 1).isLt
      have hk := kx.isLt
      exact at4 (RX m ρ c) ((emb_unit (inb := rb_inb kx b) x 0).trans (by simp <;> omega)) ((emb_unit (inb := rb_inb kx b) x 1).trans (by simp <;> omega)) ((emb_unit (inb := rb_inb kx b) x 2).trans (by simp <;> omega)) ((emb_unit (inb := rb_inb kx b) x 3).trans (by simp <;> omega)))) $$ [Hx]
  · iexact Hx
  iintro Hx
  iapply (wp_ld c A10 (Rect.unit (s := S4x256x768) ![s.val, 0, 0] S1x256x768.size (wo_inb s)) h_S1x256x768 (woS s.val) q (WOALL m ρ c : Vec F S4x256x768 .bf16) (woB m ρ c s.val) (fun x => by
      have h0 : (x 0).val < 1 := (x 0).isLt
      exact Finset.mem_filter.mpr ⟨Finset.mem_univ _, (emb_unit (inb := wo_inb s) x 0).trans (by simp <;> omega)⟩)
    (fun x => by
      have h0 : (x 0).val < 1 := (x 0).isLt
      have hk := s.isLt
      exact at3 (WOALL m ρ c) ((emb_unit (inb := wo_inb s) x 0).trans (by simp <;> omega)) ((emb_unit (inb := wo_inb s) x 1).trans (by simp <;> omega)) ((emb_unit (inb := wo_inb s) x 2).trans (by simp <;> omega)))) $$ [Hw]
  · iexact Hw
  iintro Hw
  ihave Ho := (show outA m ρ c n0 n1 ⊢ partO m ρ c (fun _ => True) n0 n1 from part_start c A5 Finset.univ _ (OUTS m ρ c n0 n1 : Vec F S2x256x768 .f32) _ (fun _ _ => rfl)) $$ Ho
  iapply (out_fill m ρ c b _ (k0_pay120 (outS m ρ c b n) (rxB m ρ c kx.val b) (woB m ρ c s.val)) (fun _ => True) (fun _ => True) n0 n1 n0' n1' (by rw [hn', hs]) (fun i _ h2 => ⟨trivial, ho _ (i 0).isLt h2⟩)) $$ [Ho]
  · iexact Ho
  iintro Ho
  iapply Hn $$ [Hx] [Hw] [Ho]
  · iexact Hx
  · iexact Hw
  · iapply (show partO m ρ c (fun _ => True) n0' n1' ⊢ outA m ρ c n0' n1' from part_done c A5 Finset.univ _ (OUTS m ρ c n0' n1' : Vec F S2x256x768 .f32) (fun _ _ => trivial)); iexact Ho

end Cert.KernelIdeal.Att

end
-- ==== Proof.Moves.lean ====
/-
The transfers: the elements each slot covers, and the rule of each transfer at the memrefs the body names.
-/
module

public import proofs.«01_k».proof.Proof.Pieces

@[expose] public section

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## The slots' elements -/

theorem xgM_set (r : Fin 4) : (xgM r).view.set = xgS r.val := by
  refine (View.set_reshape _ _).trans ?_
  refine (View.set_slice_whole _ _).trans ?_
  ext (i : S4x2x256x768.Idx)
  have h1 : (i 1).val < 2 := (i 1).isLt; have h2 : (i 2).val < 256 := (i 2).isLt; have h3 : (i 3).val < 768 := (i 3).isLt
  refine (Rect.mem_set_unit).trans ⟨fun h => Finset.mem_filter.mpr ⟨Finset.mem_univ _, by have := h 0; simp at this; omega⟩, fun h a => ?_⟩
  have h0 := (Finset.mem_filter.mp h).2
  match a with
  | 0 => simp; omega
  | 1 => simp; omega
  | 2 => simp; omega
  | 3 => simp; omega
theorem xrM_set (r : Fin 4) (b : Fin 2) : (xrM r b).view.set = xgR r.val b.val := by
  refine (View.set_reshape _ _).trans ?_
  refine (View.set_slice_whole _ _).trans ?_
  ext (i : S4x2x256x768.Idx)
  have h1 : (i 1).val < 2 := (i 1).isLt; have h2 : (i 2).val < 256 := (i 2).isLt; have h3 : (i 3).val < 768 := (i 3).isLt
  refine (Rect.mem_set_unit).trans ⟨fun h => Finset.mem_filter.mpr ⟨Finset.mem_univ _, by have := h 0; simp at this; omega, by have := h 1; simp at this; omega⟩, fun h a => ?_⟩
  obtain ⟨h0, h0'⟩ := (Finset.mem_filter.mp h).2
  match a with
  | 0 => simp; omega
  | 1 => simp; omega
  | 2 => simp; omega
  | 3 => simp; omega
theorem woM_set (r : Fin 4) : (woM r).view.set = woS r.val := by
  refine (View.set_reshape _ _).trans ?_
  refine (View.set_slice_whole _ _).trans ?_
  ext (i : S4x256x768.Idx)
  have h1 : (i 1).val < 256 := (i 1).isLt; have h2 : (i 2).val < 768 := (i 2).isLt
  refine (Rect.mem_set_unit).trans ⟨fun h => Finset.mem_filter.mpr ⟨Finset.mem_univ _, by have := h 0; simp at this; omega⟩, fun h a => ?_⟩
  have h0 := (Finset.mem_filter.mp h).2
  match a with
  | 0 => simp; omega
  | 1 => simp; omega
  | 2 => simp; omega
theorem cxM_set (r : Fin 4) : (cxM r).view.set = cxS r.val := by
  refine (View.set_reshape _ _).trans ?_
  refine (View.set_slice_whole _ _).trans ?_
  ext (i : S4x2x256x256.Idx)
  have h1 : (i 1).val < 2 := (i 1).isLt; have h2 : (i 2).val < 256 := (i 2).isLt; have h3 : (i 3).val < 256 := (i 3).isLt
  refine (Rect.mem_set_unit).trans ⟨fun h => Finset.mem_filter.mpr ⟨Finset.mem_univ _, by have := h 0; simp at this; omega⟩, fun h a => ?_⟩
  have h0 := (Finset.mem_filter.mp h).2
  match a with
  | 0 => simp; omega
  | 1 => simp; omega
  | 2 => simp; omega
  | 3 => simp; omega
theorem rxM_set (r : Fin 3) : (rxM r).view.set = rxS r.val := by
  refine (View.set_reshape _ _).trans ?_
  refine (View.set_slice_whole _ _).trans ?_
  ext (i : S3x2x256x256.Idx)
  have h1 : (i 1).val < 2 := (i 1).isLt; have h2 : (i 2).val < 256 := (i 2).isLt; have h3 : (i 3).val < 256 := (i 3).isLt
  refine (Rect.mem_set_unit).trans ⟨fun h => Finset.mem_filter.mpr ⟨Finset.mem_univ _, by have := h 0; simp at this; omega⟩, fun h a => ?_⟩
  have h0 := (Finset.mem_filter.mp h).2
  match a with
  | 0 => simp; omega
  | 1 => simp; omega
  | 2 => simp; omega
  | 3 => simp; omega

theorem xgM_emb (r : Fin 4) (i : S2x256x768.Idx) : ((xgM r).view.emb i : S4x2x256x768.Idx) = ix4 r (i 0) (i 1) (i 2) := by
  rw [eq_ix3 i]
  refine (congrArg (Rect.unit (s := S4x2x256x768) ![r.val, 0, 0, 0] S1x2x256x768.size (xg_inb r)).emb (reshapeEquiv_ix3_1abc squeezes_S1x2x256x768_S2x256x768.numel_eq (i 0) (i 1) (i 2))).trans ?_
  exact at4 (fun z => z) ((emb_unit (inb := xg_inb r) _ 0).trans (by simp <;> omega)) ((emb_unit (inb := xg_inb r) _ 1).trans (by simp <;> omega)) ((emb_unit (inb := xg_inb r) _ 2).trans (by simp <;> omega)) ((emb_unit (inb := xg_inb r) _ 3).trans (by simp <;> omega))
theorem cxM_emb (r : Fin 4) (i : S2x256x256.Idx) : ((cxM r).view.emb i : S4x2x256x256.Idx) = ix4 r (i 0) (i 1) (i 2) := by
  rw [eq_ix3 i]
  refine (congrArg (Rect.unit (s := S4x2x256x256) ![r.val, 0, 0, 0] S1x2x256x256.size (cx_inb r)).emb (reshapeEquiv_ix3_1abc squeezes_S1x2x256x256_S2x256x256.numel_eq (i 0) (i 1) (i 2))).trans ?_
  exact at4 (fun z => z) ((emb_unit (inb := cx_inb r) _ 0).trans (by simp <;> omega)) ((emb_unit (inb := cx_inb r) _ 1).trans (by simp <;> omega)) ((emb_unit (inb := cx_inb r) _ 2).trans (by simp <;> omega)) ((emb_unit (inb := cx_inb r) _ 3).trans (by simp <;> omega))
theorem rxM_emb (r : Fin 3) (i : S2x256x256.Idx) : ((rxM r).view.emb i : S3x2x256x256.Idx) = ix4 r (i 0) (i 1) (i 2) := by
  rw [eq_ix3 i]
  refine (congrArg (Rect.unit (s := S3x2x256x256) ![r.val, 0, 0, 0] S1x2x256x256.size (rx_inb r)).emb (reshapeEquiv_ix3_1abc squeezes_S1x2x256x256_S2x256x256.numel_eq (i 0) (i 1) (i 2))).trans ?_
  exact at4 (fun z => z) ((emb_unit (inb := rx_inb r) _ 0).trans (by simp <;> omega)) ((emb_unit (inb := rx_inb r) _ 1).trans (by simp <;> omega)) ((emb_unit (inb := rx_inb r) _ 2).trans (by simp <;> omega)) ((emb_unit (inb := rx_inb r) _ 3).trans (by simp <;> omega))
theorem xrM_emb (r : Fin 4) (b : Fin 2) (i : S256x768.Idx) : ((xrM r b).view.emb i : S4x2x256x768.Idx) = ix4 r b (i 0) (i 1) := by
  rw [eq_ix2 i]
  refine (congrArg (Rect.unit (s := S4x2x256x768) ![r.val, b.val, 0, 0] S1x1x256x768.size (xr_inb r b)).emb (reshapeEquiv_ix2_11ab squeezes_S1x1x256x768_S256x768.numel_eq (i 0) (i 1))).trans ?_
  exact at4 (fun z => z) ((emb_unit (inb := xr_inb r b) _ 0).trans (by simp <;> omega)) ((emb_unit (inb := xr_inb r b) _ 1).trans (by simp <;> omega)) ((emb_unit (inb := xr_inb r b) _ 2).trans (by simp <;> omega)) ((emb_unit (inb := xr_inb r b) _ 3).trans (by simp <;> omega))
theorem woM_emb (r : Fin 4) (i : S256x768.Idx) : ((woM r).view.emb i : S4x256x768.Idx) = ix3 r (i 0) (i 1) := by
  rw [eq_ix2 i]
  refine (congrArg (Rect.unit (s := S4x256x768) ![r.val, 0, 0] S1x256x768.size (wo_inb r)).emb (reshapeEquiv_ix2_1ab squeezes_S1x256x768_S256x768.numel_eq (i 0) (i 1))).trans ?_
  exact at3 (fun z => z) ((emb_unit (inb := wo_inb r) _ 0).trans (by simp <;> omega)) ((emb_unit (inb := wo_inb r) _ 1).trans (by simp <;> omega)) ((emb_unit (inb := wo_inb r) _ 2).trans (by simp <;> omega))

theorem sSem_eq (t : Fin 10) : sSem t = sendSem t := by revert t; decide
theorem rSem_eq (t : Fin 10) : rSem t = recvSem t := by revert t; decide

/-! ## What each transfer carries is what its target knows to land -/

theorem mv0 (c : Dev nD) (x : S2x256x768.Idx) : X16 m ρ c x = XG m ρ (tgt 0 c) (ix4 1 (x 0) (x 1) (x 2)) := by
  show _ = X16 m ρ (rot (rot c 1) 3) (ix3 (x 0) (x 1) (x 2)); rw [rot13]; exact congrArg _ (eq_ix3 x)
theorem mv1 (c : Dev nD) (x : S2x256x768.Idx) : X16 m ρ c x = XG m ρ (tgt 1 c) (ix4 3 (x 0) (x 1) (x 2)) := by
  show _ = X16 m ρ (rot (rot c 3) 1) (ix3 (x 0) (x 1) (x 2)); rw [rot31]; exact congrArg _ (eq_ix3 x)
theorem rot12 : ∀ c : Dev nD, rot (rot c 1) 2 = rot c 3 := by decide
theorem rot32 : ∀ c : Dev nD, rot (rot c 3) 2 = rot c 1 := by decide
theorem mv2 (c : Dev nD) (x : S256x768.Idx) : XG m ρ c (ix4 1 0 (x 0) (x 1)) = XG m ρ (tgt 2 c) (ix4 2 0 (x 0) (x 1)) := by
  show X16 m ρ (rot c 3) (ix3 0 (x 0) (x 1)) = X16 m ρ (rot (rot c 1) 2) (ix3 0 (x 0) (x 1)); rw [rot12]
theorem mv3 (c : Dev nD) (x : S256x768.Idx) : XG m ρ c (ix4 3 1 (x 0) (x 1)) = XG m ρ (tgt 3 c) (ix4 2 1 (x 0) (x 1)) := by
  show X16 m ρ (rot c 1) (ix3 1 (x 0) (x 1)) = X16 m ρ (rot (rot c 3) 2) (ix3 1 (x 0) (x 1)); rw [rot32]
theorem mv4 (c : Dev nD) (x : S256x768.Idx) : WO16 m ρ c x = WOALL m ρ (tgt 4 c) (ix3 1 (x 0) (x 1)) := by
  show _ = WO16 m ρ (rot (rot c 1) 3) (ix2 (x 0) (x 1)); rw [rot13]; exact congrArg _ (eq_ix2 x)
theorem mv5 (c : Dev nD) (x : S256x768.Idx) : WO16 m ρ c x = WOALL m ρ (tgt 5 c) (ix3 3 (x 0) (x 1)) := by
  show _ = WO16 m ρ (rot (rot c 3) 1) (ix2 (x 0) (x 1)); rw [rot31]; exact congrArg _ (eq_ix2 x)
theorem mv6 (c : Dev nD) (x : S256x768.Idx) : WOALL m ρ c (ix3 1 (x 0) (x 1)) = WOALL m ρ (tgt 6 c) (ix3 2 (x 0) (x 1)) := by
  show WO16 m ρ (rot c 3) (ix2 (x 0) (x 1)) = WO16 m ρ (rot (rot c 1) 2) (ix2 (x 0) (x 1)); rw [rot12]
theorem mv7 (c : Dev nD) (x : S2x256x256.Idx) : CTXA m ρ c (ix4 3 (x 0) (x 1) (x 2)) = RX m ρ (tgt 7 c) (ix4 0 (x 0) (x 1) (x 2)) := by
  show _ = CTXA m ρ (rot (rot c 1) 3) (ix4 3 (x 0) (x 1) (x 2)); rw [rot13]
theorem mv8 (c : Dev nD) (x : S2x256x256.Idx) : CTXA m ρ c (ix4 1 (x 0) (x 1) (x 2)) = RX m ρ (tgt 8 c) (ix4 1 (x 0) (x 1) (x 2)) := by
  show _ = CTXA m ρ (rot (rot c 3) 1) (ix4 1 (x 0) (x 1) (x 2)); rw [rot31]
theorem mv9 (c : Dev nD) (x : S2x256x256.Idx) : CTXA m ρ c (ix4 2 (x 0) (x 1) (x 2)) = RX m ρ (tgt 9 c) (ix4 2 (x 0) (x 1) (x 2)) := by
  show _ = CTXA m ρ (rot (rot c 2) 2) (ix4 2 (x 0) (x 1) (x 2)); rw [rot22]

/-! ## One rule per transfer -/

/-- What a landing transfer leaves in its landing place. -/
theorem wrote {s : Shape} (d : Dev nD) (dst : Memref sig .tc .vmem s .bf16) (fd T : Buf (Elt F) (dst.view.loc (d : Thread nD τ))) (w : s.Idx → Elt F .bf16) (h : ∀ x, w x = dst.view.read (Elt F) T x) :
    (dst.view.loc (d : Thread nD τ) ↦[dst.view.set]{fullShare} (dst.view.write (Elt F) fd w Finset.univ) : sProp 𝕄) = (dst.view.loc (d : Thread nD τ) ↦[dst.view.set]{fullShare} T) := by
  refine pointsTo_congr fun i hi => ?_
  obtain ⟨x, -, rfl⟩ := Finset.mem_map.mp hi
  rw [View.write_emb_of_mem _ _ (Finset.mem_univ x), h x, View.read_apply]; simp

section Xfer

variable (K : Dev nD × Ck → ℕ) (c : Dev nD)

/-- A transfer: its rule at the memrefs it names. -/
theorem wp_snd {Q : PUnit → sProp 𝕄} {k : PR F} {s : Shape} (t : Fin 10) (l : List (Fin 10)) (n : Dev nD) (hn : n = tgt t c) (src dst : Memref sig .tc .vmem s .bf16) (hs : src.view.WordExact) (hd : dst.view.WordExact)
    (hN : dst.view.dmaCredit = amt t) (q : PosShare TreeShare) (fs : Buf (Elt F) (src.view.loc (c : Thread nD τ))) (T : Buf (Elt F) (dst.view.loc (tgt t c : Thread nD τ)))
    (hsend : (src.view.loc (c : Thread nD τ) ↦[src.view.set]{q} fs : sProp 𝕄) = sendPay m ρ t c)
    (hland : (land (F := F) t (tgt t c)) ⊢ iprop(∃ fd, (dst.view.loc (tgt t c : Thread nD τ) ↦[dst.view.set]{fullShare} fd)))
    (hT : (dst.view.loc (tgt t c : Thread nD τ) ↦[dst.view.set]{fullShare} T : sProp 𝕄) = recvPay m ρ t (tgt t c))
    (hv : ∀ x, src.view.read (Elt F) fs x = dst.view.read (Elt F) T x) :
    iprop(records m ρ K ∗ outg t c ∗ sendPay m ρ t c ∗ land (F := F) t (tgt t c) ∗ owes' c (owed c (t :: l)))
      ⊢ iprop((snt t c -∗ owes' c (owed c l) -∗ WP c k Q) -∗ WP c (snd src dst n (sSem t) (rSem t) hs hd k) Q) :=
  wp_xfer (k := fun _ => k) m ρ K c t l n hn src dst (sSem t) (rSem t) (sSem_eq t) (rSem_eq t) hN q fs hsend hland
    (fun fd => Entails.of_eq ((wrote (tgt t c) dst fd T _ hv).trans hT))

/-- The landing place of a transfer, as its memref names it. -/
theorem land_at {s : Shape} (t : Fin 10) (d : Dev nD) (dst : Memref sig .tc .vmem s .bf16)
    (h : ∀ f1 f2 f3, ∃ fd, (landAt (F := F) t d f1 f2 f3) = (dst.view.loc (d : Thread nD τ) ↦[dst.view.set]{fullShare} fd)) :
    (land (F := F) t d) ⊢ iprop(∃ fd, (dst.view.loc (d : Thread nD τ) ↦[dst.view.set]{fullShare} fd)) := by
  unfold land
  have g : ∀ f1 f2 f3, (landAt (F := F) t d f1 f2 f3) ⊢ iprop(∃ fd, (dst.view.loc (d : Thread nD τ) ↦[dst.view.set]{fullShare} fd)) := fun f1 f2 f3 => by
    obtain ⟨fd, e⟩ := h f1 f2 f3
    rw [e]
    exact exists_intro (Φ := fun fd => (dst.view.loc (d : Thread nD τ) ↦[dst.view.set]{fullShare} fd)) fd
  iintro ⟨%f1, %f2, %f3, H⟩
  iapply (g f1 f2 f3); iexact H

/-- A wait for a transfer to land. -/
theorem wp_wtr {Q : PUnit → sProp 𝕄} {k : PR F} {s : Shape} (t : Fin 10) (l : List (Fin 10)) (src dst : Memref sig .tc .vmem s .bf16) (hs : src.view.WordExact) (hd : dst.view.WordExact)
    (hN : dst.view.dmaCredit = amt t) (hl : ∀ u ∈ l, rl t < rl u) :
    iprop(records m ρ K ∗ levAts L lv ∗ inc t c ∗ owes' c (owed c l))
      ⊢ iprop((recvPay m ρ t c -∗ semVal (recvCell t c) 0 -∗ owes' c (owed c l) -∗ WP c k Q) -∗ WP c (wt (rSem t) src dst hs hd k) Q) :=
  wp_rwait (k := fun _ => k) m ρ K c t l src dst (rSem t) (rSem_eq t) hN hl
/-- A wait for a transfer to have left. -/
theorem wp_wts {Q : PUnit → sProp 𝕄} {k : PR F} {s : Shape} (t : Fin 10) (src dst : Memref sig .tc .vmem s .bf16) (hs : src.view.WordExact) (hd : dst.view.WordExact)
    (hN : dst.view.dmaCredit = amt t) :
    iprop(records m ρ K ∗ levAts L lv ∗ snt t c ∗ owes' c 0)
      ⊢ iprop((sendPay m ρ t c -∗ semVal (sendCell t c) 0 -∗ owes' c 0 -∗ WP c k Q) -∗ WP c (wt (sSem t) src dst hs hd k) Q) :=
  wp_swait (k := fun _ => k) m ρ K c t src dst (sSem t) (sSem_eq t) hN

theorem wp_snd0 {Q : PUnit → sProp 𝕄} {k : PR F} (l : List (Fin 10)) (hs hd) :
    iprop(records m ρ K ∗ outg 0 c ∗ sendPay m ρ 0 c ∗ land (F := F) 0 (tgt 0 c) ∗ owes' c (owed c (0 :: l)))
      ⊢ iprop((snt 0 c -∗ owes' c (owed c l) -∗ WP c k Q) -∗ WP c (snd A6 (xgM 1) ⟨k0_dev4 c, k0_dev4_lt c⟩ (sSem 0) (rSem 0) hs hd k) Q) :=
  wp_snd m ρ K c 0 l _ (Fin.ext (k0_dev4_eq c)) A6 (xgM 1) hs hd rfl fullShare.right.left (X16 m ρ c : Vec F S2x256x768 .bf16) (XG m ρ (tgt 0 c) : Vec F S4x2x256x768 .bf16)
    (by rw [show A6.view.set = Finset.univ from View.set_whole _]; rfl) (land_at 0 _ (xgM 1) fun f1 f2 f3 => by rw [xgM_set 1]; exact ⟨f1, rfl⟩) (by rw [xgM_set 1]; rfl)
    (fun x => by
      refine Eq.trans ?_ (congrArg (XG m ρ (tgt 0 c)) (xgM_emb 1 x)).symm
      show X16 m ρ c x = _
      exact mv0 m ρ c x)
theorem wp_snd1 {Q : PUnit → sProp 𝕄} {k : PR F} (l : List (Fin 10)) (hs hd) :
    iprop(records m ρ K ∗ outg 1 c ∗ sendPay m ρ 1 c ∗ land (F := F) 1 (tgt 1 c) ∗ owes' c (owed c (1 :: l)))
      ⊢ iprop((snt 1 c -∗ owes' c (owed c l) -∗ WP c k Q) -∗ WP c (snd A6 (xgM 3) ⟨k0_dev5 c, k0_dev5_lt c⟩ (sSem 1) (rSem 1) hs hd k) Q) :=
  wp_snd m ρ K c 1 l _ (Fin.ext (k0_dev5_eq c)) A6 (xgM 3) hs hd rfl fullShare.right.right (X16 m ρ c : Vec F S2x256x768 .bf16) (XG m ρ (tgt 1 c) : Vec F S4x2x256x768 .bf16)
    (by rw [show A6.view.set = Finset.univ from View.set_whole _]; rfl) (land_at 1 _ (xgM 3) fun f1 f2 f3 => by rw [xgM_set 3]; exact ⟨f1, rfl⟩) (by rw [xgM_set 3]; rfl)
    (fun x => by
      refine Eq.trans ?_ (congrArg (XG m ρ (tgt 1 c)) (xgM_emb 3 x)).symm
      show X16 m ρ c x = _
      exact mv1 m ρ c x)
theorem wp_snd2 {Q : PUnit → sProp 𝕄} {k : PR F} (l : List (Fin 10)) (hs hd) :
    iprop(records m ρ K ∗ outg 2 c ∗ sendPay m ρ 2 c ∗ land (F := F) 2 (tgt 2 c) ∗ owes' c (owed c (2 :: l)))
      ⊢ iprop((snt 2 c -∗ owes' c (owed c l) -∗ WP c k Q) -∗ WP c (snd (xrM 1 0) (xrM 2 0) ⟨k0_dev8 c, k0_dev8_lt c⟩ (sSem 2) (rSem 2) hs hd k) Q) :=
  wp_snd m ρ K c 2 l _ (Fin.ext (k0_dev8_eq c)) (xrM 1 0) (xrM 2 0) hs hd rfl fullShare.right (XG m ρ c : Vec F S4x2x256x768 .bf16) (XG m ρ (tgt 2 c) : Vec F S4x2x256x768 .bf16)
    (by rw [xrM_set 1 0]; rfl) (land_at 2 _ (xrM 2 0) fun f1 f2 f3 => by rw [xrM_set 2 0]; exact ⟨f1, rfl⟩) (by rw [xrM_set 2 0]; rfl)
    (fun x => by
      refine Eq.trans ?_ (congrArg (XG m ρ (tgt 2 c)) (xrM_emb 2 0 x)).symm
      refine (congrArg (XG m ρ c) (xrM_emb 1 0 x)).trans ?_
      exact mv2 m ρ c x)
theorem wp_snd3 {Q : PUnit → sProp 𝕄} {k : PR F} (l : List (Fin 10)) (hs hd) :
    iprop(records m ρ K ∗ outg 3 c ∗ sendPay m ρ 3 c ∗ land (F := F) 3 (tgt 3 c) ∗ owes' c (owed c (3 :: l)))
      ⊢ iprop((snt 3 c -∗ owes' c (owed c l) -∗ WP c k Q) -∗ WP c (snd (xrM 3 1) (xrM 2 1) ⟨k0_dev9 c, k0_dev9_lt c⟩ (sSem 3) (rSem 3) hs hd k) Q) :=
  wp_snd m ρ K c 3 l _ (Fin.ext (k0_dev9_eq c)) (xrM 3 1) (xrM 2 1) hs hd rfl fullShare.right (XG m ρ c : Vec F S4x2x256x768 .bf16) (XG m ρ (tgt 3 c) : Vec F S4x2x256x768 .bf16)
    (by rw [xrM_set 3 1]; rfl) (land_at 3 _ (xrM 2 1) fun f1 f2 f3 => by rw [xrM_set 2 1]; exact ⟨f1, rfl⟩) (by rw [xrM_set 2 1]; rfl)
    (fun x => by
      refine Eq.trans ?_ (congrArg (XG m ρ (tgt 3 c)) (xrM_emb 2 1 x)).symm
      refine (congrArg (XG m ρ c) (xrM_emb 3 1 x)).trans ?_
      exact mv3 m ρ c x)
theorem wp_snd4 {Q : PUnit → sProp 𝕄} {k : PR F} (l : List (Fin 10)) (hs hd) :
    iprop(records m ρ K ∗ outg 4 c ∗ sendPay m ρ 4 c ∗ land (F := F) 4 (tgt 4 c) ∗ owes' c (owed c (4 :: l)))
      ⊢ iprop((snt 4 c -∗ owes' c (owed c l) -∗ WP c k Q) -∗ WP c (snd A9 (woM 1) ⟨k0_dev6 c, k0_dev6_lt c⟩ (sSem 4) (rSem 4) hs hd k) Q) :=
  wp_snd m ρ K c 4 l _ (Fin.ext (k0_dev6_eq c)) A9 (woM 1) hs hd rfl fullShare.right.left (WO16 m ρ c : Vec F S256x768 .bf16) (WOALL m ρ (tgt 4 c) : Vec F S4x256x768 .bf16)
    (by rw [show A9.view.set = Finset.univ from View.set_whole _]; rfl) (land_at 4 _ (woM 1) fun f1 f2 f3 => by rw [woM_set 1]; exact ⟨f2, rfl⟩) (by rw [woM_set 1]; rfl)
    (fun x => by
      refine Eq.trans ?_ (congrArg (WOALL m ρ (tgt 4 c)) (woM_emb 1 x)).symm
      show WO16 m ρ c x = _
      exact mv4 m ρ c x)
theorem wp_snd5 {Q : PUnit → sProp 𝕄} {k : PR F} (l : List (Fin 10)) (hs hd) :
    iprop(records m ρ K ∗ outg 5 c ∗ sendPay m ρ 5 c ∗ land (F := F) 5 (tgt 5 c) ∗ owes' c (owed c (5 :: l)))
      ⊢ iprop((snt 5 c -∗ owes' c (owed c l) -∗ WP c k Q) -∗ WP c (snd A9 (woM 3) ⟨k0_dev7 c, k0_dev7_lt c⟩ (sSem 5) (rSem 5) hs hd k) Q) :=
  wp_snd m ρ K c 5 l _ (Fin.ext (k0_dev7_eq c)) A9 (woM 3) hs hd rfl fullShare.right.right (WO16 m ρ c : Vec F S256x768 .bf16) (WOALL m ρ (tgt 5 c) : Vec F S4x256x768 .bf16)
    (by rw [show A9.view.set = Finset.univ from View.set_whole _]; rfl) (land_at 5 _ (woM 3) fun f1 f2 f3 => by rw [woM_set 3]; exact ⟨f2, rfl⟩) (by rw [woM_set 3]; rfl)
    (fun x => by
      refine Eq.trans ?_ (congrArg (WOALL m ρ (tgt 5 c)) (woM_emb 3 x)).symm
      show WO16 m ρ c x = _
      exact mv5 m ρ c x)
theorem wp_snd6 {Q : PUnit → sProp 𝕄} {k : PR F} (l : List (Fin 10)) (hs hd) :
    iprop(records m ρ K ∗ outg 6 c ∗ sendPay m ρ 6 c ∗ land (F := F) 6 (tgt 6 c) ∗ owes' c (owed c (6 :: l)))
      ⊢ iprop((snt 6 c -∗ owes' c (owed c l) -∗ WP c k Q) -∗ WP c (snd (woM 1) (woM 2) ⟨k0_dev10 c, k0_dev10_lt c⟩ (sSem 6) (rSem 6) hs hd k) Q) :=
  wp_snd m ρ K c 6 l _ (Fin.ext (k0_dev10_eq c)) (woM 1) (woM 2) hs hd rfl fullShare.right (WOALL m ρ c : Vec F S4x256x768 .bf16) (WOALL m ρ (tgt 6 c) : Vec F S4x256x768 .bf16)
    (by rw [woM_set 1]; rfl) (land_at 6 _ (woM 2) fun f1 f2 f3 => by rw [woM_set 2]; exact ⟨f2, rfl⟩) (by rw [woM_set 2]; rfl)
    (fun x => by
      refine Eq.trans ?_ (congrArg (WOALL m ρ (tgt 6 c)) (woM_emb 2 x)).symm
      refine (congrArg (WOALL m ρ c) (woM_emb 1 x)).trans ?_
      exact mv6 m ρ c x)
theorem wp_snd7 {Q : PUnit → sProp 𝕄} {k : PR F} (l : List (Fin 10)) (hs hd) :
    iprop(records m ρ K ∗ outg 7 c ∗ sendPay m ρ 7 c ∗ land (F := F) 7 (tgt 7 c) ∗ owes' c (owed c (7 :: l)))
      ⊢ iprop((snt 7 c -∗ owes' c (owed c l) -∗ WP c k Q) -∗ WP c (snd (cxM 3) (rxM 0) ⟨k0_dev13 c, k0_dev13_lt c⟩ (sSem 7) (rSem 7) hs hd k) Q) :=
  wp_snd m ρ K c 7 l _ (Fin.ext (k0_dev13_eq c)) (cxM 3) (rxM 0) hs hd rfl fullShare (CTXA m ρ c : Vec F S4x2x256x256 .bf16) (RX m ρ (tgt 7 c) : Vec F S3x2x256x256 .bf16)
    (by rw [cxM_set 3]; rfl) (land_at 7 _ (rxM 0) fun f1 f2 f3 => by rw [rxM_set 0]; exact ⟨f3, rfl⟩) (by rw [rxM_set 0]; rfl)
    (fun x => by
      refine Eq.trans ?_ (congrArg (RX m ρ (tgt 7 c)) (rxM_emb 0 x)).symm
      refine (congrArg (CTXA m ρ c) (cxM_emb 3 x)).trans ?_
      exact mv7 m ρ c x)
theorem wp_snd8 {Q : PUnit → sProp 𝕄} {k : PR F} (l : List (Fin 10)) (hs hd) :
    iprop(records m ρ K ∗ outg 8 c ∗ sendPay m ρ 8 c ∗ land (F := F) 8 (tgt 8 c) ∗ owes' c (owed c (8 :: l)))
      ⊢ iprop((snt 8 c -∗ owes' c (owed c l) -∗ WP c k Q) -∗ WP c (snd (cxM 1) (rxM 1) ⟨k0_dev12 c, k0_dev12_lt c⟩ (sSem 8) (rSem 8) hs hd k) Q) :=
  wp_snd m ρ K c 8 l _ (Fin.ext (k0_dev12_eq c)) (cxM 1) (rxM 1) hs hd rfl fullShare (CTXA m ρ c : Vec F S4x2x256x256 .bf16) (RX m ρ (tgt 8 c) : Vec F S3x2x256x256 .bf16)
    (by rw [cxM_set 1]; rfl) (land_at 8 _ (rxM 1) fun f1 f2 f3 => by rw [rxM_set 1]; exact ⟨f3, rfl⟩) (by rw [rxM_set 1]; rfl)
    (fun x => by
      refine Eq.trans ?_ (congrArg (RX m ρ (tgt 8 c)) (rxM_emb 1 x)).symm
      refine (congrArg (CTXA m ρ c) (cxM_emb 1 x)).trans ?_
      exact mv8 m ρ c x)
theorem wp_snd9 {Q : PUnit → sProp 𝕄} {k : PR F} (l : List (Fin 10)) (hs hd) :
    iprop(records m ρ K ∗ outg 9 c ∗ sendPay m ρ 9 c ∗ land (F := F) 9 (tgt 9 c) ∗ owes' c (owed c (9 :: l)))
      ⊢ iprop((snt 9 c -∗ owes' c (owed c l) -∗ WP c k Q) -∗ WP c (snd (cxM 2) (rxM 2) ⟨k0_dev11 c, k0_dev11_lt c⟩ (sSem 9) (rSem 9) hs hd k) Q) :=
  wp_snd m ρ K c 9 l _ (Fin.ext (k0_dev11_eq c)) (cxM 2) (rxM 2) hs hd rfl fullShare (CTXA m ρ c : Vec F S4x2x256x256 .bf16) (RX m ρ (tgt 9 c) : Vec F S3x2x256x256 .bf16)
    (by rw [cxM_set 2]; rfl) (land_at 9 _ (rxM 2) fun f1 f2 f3 => by rw [rxM_set 2]; exact ⟨f3, rfl⟩) (by rw [rxM_set 2]; rfl)
    (fun x => by
      refine Eq.trans ?_ (congrArg (RX m ρ (tgt 9 c)) (rxM_emb 2 x)).symm
      refine (congrArg (CTXA m ρ c) (cxM_emb 2 x)).trans ?_
      exact mv9 m ρ c x)

end Xfer

end Cert.KernelIdeal.Att

end
-- ==== Proof.Stages.lean ====
/-
The stages of the body: the barrier, the first transfers with the weights and the tables.
-/
module

public import proofs.«01_k».proof.Proof.Moves

@[expose] public section

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## The weights side by side -/

/-- One of the three weight blocks, narrowed. -/
def wpart (c : Dev nD) (n : Fin 3) : Vec F S768x256 .bf16 := match n with
  | 0 => k0_pay3 (wqin m ρ c)
  | 1 => k0_pay4 (wkin m ρ c)
  | 2 => k0_pay5 (wvin m ρ c)

theorem wqkv_at (c : Dev nD) (n : Fin 3) (i : S768x768.Idx) (x : S768x256.Idx) (h0 : (i 0).val = 0 + (x 0).val) (h1 : (i 1).val = 256 * n.val + (x 1).val) : WQKV m ρ c i = wpart m ρ c n x := by
  have hx : (x 1).val < 256 := (x 1).isLt
  have e : ∀ f : Vec F S768x256 .bf16, f (ix2 (i 0) (fin 256 (i 1).val)) = f x := fun f => at2 f (by show (i 0).val = _; omega) (by show (i 1).val % 256 = _; omega)
  unfold WQKV
  match n with
  | 0 => have h1 : (i 1).val = 256 * 0 + (x 1).val := h1
         rw [if_pos (by omega)]; exact e _
  | 1 => have h1 : (i 1).val = 256 * 1 + (x 1).val := h1
         rw [if_neg (by omega), if_pos (by omega)]; exact e _
  | 2 => have h1 : (i 1).val = 256 * 2 + (x 1).val := h1
         rw [if_neg (by omega), if_neg (by omega)]; exact e _

theorem wqkv_in (n : ℕ) (i : S768x768.Idx) (h0 : 256 * n ≤ (i 1).val) (h1 : (i 1).val < 256 * n + 256) :
    ∀ a, (![0, 256 * n] : Fin 2 → ℕ) a ≤ (i a).val ∧ (i a).val < (![0, 256 * n] : Fin 2 → ℕ) a + S768x256.size a := fun a => by
  have h2 : (i 0).val < 768 := (i 0).isLt
  match a with
  | 0 => simp; omega
  | 1 => simp; omega

/-! ## Whole loads and stores -/

theorem unit_zero {s : Shape} {off : Fin s.rank → ℕ} {inb} (h : ∀ a, off a = 0) (x : s.Idx) : (Rect.unit (s := s) off s.size inb).emb x = x :=
  funext fun a => Fin.ext ((emb_unit (inb := inb) x a).trans (by rw [h, Nat.zero_add]))

theorem wp_ldA {Q : PUnit → sProp 𝕄} {s : Shape} {e : EltTy} (c : Dev nD) (M : Memref sig .tc .vmem s e) (off : Fin s.rank → ℕ) (inb) (h : 0 < (Rect.unit (s := s) off s.size inb).shape.numel) {k : (s.Idx → Elt F e) → PR F}
    (h0 : ∀ a, off a = 0) (q : PosShare TreeShare) (f : Buf (Elt F) (M.view.loc (c : Thread nD τ))) :
    (M.view.loc (c : Thread nD τ) ↦{q} f) ⊢ iprop(((M.view.loc (c : Thread nD τ) ↦{q} f) -∗ WP c (k (M.view.read (Elt F) f)) Q) -∗ WP c (ld M (Rect.unit (s := s) off s.size inb) h k) Q) :=
  wp_ld c M (Rect.unit (s := s) off s.size inb) h Finset.univ q f (M.view.read (Elt F) f) (fun _ => Finset.mem_univ _) (fun x => congrArg (M.view.read (Elt F) f) (unit_zero h0 x))

theorem wp_fillA {Q : PUnit → sProp 𝕄} {s : Shape} {e : EltTy} (c : Dev nD) (M : Memref sig .tc .vmem s e) (off : Fin s.rank → ℕ) (inb) (h : 0 < (Rect.unit (s := s) off s.size inb).shape.numel) (w : s.Idx → Elt F e) (hx) {k : PR F}
    (h0 : ∀ a, off a = 0) (hM : ∀ i, ∃ x, M.view.emb x = i) (f T : Buf (Elt F) (M.view.loc (c : Thread nD τ))) (hw : M.view.read (Elt F) T = w) :
    (M.view.loc (c : Thread nD τ) ↦{fullShare} f) ⊢ iprop(((M.view.loc (c : Thread nD τ) ↦{fullShare} T) -∗ WP c k Q) -∗ WP c (fill M (Rect.unit (s := s) off s.size inb) h w hx k) Q) := by
  iintro H Hk
  ihave H := (part_start c M Finset.univ (fun _ => False) f f (fun _ h => h.elim)) $$ H
  iapply (wp_fill c M (Rect.unit (s := s) off s.size inb) h w hx (k := k) Finset.univ (fun _ => False) (fun _ => True) f T (fun _ => Finset.mem_univ _)
    (fun x => by rw [← hw]; exact congrArg (M.view.read (Elt F) T) (unit_zero h0 x).symm) (fun i _ => by
      obtain ⟨x, hx⟩ := hM i
      exact .inr ⟨x, (congrArg M.view.emb (unit_zero h0 x)).trans hx⟩)) $$ [H]
  · iexact H
  iintro H
  iapply Hk
  iapply (part_done c M Finset.univ (fun _ => True) T (fun _ _ => trivial)); iexact H

/-! ## What the stages hold -/

abbrev x16H (c : Dev nD) (q : PosShare TreeShare) : sProp 𝕄 := (c : Thread nD τ).loc cc0_scratch0 ↦{q} (X16 m ρ c : Vec F S2x256x768 .bf16)
abbrev wo16H (c : Dev nD) (q : PosShare TreeShare) : sProp 𝕄 := (c : Thread nD τ).loc cc0_scratch3 ↦{q} (WO16 m ρ c : Vec F S256x768 .bf16)
abbrev xgH (c : Dev nD) (r b : ℕ) (q : PosShare TreeShare) : sProp 𝕄 := (c : Thread nD τ).loc cc0_scratch1 ↦[xgR r b]{q} (XG m ρ c : Vec F S4x2x256x768 .bf16)
abbrev woH (c : Dev nD) (s : ℕ) (q : PosShare TreeShare) : sProp 𝕄 := (c : Thread nD τ).loc cc0_scratch4 ↦[woS s]{q} (WOALL m ρ c : Vec F S4x256x768 .bf16)
abbrev cxH (c : Dev nD) (r : ℕ) : sProp 𝕄 := (c : Thread nD τ).loc cc0_scratch8 ↦[cxS r]{fullShare} (CTXA m ρ c : Vec F S4x2x256x256 .bf16)
abbrev rxH (c : Dev nD) (k : ℕ) : sProp 𝕄 := (c : Thread nD τ).loc cc0_scratch9 ↦[rxS k]{fullShare} (RX m ρ c : Vec F S3x2x256x256 .bf16)
/-- The staged operands. -/
def ins (c : Dev nD) : sProp 𝕄 :=
  iprop(((c : Thread nD τ).loc cc0_stg0_0 ↦{fullShare} (xin m ρ c : Vec F S2x256x768 .f32)) ∗ ((c : Thread nD τ).loc cc0_stg1_0 ↦{fullShare} (wqin m ρ c : Vec F S768x256 .f32))
    ∗ ((c : Thread nD τ).loc cc0_stg2_0 ↦{fullShare} (wkin m ρ c : Vec F S768x256 .f32)) ∗ ((c : Thread nD τ).loc cc0_stg3_0 ↦{fullShare} (wvin m ρ c : Vec F S768x256 .f32))
    ∗ ((c : Thread nD τ).loc cc0_stg4_0 ↦{fullShare} (woin m ρ c : Vec F S256x768 .f32)))

theorem split3 {ℓ : Loc nD τ sig} {I : Finset (Idx ℓ)} {f : Buf (Elt F) ℓ} :
    (ℓ ↦[I]{fullShare} f : sProp 𝕄) ⊣⊢ iprop((ℓ ↦[I]{fullShare.left} f) ∗ (ℓ ↦[I]{fullShare.right.left} f) ∗ (ℓ ↦[I]{fullShare.right.right} f)) := by
  constructor
  · iintro H
    ihave H := (pointsTo_share (PosShare.mem_left_op_right fullShare)).1 $$ H
    icases H with ⟨H1, H2⟩
    ihave H2 := (pointsTo_share (PosShare.mem_left_op_right fullShare.right)).1 $$ H2
    icases H2 with ⟨H2, H3⟩
    isplitl [H1]; · iexact H1
    isplitl [H2]; · iexact H2
    iexact H3
  · iintro ⟨H1, H2, H3⟩
    iapply (pointsTo_share (PosShare.mem_left_op_right fullShare)).2
    isplitl [H1]; · iexact H1
    iapply (pointsTo_share (PosShare.mem_left_op_right fullShare.right)).2
    isplitl [H2]; · iexact H2
    iexact H3

theorem x16_lend (c : Dev nD) : (x16H m ρ c fullShare) ⊣⊢ iprop(x16H m ρ c fullShare.left ∗ sendPay m ρ 0 c ∗ sendPay m ρ 1 c) := split3
theorem wo16_lend (c : Dev nD) : (wo16H m ρ c fullShare) ⊣⊢ iprop(wo16H m ρ c fullShare.left ∗ sendPay m ρ 4 c ∗ sendPay m ρ 5 c) := split3

theorem xgS_split (r : ℕ) : xgS r = xgR r 0 ∪ xgR r 1 := by
  ext (i : S4x2x256x768.Idx)
  have h1 : (i 1).val < 2 := (i 1).isLt
  simp only [xgS, xgR, Finset.mem_union, Finset.mem_filter, Finset.mem_univ, true_and]
  omega
theorem xgR_disj (r : ℕ) : Disjoint (xgR r 0) (xgR r 1) :=
  Finset.disjoint_left.mpr fun i h h' => by have h1 := (Finset.mem_filter.mp h).2.2; have h2 := (Finset.mem_filter.mp h').2.2; omega

theorem recv0 (c : Dev nD) : (recvPay m ρ 0 c) ⊣⊢ iprop(xgH m ρ c 1 0 fullShare.left ∗ sendPay m ρ 2 c ∗ xgH m ρ c 1 1 fullShare) := by
  rw [show (recvPay m ρ 0 c) = ((c : Thread nD τ).loc cc0_scratch1 ↦[xgS 1]{fullShare} (XG m ρ c : Vec F S4x2x256x768 .bf16) : sProp 𝕄) from rfl, xgS_split]
  refine (pointsTo_union (xgR_disj 1)).trans ⟨(sep_mono_left (pointsTo_share (PosShare.mem_left_op_right fullShare)).1).trans sep_assoc.1, sep_assoc.2.trans (sep_mono_left (pointsTo_share (PosShare.mem_left_op_right fullShare)).2)⟩
theorem recv1 (c : Dev nD) : (recvPay m ρ 1 c) ⊣⊢ iprop(xgH m ρ c 3 0 fullShare ∗ xgH m ρ c 3 1 fullShare.left ∗ sendPay m ρ 3 c) := by
  rw [show (recvPay m ρ 1 c) = ((c : Thread nD τ).loc cc0_scratch1 ↦[xgS 3]{fullShare} (XG m ρ c : Vec F S4x2x256x768 .bf16) : sProp 𝕄) from rfl, xgS_split]
  exact (pointsTo_union (xgR_disj 3)).trans ⟨sep_mono_right (pointsTo_share (PosShare.mem_left_op_right fullShare)).1, sep_mono_right (pointsTo_share (PosShare.mem_left_op_right fullShare)).2⟩
theorem recv4 (c : Dev nD) : (recvPay m ρ 4 c) ⊣⊢ iprop(woH m ρ c 1 fullShare.left ∗ sendPay m ρ 6 c) := pointsTo_share (PosShare.mem_left_op_right fullShare)

/-! ## The stages -/

section Stages

variable (K : Dev nD × Ck → ℕ) (c : Dev nD)

/-- The device's part of the barrier. -/
def barSt : sProp 𝕄 :=
  iprop(dutyTok ER (barCell (rot c 3)) 0 0 ∗ dutyTok ER (barCell (rot c 1)) 0 1 ∗ dutyTok ER (barCell (rot c 2)) 0 2 ∗ atPos ER (barCell c) 0 ∅ 0 ∗ cred (tallyAt (barCell c) () 3))

theorem wp_barP {Q : PUnit → sProp 𝕄} {k : PR F} :
    iprop(records m ρ K ∗ levAts L lv ∗ barSt c ∗ barPay (F := F) (rot c 3) 0 ∗ barPay (F := F) (rot c 1) 1 ∗ barPay (F := F) (rot c 2) 2 ∗ owes' c (O₀ c))
      ⊢ iprop((barPay (F := F) c 0 ∗ barPay (F := F) c 1 ∗ barPay (F := F) c 2 -∗ semVal (barCell c) 0 -∗ owes' c (owed c order) -∗ WP c k Q) -∗ WP c (barP c k) Q) := by
  unfold barP barSt
  simp only [semSignalWord, semWaitWord, Prog.lift, Prog.bind_op, Prog.bind_ret, Prog.pure_eq_ret]
  iintro ⟨#HR, #Hlev, ⟨Ht0, Ht1, Ht2, Hat, Hcr⟩, Hp0, Hp1, Hp2, HO⟩ Hk
  iapply (wp_sig m ρ K c ⟨k0_dev1 c, k0_dev1_lt c⟩ (rot c 3) (Fin.ext (k0_dev1_eq c)) 0 (O₀ c) (O₁ c) rfl _ rfl) $$ [Ht0 Hp0 HO]
  · isplitr; · iexact HR
    isplitl [Ht0]; · iexact Ht0
    isplitl [Hp0]; · iexact Hp0
    iexact HO
  iintro HO
  iapply (wp_sig m ρ K c ⟨k0_dev2 c, k0_dev2_lt c⟩ (rot c 1) (Fin.ext (k0_dev2_eq c)) 1 (O₁ c) (O₂ c) rfl _ rfl) $$ [Ht1 Hp1 HO]
  · isplitr; · iexact HR
    isplitl [Ht1]; · iexact Ht1
    isplitl [Hp1]; · iexact Hp1
    iexact HO
  iintro HO
  iapply (wp_sig m ρ K c ⟨k0_dev3 c, k0_dev3_lt c⟩ (rot c 2) (Fin.ext (k0_dev3_eq c)) 2 (O₂ c) (O₃ c) rfl _ rfl) $$ [Ht2 Hp2 HO]
  · isplitr; · iexact HR
    isplitl [Ht2]; · iexact Ht2
    isplitl [Hp2]; · iexact Hp2
    iexact HO
  iintro HO
  iapply (wp_bar m ρ K c _ rfl) $$ [Hat Hcr HO]
  · isplitr; · iexact HR
    isplitr; · iexact Hlev
    isplitl [Hat]; · iexact Hat
    isplitl [Hcr]; · iexact Hcr
    iexact HO
  iexact Hk

/-- The narrowing, the first transfers, the weights and the tables. -/
theorem wp_preP {Q : PUnit → sProp 𝕄} {k : PR F} (f0 : Vec F S2x256x768 .bf16) (f2 : Vec F S768x768 .bf16) (f3 : Vec F S256x768 .bf16) (f10 f11 : Vec F S1024x256 .f32) :
    iprop(records m ρ K ∗ ins m ρ c ∗ ((c : Thread nD τ).loc cc0_scratch0 ↦{fullShare} f0) ∗ ((c : Thread nD τ).loc cc0_scratch2 ↦{fullShare} f2) ∗ ((c : Thread nD τ).loc cc0_scratch3 ↦{fullShare} f3)
        ∗ ((c : Thread nD τ).loc cc0_scratch10 ↦{fullShare} f10) ∗ ((c : Thread nD τ).loc cc0_scratch11 ↦{fullShare} f11)
        ∗ (outg (F := F) 0 c ∗ outg (F := F) 1 c ∗ outg (F := F) 4 c ∗ outg (F := F) 5 c) ∗ (land (F := F) 0 (tgt 0 c) ∗ land (F := F) 1 (tgt 1 c) ∗ land (F := F) 4 (tgt 4 c) ∗ land (F := F) 5 (tgt 5 c)) ∗ owes' c (owed c order))
      ⊢ iprop((ins m ρ c -∗ x16H m ρ c fullShare.left -∗ wo16H m ρ c fullShare.left -∗ tabs m ρ c -∗ (snt (F := F) 0 c ∗ snt (F := F) 1 c ∗ snt (F := F) 4 c ∗ snt (F := F) 5 c) -∗ owes' c (owed c [2, 3, 6, 9, 8, 7]) -∗ WP c k Q)
        -∗ WP c (preP c k) Q) := by
  unfold preP ins
  iintro ⟨#HR, ⟨Hi0, Hi1, Hi2, Hi3, Hi4⟩, H0, H2, H3, H10, H11, ⟨Ho0, Ho1, Ho4, Ho5⟩, ⟨Hl0, Hl1, Hl4, Hl5⟩, HO⟩ Hk
  iapply (wp_ldA c A0 ![0, 0, 0] inb_S2x256x768_S2x256x768_0_0_0 h_S2x256x768 (by decide) fullShare (xin m ρ c : Vec F S2x256x768 .f32)) $$ [Hi0]; · iexact Hi0
  iintro Hi0
  iapply (wp_fillA c A6 ![0, 0, 0] inb_S2x256x768_S2x256x768_0_0_0 h_S2x256x768 (X16 m ρ c) _ (by decide) (fun i => ⟨i, rfl⟩) f0 (X16 m ρ c : Vec F S2x256x768 .bf16) rfl) $$ [H0]; · iexact H0
  iintro H0
  ihave H0 := (show x16H m ρ c fullShare ⊢ _ from (x16_lend m ρ c).1) $$ H0
  icases H0 with ⟨H0, Hs0, Hs1⟩
  iapply (wp_snd0 m ρ K c [1, 4, 5, 2, 3, 6, 9, 8, 7] _ _) $$ [Ho0 Hs0 Hl0 HO]
  · isplitr; · iexact HR
    isplitl [Ho0]; · iexact Ho0
    isplitl [Hs0]; · iexact Hs0
    isplitl [Hl0]; · iexact Hl0
    iexact HO
  iintro Ht0 HO
  iapply (wp_snd1 m ρ K c [4, 5, 2, 3, 6, 9, 8, 7] _ _) $$ [Ho1 Hs1 Hl1 HO]
  · isplitr; · iexact HR
    isplitl [Ho1]; · iexact Ho1
    isplitl [Hs1]; · iexact Hs1
    isplitl [Hl1]; · iexact Hl1
    iexact HO
  iintro Ht1 HO
  iapply (wp_ldA c A4 ![0, 0] inb_S256x768_S256x768_0_0 h_S256x768 (by decide) fullShare (woin m ρ c : Vec F S256x768 .f32)) $$ [Hi4]; · iexact Hi4
  iintro Hi4
  iapply (wp_fillA c A9 ![0, 0] inb_S256x768_S256x768_0_0 h_S256x768 (WO16 m ρ c) _ (by decide) (fun i => ⟨i, rfl⟩) f3 (WO16 m ρ c : Vec F S256x768 .bf16) rfl) $$ [H3]; · iexact H3
  iintro H3
  ihave H3 := (show wo16H m ρ c fullShare ⊢ _ from (wo16_lend m ρ c).1) $$ H3
  icases H3 with ⟨H3, Hs4, Hs5⟩
  iapply (wp_snd4 m ρ K c [5, 2, 3, 6, 9, 8, 7] _ _) $$ [Ho4 Hs4 Hl4 HO]
  · isplitr; · iexact HR
    isplitl [Ho4]; · iexact Ho4
    isplitl [Hs4]; · iexact Hs4
    isplitl [Hl4]; · iexact Hl4
    iexact HO
  iintro Ht4 HO
  iapply (wp_snd5 m ρ K c [2, 3, 6, 9, 8, 7] _ _) $$ [Ho5 Hs5 Hl5 HO]
  · isplitr; · iexact HR
    isplitl [Ho5]; · iexact Ho5
    isplitl [Hs5]; · iexact Hs5
    isplitl [Hl5]; · iexact Hl5
    iexact HO
  iintro Ht5 HO
  ihave H2 := (part_start c A8 Finset.univ (fun _ => False) (WQKV m ρ c : Vec F S768x768 .bf16) f2 (fun _ h => h.elim)) $$ H2
  iapply (wp_ldA c A1 ![0, 0] inb_S768x256_S768x256_0_0 h_S768x256 (by decide) fullShare (wqin m ρ c : Vec F S768x256 .f32)) $$ [Hi1]; · iexact Hi1
  iintro Hi1
  iapply (wp_fill c A8 (Rect.unit (s := S768x768) ![0, 0] S768x256.size inb_S768x768_S768x256_0_0) h_S768x256 (k0_pay3 (wqin m ρ c)) _ Finset.univ (fun _ => False) (fun i : S768x768.Idx => (i 1).val < 256) (WQKV m ρ c : Vec F S768x768 .bf16) (WQKV m ρ c : Vec F S768x768 .bf16)
    (fun _ => Finset.mem_univ _) (fun x => (wqkv_at m ρ c 0 _ x (emb_unit (inb := inb_S768x768_S768x256_0_0) x 0) (emb_unit (inb := inb_S768x768_S768x256_0_0) x 1)).symm)
    (fun (i : S768x768.Idx) hi => .inr (in_unit (wqkv_in 0 i (by omega) (by omega))))) $$ [H2]
  · iexact H2
  iintro H2
  iapply (wp_ldA c A2 ![0, 0] inb_S768x256_S768x256_0_0 h_S768x256 (by decide) fullShare (wkin m ρ c : Vec F S768x256 .f32)) $$ [Hi2]; · iexact Hi2
  iintro Hi2
  iapply (wp_fill c A8 (Rect.unit (s := S768x768) ![0, 256] S768x256.size inb_S768x768_S768x256_0_256) h_S768x256 (k0_pay4 (wkin m ρ c)) _ Finset.univ (fun i : S768x768.Idx => (i 1).val < 256) (fun i : S768x768.Idx => (i 1).val < 512) (WQKV m ρ c : Vec F S768x768 .bf16) (WQKV m ρ c : Vec F S768x768 .bf16)
    (fun _ => Finset.mem_univ _) (fun x => (wqkv_at m ρ c 1 _ x (emb_unit (inb := inb_S768x768_S768x256_0_256) x 0) (emb_unit (inb := inb_S768x768_S768x256_0_256) x 1)).symm)
    (fun (i : S768x768.Idx) (hi : (i 1).val < 512) => (Nat.lt_or_ge (i 1).val 256).imp (fun h => ⟨h, rfl⟩) fun h => in_unit (wqkv_in 1 i (by omega) (by omega)))) $$ [H2]
  · iexact H2
  iintro H2
  iapply (wp_ldA c A3 ![0, 0] inb_S768x256_S768x256_0_0 h_S768x256 (by decide) fullShare (wvin m ρ c : Vec F S768x256 .f32)) $$ [Hi3]; · iexact Hi3
  iintro Hi3
  iapply (wp_fill c A8 (Rect.unit (s := S768x768) ![0, 512] S768x256.size inb_S768x768_S768x256_0_512) h_S768x256 (k0_pay5 (wvin m ρ c)) _ Finset.univ (fun i : S768x768.Idx => (i 1).val < 512) (fun _ => True) (WQKV m ρ c : Vec F S768x768 .bf16) (WQKV m ρ c : Vec F S768x768 .bf16)
    (fun _ => Finset.mem_univ _) (fun x => (wqkv_at m ρ c 2 _ x (emb_unit (inb := inb_S768x768_S768x256_0_512) x 0) (emb_unit (inb := inb_S768x768_S768x256_0_512) x 1)).symm)
    (fun (i : S768x768.Idx) _ => (Nat.lt_or_ge (i 1).val 512).imp (fun h => ⟨h, rfl⟩) fun h => in_unit (wqkv_in 2 i (by omega) (by have : (i 1).val < 768 := (i 1).isLt; omega)))) $$ [H2]
  · iexact H2
  iintro H2
  ihave H2 := (part_done c A8 Finset.univ (fun _ => True) (WQKV m ρ c : Vec F S768x768 .bf16) (fun _ _ => trivial)) $$ H2
  iapply (wp_fillA c A16 ![0, 0] inb_S1024x256_S1024x256_0_0 h_S1024x256 COS _ (by decide) (fun i => ⟨i, rfl⟩) f10 (COS : Vec F S1024x256 .f32) rfl) $$ [H10]; · iexact H10
  iintro H10
  iapply (wp_fillA c A17 ![0, 0] inb_S1024x256_S1024x256_0_0 h_S1024x256 SIN _ (by decide) (fun i => ⟨i, rfl⟩) f11 (SIN : Vec F S1024x256 .f32) rfl) $$ [H11]; · iexact H11
  iintro H11
  iapply Hk $$ [Hi0 Hi1 Hi2 Hi3 Hi4] [H0] [H3] [H2 H10 H11] [Ht0 Ht1 Ht4 Ht5] [HO]
  · isplitl [Hi0]; · iexact Hi0
    isplitl [Hi1]; · iexact Hi1
    isplitl [Hi2]; · iexact Hi2
    isplitl [Hi3]; · iexact Hi3
    iexact Hi4
  · iexact H0
  · iexact H3
  · unfold tabs
    isplitl [H10]; · iexact H10
    isplitl [H11]; · iexact H11
    iexact H2
  · isplitl [Ht0]; · iexact Ht0
    isplitl [Ht1]; · iexact Ht1
    isplitl [Ht4]; · iexact Ht4
    iexact Ht5
  · iexact HO

end Stages

end Cert.KernelIdeal.Att

end
-- ==== Proof.Late.lean ====
/-
The later stages of the body: the gathering and the projections, the attention, the result, the last waits.
-/
module

public import proofs.«01_k».proof.Proof.Stages

@[expose] public section

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

section Stages

variable (K : Dev nD × Ck → ℕ) (c : Dev nD)

/-- The slots of the gathered input after the gathering: what is kept of them while halves are being passed on. -/
def xgK : sProp 𝕄 :=
  iprop(xgH m ρ c 1 0 fullShare.left ∗ xgH m ρ c 1 1 fullShare ∗ xgH m ρ c 3 0 fullShare ∗ xgH m ρ c 3 1 fullShare.left ∗ xgH m ρ c 2 0 fullShare ∗ xgH m ρ c 2 1 fullShare)

theorem blk_cases (n : ℕ) (h : n < 4) : n = blk c 0 ∨ n = blk c 1 ∨ n = blk c 3 ∨ n = blk c 2 := by
  have hc : c.val < 4 := c.isLt
  show n = (c.val + (4 - 0)) % 4 ∨ n = (c.val + (4 - 1)) % 4 ∨ n = (c.val + (4 - 3)) % 4 ∨ n = (c.val + (4 - 2)) % 4
  omega

/-- The gathering and the projections. -/
theorem wp_gatP {Q : PUnit → sProp 𝕄} {k : PR F} :
    iprop(records m ρ K ∗ levAts L lv ∗ tabs m ρ c ∗ x16H m ρ c fullShare.left ∗ partQ m ρ c (fun _ => False)
        ∗ (inc (F := F) 0 c ∗ inc (F := F) 1 c ∗ inc (F := F) 2 c ∗ inc (F := F) 3 c ∗ inc (F := F) 4 c) ∗ (outg (F := F) 2 c ∗ outg (F := F) 3 c ∗ outg (F := F) 6 c)
        ∗ (land (F := F) 2 (tgt 2 c) ∗ land (F := F) 3 (tgt 3 c) ∗ land (F := F) 6 (tgt 6 c)) ∗ owes' c (owed c [2, 3, 6, 9, 8, 7]))
      ⊢ iprop((tabs m ρ c -∗ x16H m ρ c fullShare.left -∗ qkv m ρ c -∗ xgK m ρ c -∗ woH m ρ c 1 fullShare.left -∗ (snt (F := F) 2 c ∗ snt (F := F) 3 c ∗ snt (F := F) 6 c)
          -∗ (semVal (recvCell 0 c) 0 ∗ semVal (recvCell 1 c) 0 ∗ semVal (recvCell 2 c) 0 ∗ semVal (recvCell 3 c) 0 ∗ semVal (recvCell 4 c) 0) -∗ owes' c (owed c [9, 8, 7]) -∗ WP c k Q)
        -∗ WP c (gatP c k) Q) := by
  unfold gatP
  iintro ⟨#HR, #Hlev, Ht, Hx, Hq, ⟨Hi0, Hi1, Hi2, Hi3, Hi4⟩, ⟨Ho2, Ho3, Ho6⟩, ⟨Hl2, Hl3, Hl6⟩, HO⟩ Hk
  iapply (wp_proj0P m ρ c fullShare.left (fun _ => False) (fun i => (i 1).val / 256 = blk c 0) (fun i h => .inr h)) $$ [Ht Hx Hq]
  · isplitl [Ht]; · iexact Ht
    isplitl [Hx]; · iexact Hx
    iexact Hq
  iintro Ht Hx Hq
  iapply (wp_wtr m ρ K c 0 [2, 3, 6, 9, 8, 7] A6 (xgM 1) _ _ rfl (by decide)) $$ [Hi0 HO]
  · isplitr; · iexact HR
    isplitr; · iexact Hlev
    isplitl [Hi0]; · iexact Hi0
    iexact HO
  iintro Hp Hz0 HO
  ihave Hp := (recv0 m ρ c).1 $$ Hp
  icases Hp with ⟨Hg10, Hs2, Hg11⟩
  iapply (wp_snd2 m ρ K c [3, 6, 9, 8, 7] _ _) $$ [Ho2 Hs2 Hl2 HO]
  · isplitr; · iexact HR
    isplitl [Ho2]; · iexact Ho2
    isplitl [Hs2]; · iexact Hs2
    isplitl [Hl2]; · iexact Hl2
    iexact HO
  iintro Ht2 HO
  iapply (wp_wtr m ρ K c 1 [3, 6, 9, 8, 7] A6 (xgM 3) _ _ rfl (by decide)) $$ [Hi1 HO]
  · isplitr; · iexact HR
    isplitr; · iexact Hlev
    isplitl [Hi1]; · iexact Hi1
    iexact HO
  iintro Hp Hz1 HO
  ihave Hp := (recv1 m ρ c).1 $$ Hp
  icases Hp with ⟨Hg30, Hg31, Hs3⟩
  iapply (wp_snd3 m ρ K c [6, 9, 8, 7] _ _) $$ [Ho3 Hs3 Hl3 HO]
  · isplitr; · iexact HR
    isplitl [Ho3]; · iexact Ho3
    isplitl [Hs3]; · iexact Hs3
    isplitl [Hl3]; · iexact Hl3
    iexact HO
  iintro Ht3 HO
  iapply (wp_projP m ρ c 2 1 rfl fullShare.left fullShare (fun i => (i 1).val / 256 = blk c 0) (fun i => (i 1).val / 256 = blk c 0 ∨ (i 1).val / 256 = blk c 1) (fun i h => h)) $$ [Ht Hg10 Hg11 Hq]
  · isplitl [Ht]; · iexact Ht
    isplitl [Hg10]; · iexact Hg10
    isplitl [Hg11]; · iexact Hg11
    iexact Hq
  iintro Ht Hg10 Hg11 Hq
  iapply (wp_projP m ρ c 0 3 rfl fullShare fullShare.left (fun i => (i 1).val / 256 = blk c 0 ∨ (i 1).val / 256 = blk c 1) (fun i => (i 1).val / 256 = blk c 0 ∨ (i 1).val / 256 = blk c 1 ∨ (i 1).val / 256 = blk c 3) (fun i h => or_assoc.mpr h)) $$ [Ht Hg30 Hg31 Hq]
  · isplitl [Ht]; · iexact Ht
    isplitl [Hg30]; · iexact Hg30
    isplitl [Hg31]; · iexact Hg31
    iexact Hq
  iintro Ht Hg30 Hg31 Hq
  iapply (wp_wtr m ρ K c 4 [6, 9, 8, 7] A9 (woM 1) _ _ rfl (by decide)) $$ [Hi4 HO]
  · isplitr; · iexact HR
    isplitr; · iexact Hlev
    isplitl [Hi4]; · iexact Hi4
    iexact HO
  iintro Hp Hz4 HO
  ihave Hp := (recv4 m ρ c).1 $$ Hp
  icases Hp with ⟨Hw1, Hs6⟩
  iapply (wp_snd6 m ρ K c [9, 8, 7] _ _) $$ [Ho6 Hs6 Hl6 HO]
  · isplitr; · iexact HR
    isplitl [Ho6]; · iexact Ho6
    isplitl [Hs6]; · iexact Hs6
    isplitl [Hl6]; · iexact Hl6
    iexact HO
  iintro Ht6 HO
  iapply (wp_wtr m ρ K c 2 [9, 8, 7] (xrM 1 0) (xrM 2 0) _ _ rfl (by decide)) $$ [Hi2 HO]
  · isplitr; · iexact HR
    isplitr; · iexact Hlev
    isplitl [Hi2]; · iexact Hi2
    iexact HO
  iintro Hg20 Hz2 HO
  iapply (wp_wtr m ρ K c 3 [9, 8, 7] (xrM 3 1) (xrM 2 1) _ _ rfl (by decide)) $$ [Hi3 HO]
  · isplitr; · iexact HR
    isplitr; · iexact Hlev
    isplitl [Hi3]; · iexact Hi3
    iexact HO
  iintro Hg21 Hz3 HO
  ihave Hg20 := (show recvPay m ρ 2 c ⊢ xgH m ρ c 2 0 fullShare from Entails.of_eq rfl) $$ Hg20
  ihave Hg21 := (show recvPay m ρ 3 c ⊢ xgH m ρ c 2 1 fullShare from Entails.of_eq rfl) $$ Hg21
  iapply (wp_projP m ρ c 1 2 rfl fullShare fullShare (fun i => (i 1).val / 256 = blk c 0 ∨ (i 1).val / 256 = blk c 1 ∨ (i 1).val / 256 = blk c 3) (fun _ => True) (fun i _ => by
    have h1 : (i 1).val < 1024 := (i 1).isLt
    rcases blk_cases c ((i 1).val / 256) (by omega) with h | h | h | h
    · exact .inl (.inl h)
    · exact .inl (.inr (.inl h))
    · exact .inl (.inr (.inr h))
    · exact .inr h)) $$ [Ht Hg20 Hg21 Hq]
  · isplitl [Ht]; · iexact Ht
    isplitl [Hg20]; · iexact Hg20
    isplitl [Hg21]; · iexact Hg21
    iexact Hq
  iintro Ht Hg20 Hg21 Hq
  unfold partQ
  icases Hq with ⟨Hq1, Hq2, Hq3⟩
  ihave Hq1 := (part_done c A11 Finset.univ (fun _ => True) (QP m ρ c : Vec F S2x1024x256 .bf16) (fun _ _ => trivial)) $$ Hq1
  ihave Hq2 := (part_done c A12 Finset.univ (fun _ => True) (KP m ρ c : Vec F S2x1024x256 .bf16) (fun _ _ => trivial)) $$ Hq2
  ihave Hq3 := (part_done c A13 Finset.univ (fun _ => True) (VP m ρ c : Vec F S2x1024x256 .bf16) (fun _ _ => trivial)) $$ Hq3
  iapply Hk $$ [Ht] [Hx] [Hq1 Hq2 Hq3] [Hg10 Hg11 Hg30 Hg31 Hg20 Hg21] [Hw1] [Ht2 Ht3 Ht6] [Hz0 Hz1 Hz2 Hz3 Hz4] [HO]
  · iexact Ht
  · iexact Hx
  · unfold qkv
    isplitl [Hq1]; · iexact Hq1
    isplitl [Hq2]; · iexact Hq2
    iexact Hq3
  · unfold xgK
    isplitl [Hg10]; · iexact Hg10
    isplitl [Hg11]; · iexact Hg11
    isplitl [Hg30]; · iexact Hg30
    isplitl [Hg31]; · iexact Hg31
    isplitl [Hg20]; · iexact Hg20
    iexact Hg21
  · iexact Hw1
  · isplitl [Ht2]; · iexact Ht2
    isplitl [Ht3]; · iexact Ht3
    iexact Ht6
  · isplitl [Hz0]; · iexact Hz0
    isplitl [Hz1]; · iexact Hz1
    isplitl [Hz2]; · iexact Hz2
    isplitl [Hz3]; · iexact Hz3
    iexact Hz4
  · iexact HO

/-- The attention, each block sent when it is ready. -/
theorem wp_attP {Q : PUnit → sProp 𝕄} {k : PR F} (f0 f1 f2 f3 : Vec F S4x2x256x256 .bf16) :
    iprop(records m ρ K ∗ qkv m ρ c
        ∗ (((c : Thread nD τ).loc cc0_scratch8 ↦[cxS (0 : Fin 4).val]{fullShare} f0) ∗ ((c : Thread nD τ).loc cc0_scratch8 ↦[cxS (1 : Fin 4).val]{fullShare} f1) ∗ ((c : Thread nD τ).loc cc0_scratch8 ↦[cxS (2 : Fin 4).val]{fullShare} f2) ∗ ((c : Thread nD τ).loc cc0_scratch8 ↦[cxS (3 : Fin 4).val]{fullShare} f3))
        ∗ (outg (F := F) 9 c ∗ outg (F := F) 8 c ∗ outg (F := F) 7 c) ∗ (land (F := F) 9 (tgt 9 c) ∗ land (F := F) 8 (tgt 8 c) ∗ land (F := F) 7 (tgt 7 c)) ∗ owes' c (owed c [9, 8, 7]))
      ⊢ iprop((qkv m ρ c -∗ cxH m ρ c 0 -∗ (snt (F := F) 9 c ∗ snt (F := F) 8 c ∗ snt (F := F) 7 c) -∗ owes' c (owed c []) -∗ WP c k Q) -∗ WP c (attP c k) Q) := by
  unfold attP
  iintro ⟨#HR, Hq, ⟨Hc0, Hc1, Hc2, Hc3⟩, ⟨Ho9, Ho8, Ho7⟩, ⟨Hl9, Hl8, Hl7⟩, HO⟩ Hk
  iapply (wp_attnP m ρ c 1 2 rfl f2) $$ [Hq Hc2]
  · isplitl [Hq]; · iexact Hq
    iexact Hc2
  iintro Hq Hc2
  iapply (wp_snd9 m ρ K c [8, 7] _ _) $$ [Ho9 Hc2 Hl9 HO]
  · isplitr; · iexact HR
    isplitl [Ho9]; · iexact Ho9
    isplitl [Hc2]; · iapply (show cxH m ρ c 2 ⊢ sendPay m ρ 9 c from Entails.of_eq rfl); iexact Hc2
    isplitl [Hl9]; · iexact Hl9
    iexact HO
  iintro Ht9 HO
  iapply (wp_attnP m ρ c 2 1 rfl f1) $$ [Hq Hc1]
  · isplitl [Hq]; · iexact Hq
    iexact Hc1
  iintro Hq Hc1
  iapply (wp_snd8 m ρ K c [7] _ _) $$ [Ho8 Hc1 Hl8 HO]
  · isplitr; · iexact HR
    isplitl [Ho8]; · iexact Ho8
    isplitl [Hc1]; · iapply (show cxH m ρ c 1 ⊢ sendPay m ρ 8 c from Entails.of_eq rfl); iexact Hc1
    isplitl [Hl8]; · iexact Hl8
    iexact HO
  iintro Ht8 HO
  iapply (wp_attnP m ρ c 0 3 rfl f3) $$ [Hq Hc3]
  · isplitl [Hq]; · iexact Hq
    iexact Hc3
  iintro Hq Hc3
  iapply (wp_snd7 m ρ K c [] _ _) $$ [Ho7 Hc3 Hl7 HO]
  · isplitr; · iexact HR
    isplitl [Ho7]; · iexact Ho7
    isplitl [Hc3]; · iapply (show cxH m ρ c 3 ⊢ sendPay m ρ 7 c from Entails.of_eq rfl); iexact Hc3
    isplitl [Hl7]; · iexact Hl7
    iexact HO
  iintro Ht7 HO
  iapply (wp_attnP m ρ c 3 0 rfl f0) $$ [Hq Hc0]
  · isplitl [Hq]; · iexact Hq
    iexact Hc0
  iintro Hq Hc0
  iapply Hk $$ [Hq] [Hc0] [Ht9 Ht8 Ht7] [HO]
  · iexact Hq
  · iexact Hc0
  · isplitl [Ht9]; · iexact Ht9
    isplitl [Ht8]; · iexact Ht8
    iexact Ht7
  · iexact HO

/-- A landing context and its two additions. -/
theorem wp_acc2P {Q : PUnit → sProp 𝕄} {k : PR F} (t : Fin 10) (kx : Fin 3) (s : Fin 4) (q : PosShare TreeShare) (n : ℕ) (hN : (rxM kx).view.dmaCredit = amt t)
    (hp : recvPay m ρ t c = rxH m ρ c kx.val) (hs : ∀ b, outS m ρ c b (n + 1) = k0_pay120 (outS m ρ c b n) (rxB m ρ c kx.val b) (woB m ρ c s.val)) :
    iprop(records m ρ K ∗ levAts L lv ∗ inc (F := F) t c ∗ woH m ρ c s.val q ∗ outA m ρ c n n ∗ owes' c (owed c []))
      ⊢ iprop((rxH m ρ c kx.val -∗ semVal (recvCell t c) 0 -∗ woH m ρ c s.val q -∗ outA m ρ c (n + 1) (n + 1) -∗ owes' c (owed c []) -∗ WP c k Q) -∗ WP c (acc2P t kx s k) Q) := by
  unfold acc2P
  iintro ⟨#HR, #Hlev, Hi, Hw, Ho, HO⟩ Hk
  iapply (wp_wtr m ρ K c t [] (cxM 0) (rxM kx) _ _ hN (fun _ h => absurd h List.not_mem_nil)) $$ [Hi HO]
  · isplitr; · iexact HR
    isplitr; · iexact Hlev
    isplitl [Hi]; · iexact Hi
    iexact HO
  iintro Hp Hz HO
  ihave Hp := (Entails.of_eq hp) $$ Hp
  iapply (wp_accP m ρ c kx s 0 q n n n (n + 1) n rfl rfl (fun j h1 h2 => by
    have h2 : j ≠ 0 := h2
    rw [if_neg h2, if_neg h2]) (hs 0)) $$ [Hp Hw Ho]
  · isplitl [Hp]; · iexact Hp
    isplitl [Hw]; · iexact Hw
    iexact Ho
  iintro Hp Hw Ho
  iapply (wp_accP m ρ c kx s 1 q n (n + 1) n (n + 1) (n + 1) rfl rfl (fun j h1 h2 => by
    have h2 : j ≠ 1 := h2
    obtain rfl : j = 0 := by omega
    rfl) (hs 1)) $$ [Hp Hw Ho]
  · isplitl [Hp]; · iexact Hp
    isplitl [Hw]; · iexact Hw
    iexact Ho
  iintro Hp Hw Ho
  iapply Hk $$ [Hp] [Hz] [Hw] [Ho] [HO]
  · iexact Hp
  · iexact Hz
  · iexact Hw
  · iexact Ho
  · iexact HO

/-- The result. -/
theorem wp_outP {Q : PUnit → sProp 𝕄} {k : PR F} (f5 : Vec F S2x256x768 .f32) :
    iprop(records m ρ K ∗ levAts L lv ∗ (inc (F := F) 5 c ∗ inc (F := F) 6 c ∗ inc (F := F) 7 c ∗ inc (F := F) 8 c ∗ inc (F := F) 9 c) ∗ cxH m ρ c 0 ∗ wo16H m ρ c fullShare.left ∗ woH m ρ c 1 fullShare.left
        ∗ ((c : Thread nD τ).loc cc0_stg5_0 ↦{fullShare} f5) ∗ owes' c (owed c []))
      ⊢ iprop((cxH m ρ c 0 -∗ wo16H m ρ c fullShare.left -∗ (woH m ρ c 1 fullShare.left ∗ woH m ρ c 2 fullShare ∗ woH m ρ c 3 fullShare) -∗ (rxH m ρ c 0 ∗ rxH m ρ c 1 ∗ rxH m ρ c 2) -∗ outA m ρ c 3 3
          -∗ (semVal (recvCell 5 c) 0 ∗ semVal (recvCell 6 c) 0 ∗ semVal (recvCell 7 c) 0 ∗ semVal (recvCell 8 c) 0 ∗ semVal (recvCell 9 c) 0) -∗ owes' c (owed c []) -∗ WP c k Q)
        -∗ WP c (outP k) Q) := by
  unfold outP
  iintro ⟨#HR, #Hlev, ⟨Hi5, Hi6, Hi7, Hi8, Hi9⟩, Hc, Hw, Hw1, Ho, HO⟩ Hk
  iapply (wp_wtr m ρ K c 5 [] A9 (woM 3) _ _ rfl (by decide)) $$ [Hi5 HO]
  · isplitr; · iexact HR
    isplitr; · iexact Hlev
    isplitl [Hi5]; · iexact Hi5
    iexact HO
  iintro Hw3 Hz5 HO
  ihave Hw3 := (show recvPay m ρ 5 c ⊢ woH m ρ c 3 fullShare from Entails.of_eq rfl) $$ Hw3
  iapply (wp_wtr m ρ K c 6 [] (woM 1) (woM 2) _ _ rfl (by decide)) $$ [Hi6 HO]
  · isplitr; · iexact HR
    isplitr; · iexact Hlev
    isplitl [Hi6]; · iexact Hi6
    iexact HO
  iintro Hw2 Hz6 HO
  ihave Hw2 := (show recvPay m ρ 6 c ⊢ woH m ρ c 2 fullShare from Entails.of_eq rfl) $$ Hw2
  ihave Ho := (show ((c : Thread nD τ).loc cc0_stg5_0 ↦{fullShare} f5) ⊢ partO m ρ c (fun _ => False) 0 0 from part_start c A5 Finset.univ _ (OUTS m ρ c 0 0 : Vec F S2x256x768 .f32) f5 (fun _ h => h.elim)) $$ Ho
  iapply (wp_ownP m ρ c 0 fullShare.left (fun _ => False) (fun i => (i 0).val = 0) (fun i h h' => h' h)) $$ [Hc Hw Ho]
  · isplitl [Hc]; · iexact Hc
    isplitl [Hw]; · iexact Hw
    iexact Ho
  iintro Hc Hw Ho
  iapply (wp_ownP m ρ c 1 fullShare.left (fun i => (i 0).val = 0) (fun _ => True) (fun i _ h' => by
    have h0 : (i 0).val < 2 := (i 0).isLt
    have h' : (i 0).val ≠ 1 := h'
    show (i 0).val = 0
    omega)) $$ [Hc Hw Ho]
  · isplitl [Hc]; · iexact Hc
    isplitl [Hw]; · iexact Hw
    iexact Ho
  iintro Hc Hw Ho
  ihave Ho := (show partO m ρ c (fun _ => True) 0 0 ⊢ outA m ρ c 0 0 from part_done c A5 Finset.univ _ (OUTS m ρ c 0 0 : Vec F S2x256x768 .f32) (fun _ _ => trivial)) $$ Ho
  iapply (wp_acc2P m ρ K c 7 0 1 fullShare.left 0 rfl rfl (fun _ => rfl)) $$ [Hi7 Hw1 Ho HO]
  · isplitr; · iexact HR
    isplitr; · iexact Hlev
    isplitl [Hi7]; · iexact Hi7
    isplitl [Hw1]; · iexact Hw1
    isplitl [Ho]; · iexact Ho
    iexact HO
  iintro Hr0 Hz7 Hw1 Ho HO
  iapply (wp_acc2P m ρ K c 9 2 2 fullShare 1 rfl rfl (fun _ => rfl)) $$ [Hi9 Hw2 Ho HO]
  · isplitr; · iexact HR
    isplitr; · iexact Hlev
    isplitl [Hi9]; · iexact Hi9
    isplitl [Hw2]; · iexact Hw2
    isplitl [Ho]; · iexact Ho
    iexact HO
  iintro Hr2 Hz9 Hw2 Ho HO
  iapply (wp_acc2P m ρ K c 8 1 3 fullShare 2 rfl rfl (fun _ => rfl)) $$ [Hi8 Hw3 Ho HO]
  · isplitr; · iexact HR
    isplitr; · iexact Hlev
    isplitl [Hi8]; · iexact Hi8
    isplitl [Hw3]; · iexact Hw3
    isplitl [Ho]; · iexact Ho
    iexact HO
  iintro Hr1 Hz8 Hw3 Ho HO
  iapply Hk $$ [Hc] [Hw] [Hw1 Hw2 Hw3] [Hr0 Hr1 Hr2] [Ho] [Hz5 Hz6 Hz7 Hz8 Hz9] [HO]
  · iexact Hc
  · iexact Hw
  · isplitl [Hw1]; · iexact Hw1
    isplitl [Hw2]; · iexact Hw2
    iexact Hw3
  · isplitl [Hr0]; · iexact Hr0
    isplitl [Hr1]; · iexact Hr1
    iexact Hr2
  · iexact Ho
  · isplitl [Hz5]; · iexact Hz5
    isplitl [Hz6]; · iexact Hz6
    isplitl [Hz7]; · iexact Hz7
    isplitl [Hz8]; · iexact Hz8
    iexact Hz9
  · iexact HO

/-- What a transfer that has left gives back: its source and its closed cell. -/
abbrev back (t : Fin 10) : sProp 𝕄 := iprop(sendPay m ρ t c ∗ semVal (sendCell t c) 0)

/-- One wait for a transfer to have left. -/
theorem wp_left {Q : PUnit → sProp 𝕄} {k : PR F} {s : Shape} (t : Fin 10) (src dst : Memref sig .tc .vmem s .bf16) (hs : src.view.WordExact) (hd : dst.view.WordExact) (hN : dst.view.dmaCredit = amt t) :
    iprop(records m ρ K ∗ levAts L lv ∗ snt (F := F) t c ∗ owes' c 0) ⊢ iprop((back m ρ c t -∗ owes' c 0 -∗ WP c k Q) -∗ WP c (wt (sSem t) src dst hs hd k) Q) := by
  iintro ⟨#HR, #Hlev, Hs, HO⟩ Hk
  iapply (wp_wts m ρ K c t src dst hs hd hN) $$ [Hs HO]
  · isplitr; · iexact HR
    isplitr; · iexact Hlev
    isplitl [Hs]; · iexact Hs
    iexact HO
  iintro Hp Hz HO
  iapply Hk $$ [Hp Hz] [HO]
  · isplitl [Hp]; · iexact Hp
    iexact Hz
  · iexact HO

/-- The waits for the transfers to have left. -/
theorem wp_finP {Q : PUnit → sProp 𝕄} :
    iprop(records m ρ K ∗ levAts L lv ∗ (snt (F := F) 0 c ∗ snt (F := F) 1 c ∗ snt (F := F) 2 c ∗ snt (F := F) 3 c ∗ snt (F := F) 4 c ∗ snt (F := F) 5 c ∗ snt (F := F) 6 c ∗ snt (F := F) 9 c ∗ snt (F := F) 8 c ∗ snt (F := F) 7 c) ∗ owes' c 0)
      ⊢ iprop(((back m ρ c 0 ∗ back m ρ c 1 ∗ back m ρ c 2 ∗ back m ρ c 3 ∗ back m ρ c 4 ∗ back m ρ c 5 ∗ back m ρ c 6 ∗ back m ρ c 9 ∗ back m ρ c 8 ∗ back m ρ c 7) -∗ owes' c 0 -∗ |={Set.univ}=> Q ⟨⟩) -∗ WP c finP Q) := by
  unfold finP
  iintro ⟨#HR, #Hlev, ⟨H0, H1, H2, H3, H4, H5, H6, H9, H8, H7⟩, HO⟩ Hk
  iapply (wp_left m ρ K c 0 (xgM 1) A6 _ _ rfl) $$ [H0 HO]
  · isplitr; · iexact HR
    isplitr; · iexact Hlev
    isplitl [H0]; · iexact H0
    iexact HO
  iintro H0 HO
  iapply (wp_left m ρ K c 1 (xgM 3) A6 _ _ rfl) $$ [H1 HO]
  · isplitr; · iexact HR
    isplitr; · iexact Hlev
    isplitl [H1]; · iexact H1
    iexact HO
  iintro H1 HO
  iapply (wp_left m ρ K c 2 (xrM 2 0) (xrM 1 0) _ _ rfl) $$ [H2 HO]
  · isplitr; · iexact HR
    isplitr; · iexact Hlev
    isplitl [H2]; · iexact H2
    iexact HO
  iintro H2 HO
  iapply (wp_left m ρ K c 3 (xrM 2 1) (xrM 3 1) _ _ rfl) $$ [H3 HO]
  · isplitr; · iexact HR
    isplitr; · iexact Hlev
    isplitl [H3]; · iexact H3
    iexact HO
  iintro H3 HO
  iapply (wp_left m ρ K c 4 (woM 1) A9 _ _ rfl) $$ [H4 HO]
  · isplitr; · iexact HR
    isplitr; · iexact Hlev
    isplitl [H4]; · iexact H4
    iexact HO
  iintro H4 HO
  iapply (wp_left m ρ K c 5 (woM 3) A9 _ _ rfl) $$ [H5 HO]
  · isplitr; · iexact HR
    isplitr; · iexact Hlev
    isplitl [H5]; · iexact H5
    iexact HO
  iintro H5 HO
  iapply (wp_left m ρ K c 6 (woM 2) (woM 1) _ _ rfl) $$ [H6 HO]
  · isplitr; · iexact HR
    isplitr; · iexact Hlev
    isplitl [H6]; · iexact H6
    iexact HO
  iintro H6 HO
  iapply (wp_left m ρ K c 9 (rxM 2) (cxM 2) _ _ rfl) $$ [H9 HO]
  · isplitr; · iexact HR
    isplitr; · iexact Hlev
    isplitl [H9]; · iexact H9
    iexact HO
  iintro H9 HO
  iapply (wp_left m ρ K c 8 (rxM 1) (cxM 1) _ _ rfl) $$ [H8 HO]
  · isplitr; · iexact HR
    isplitr; · iexact Hlev
    isplitl [H8]; · iexact H8
    iexact HO
  iintro H8 HO
  iapply (wp_left m ρ K c 7 (rxM 0) (cxM 3) _ _ rfl) $$ [H7 HO]
  · isplitr; · iexact HR
    isplitr; · iexact Hlev
    isplitl [H7]; · iexact H7
    iexact HO
  iintro H7 HO
  iapply (show iprop(|={Set.univ}=> Q ⟨⟩) ⊢ WP c (Prog.ret ⟨⟩) Q from by unfold WP; rw [wp_ret])
  iapply Hk $$ [H0 H1 H2 H3 H4 H5 H6 H9 H8 H7] [HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H8]; · iexact H8
    iexact H7
  · iexact HO

end Stages

end Cert.KernelIdeal.Att

end
-- ==== Proof.Body.lean ====
/-
The body on one device, from what the launch hands it to what it leaves: the scratch buffers cut into their
slots, the stages in order, the slots put together again; and the pipeline's obligation for it.
-/
module

public import proofs.«01_k».proof.Proof.Late
public import proofs.«01_k».proof.Proof.Gen.KernelIdeal.Points

@[expose] public section

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Parts of a buffer at some contents -/

/-- A part of a buffer, at some contents. -/
def anyAt (ℓ : Loc nD τ sig) (I : Finset (Idx ℓ)) : sProp 𝕄 := iprop(∃ f : Buf (Elt F) ℓ, ℓ ↦[I]{fullShare} f)

omit [FloatOps F] in
theorem any_intro {ℓ : Loc nD τ sig} {I : Finset (Idx ℓ)} (f : Buf (Elt F) ℓ) : (ℓ ↦[I]{fullShare} f : sProp 𝕄) ⊢ anyAt ℓ I := by
  unfold anyAt; iintro H; iexists f; iexact H

omit [FloatOps F] in
theorem any_elim {ℓ : Loc nD τ sig} {I : Finset (Idx ℓ)} : (anyAt ℓ I : sProp 𝕄) ⊢ iprop(∃ f : Buf (Elt F) ℓ, ℓ ↦[I]{fullShare} f) := Entails.of_eq rfl

omit [FloatOps F] in
theorem any_union {ℓ : Loc nD τ sig} {I J : Finset (Idx ℓ)} (h : Disjoint I J) : (anyAt ℓ (I ∪ J) : sProp 𝕄) ⊣⊢ iprop(anyAt (F := F) ℓ I ∗ anyAt (F := F) ℓ J) := by
  constructor
  · unfold anyAt
    iintro ⟨%f, H⟩
    ihave H := (pointsTo_union h).1 $$ H
    icases H with ⟨H1, H2⟩
    isplitl [H1]
    · iexists f; iexact H1
    iexists f; iexact H2
  · unfold anyAt
    iintro ⟨⟨%f, H1⟩, %g, H2⟩
    iexists _
    iapply (pointsTo_join (f := f) (g := g) h)
    isplitl [H1]; · iexact H1
    iexact H2

omit [FloatOps F] in
/-- A buffer by the values below four of a coordinate. -/
theorem any4 {ℓ : Loc nD τ sig} (key : Idx ℓ → ℕ) (h : ∀ i, key i < 4) :
    (anyAt ℓ Finset.univ : sProp 𝕄) ⊣⊢ iprop(anyAt (F := F) ℓ (Finset.univ.filter (key · = 0)) ∗ anyAt (F := F) ℓ (Finset.univ.filter (key · = 1)) ∗ anyAt (F := F) ℓ (Finset.univ.filter (key · = 2)) ∗ anyAt (F := F) ℓ (Finset.univ.filter (key · = 3))) := by
  have hu : (Finset.univ : Finset (Idx ℓ)) = Finset.univ.filter (key · = 0) ∪ (Finset.univ.filter (key · = 1) ∪ (Finset.univ.filter (key · = 2) ∪ Finset.univ.filter (key · = 3))) := by
    ext i; have := h i; simp only [Finset.mem_union, Finset.mem_filter, Finset.mem_univ, true_and, true_iff]; omega
  have d0 : Disjoint (Finset.univ.filter (key · = 0)) (Finset.univ.filter (key · = 1) ∪ (Finset.univ.filter (key · = 2) ∪ Finset.univ.filter (key · = 3))) :=
    Finset.disjoint_left.mpr fun i => by simp only [Finset.mem_union, Finset.mem_filter, Finset.mem_univ, true_and]; omega
  have d1 : Disjoint (Finset.univ.filter (key · = 1)) (Finset.univ.filter (key · = 2) ∪ Finset.univ.filter (key · = 3)) :=
    Finset.disjoint_left.mpr fun i => by simp only [Finset.mem_union, Finset.mem_filter, Finset.mem_univ, true_and]; omega
  have d2 : Disjoint (Finset.univ.filter (key · = 2)) (Finset.univ.filter (key · = 3)) :=
    Finset.disjoint_left.mpr fun i => by simp only [Finset.mem_filter, Finset.mem_univ, true_and]; omega
  have e0 := any_union (F := F) (ℓ := ℓ) d0
  have e1 := any_union (F := F) (ℓ := ℓ) d1
  have e2 := any_union (F := F) (ℓ := ℓ) d2
  rw [← hu] at e0
  exact ⟨e0.1.trans (sep_mono_right (e1.1.trans (sep_mono_right e2.1))), (sep_mono_right ((sep_mono_right e2.2).trans e1.2)).trans e0.2⟩

omit [FloatOps F] in
/-- A buffer by the values below three of a coordinate. -/
theorem any3 {ℓ : Loc nD τ sig} (key : Idx ℓ → ℕ) (h : ∀ i, key i < 3) :
    (anyAt ℓ Finset.univ : sProp 𝕄) ⊣⊢ iprop(anyAt (F := F) ℓ (Finset.univ.filter (key · = 0)) ∗ anyAt (F := F) ℓ (Finset.univ.filter (key · = 1)) ∗ anyAt (F := F) ℓ (Finset.univ.filter (key · = 2))) := by
  have hu : (Finset.univ : Finset (Idx ℓ)) = Finset.univ.filter (key · = 0) ∪ (Finset.univ.filter (key · = 1) ∪ Finset.univ.filter (key · = 2)) := by
    ext i; have := h i; simp only [Finset.mem_union, Finset.mem_filter, Finset.mem_univ, true_and, true_iff]; omega
  have d0 : Disjoint (Finset.univ.filter (key · = 0)) (Finset.univ.filter (key · = 1) ∪ Finset.univ.filter (key · = 2)) :=
    Finset.disjoint_left.mpr fun i => by simp only [Finset.mem_union, Finset.mem_filter, Finset.mem_univ, true_and]; omega
  have d1 : Disjoint (Finset.univ.filter (key · = 1)) (Finset.univ.filter (key · = 2)) :=
    Finset.disjoint_left.mpr fun i => by simp only [Finset.mem_filter, Finset.mem_univ, true_and]; omega
  have e0 := any_union (F := F) (ℓ := ℓ) d0
  have e1 := any_union (F := F) (ℓ := ℓ) d1
  rw [← hu] at e0
  exact ⟨e0.1.trans (sep_mono_right e1.1), (sep_mono_right e1.2).trans e0.2⟩

omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-! ## The scratch buffers cut into slots and put together -/

section Cut
variable (c : Dev nD)

/-- Scratch buffer `b` of device `c`, whole, at some contents. -/
abbrev scr (b : Ref sig .tc) : sProp 𝕄 := anyAt (F := F) ((c : Thread nD τ).loc b) Finset.univ

include m ρ in
theorem land_xg (t : Fin 10) (S) (h : ∀ f1 f2 f3, landAt (F := F) t c f1 f2 f3 = ((c : Thread nD τ).loc cc0_scratch1 ↦[S]{fullShare} f1)) :
    (anyAt (F := F) ((c : Thread nD τ).loc cc0_scratch1) S) ⊢ land (F := F) t c := by
  unfold anyAt land
  iintro ⟨%f, H⟩
  iexists f, WOALL m ρ c, RX m ρ c
  rw [h]; iexact H
include m ρ in
theorem land_wo (t : Fin 10) (S) (h : ∀ f1 f2 f3, landAt (F := F) t c f1 f2 f3 = ((c : Thread nD τ).loc cc0_scratch4 ↦[S]{fullShare} f2)) :
    (anyAt (F := F) ((c : Thread nD τ).loc cc0_scratch4) S) ⊢ land (F := F) t c := by
  unfold anyAt land
  iintro ⟨%f, H⟩
  iexists XG m ρ c, f, RX m ρ c
  rw [h]; iexact H
include m ρ in
theorem land_rx (t : Fin 10) (S) (h : ∀ f1 f2 f3, landAt (F := F) t c f1 f2 f3 = ((c : Thread nD τ).loc cc0_scratch9 ↦[S]{fullShare} f3)) :
    (anyAt (F := F) ((c : Thread nD τ).loc cc0_scratch9) S) ⊢ land (F := F) t c := by
  unfold anyAt land
  iintro ⟨%f, H⟩
  iexists XG m ρ c, WOALL m ρ c, f
  rw [h]; iexact H

theorem xg_cut : (scr (F := F) c cc0_scratch1) ⊣⊢ iprop(anyAt (F := F) ((c : Thread nD τ).loc cc0_scratch1) (xgS 0) ∗ anyAt (F := F) ((c : Thread nD τ).loc cc0_scratch1) (xgS 1)
    ∗ anyAt (F := F) ((c : Thread nD τ).loc cc0_scratch1) (xgS 2) ∗ anyAt (F := F) ((c : Thread nD τ).loc cc0_scratch1) (xgS 3)) :=
  any4 (ℓ := (c : Thread nD τ).loc cc0_scratch1) (fun i : S4x2x256x768.Idx => (i 0).val) (fun i => (i 0).isLt)
theorem wo_cut : (scr (F := F) c cc0_scratch4) ⊣⊢ iprop(anyAt (F := F) ((c : Thread nD τ).loc cc0_scratch4) (woS 0) ∗ anyAt (F := F) ((c : Thread nD τ).loc cc0_scratch4) (woS 1)
    ∗ anyAt (F := F) ((c : Thread nD τ).loc cc0_scratch4) (woS 2) ∗ anyAt (F := F) ((c : Thread nD τ).loc cc0_scratch4) (woS 3)) :=
  any4 (ℓ := (c : Thread nD τ).loc cc0_scratch4) (fun i : S4x256x768.Idx => (i 0).val) (fun i => (i 0).isLt)
theorem cx_cut : (scr (F := F) c cc0_scratch8) ⊣⊢ iprop(anyAt (F := F) ((c : Thread nD τ).loc cc0_scratch8) (cxS 0) ∗ anyAt (F := F) ((c : Thread nD τ).loc cc0_scratch8) (cxS 1)
    ∗ anyAt (F := F) ((c : Thread nD τ).loc cc0_scratch8) (cxS 2) ∗ anyAt (F := F) ((c : Thread nD τ).loc cc0_scratch8) (cxS 3)) :=
  any4 (ℓ := (c : Thread nD τ).loc cc0_scratch8) (fun i : S4x2x256x256.Idx => (i 0).val) (fun i => (i 0).isLt)
theorem rx_cut : (scr (F := F) c cc0_scratch9) ⊣⊢ iprop(anyAt (F := F) ((c : Thread nD τ).loc cc0_scratch9) (rxS 0) ∗ anyAt (F := F) ((c : Thread nD τ).loc cc0_scratch9) (rxS 1)
    ∗ anyAt (F := F) ((c : Thread nD τ).loc cc0_scratch9) (rxS 2)) :=
  any3 (ℓ := (c : Thread nD τ).loc cc0_scratch9) (fun i : S3x2x256x256.Idx => (i 0).val) (fun i => (i 0).isLt)

include m ρ in
/-- The landing places of a device, for the three signals that hand them over. -/
theorem lands : iprop(scr (F := F) c cc0_scratch1 ∗ scr (F := F) c cc0_scratch4 ∗ scr (F := F) c cc0_scratch9)
    ⊢ iprop(anyAt (F := F) ((c : Thread nD τ).loc cc0_scratch1) (xgS 0) ∗ anyAt (F := F) ((c : Thread nD τ).loc cc0_scratch4) (woS 0)
      ∗ barPay (F := F) (rot c 3) 0 ∗ barPay (F := F) (rot c 1) 1 ∗ barPay (F := F) (rot c 2) 2) := by
  unfold barPay
  rw [rot31, rot13, rot22]
  iintro ⟨H1, H4, H9⟩
  ihave H1 := (xg_cut c).1 $$ H1
  icases H1 with ⟨H10, H11, H12, H13⟩
  rw [xgS_split 2]
  ihave H12 := (any_union (ℓ := (c : Thread nD τ).loc cc0_scratch1) (xgR_disj 2)).1 $$ H12
  icases H12 with ⟨H120, H121⟩
  ihave H4 := (wo_cut c).1 $$ H4
  icases H4 with ⟨H40, H41, H42, H43⟩
  ihave H9 := (rx_cut c).1 $$ H9
  icases H9 with ⟨H90, H91, H92⟩
  ihave L0 := (land_xg m ρ c 0 (xgS 1) (fun _ _ _ => rfl)) $$ H11
  ihave L1 := (land_xg m ρ c 1 (xgS 3) (fun _ _ _ => rfl)) $$ H13
  ihave L2 := (land_xg m ρ c 2 (xgR 2 0) (fun _ _ _ => rfl)) $$ H120
  ihave L3 := (land_xg m ρ c 3 (xgR 2 1) (fun _ _ _ => rfl)) $$ H121
  ihave L4 := (land_wo m ρ c 4 (woS 1) (fun _ _ _ => rfl)) $$ H41
  ihave L5 := (land_wo m ρ c 5 (woS 3) (fun _ _ _ => rfl)) $$ H43
  ihave L6 := (land_wo m ρ c 6 (woS 2) (fun _ _ _ => rfl)) $$ H42
  ihave L7 := (land_rx m ρ c 7 (rxS 0) (fun _ _ _ => rfl)) $$ H90
  ihave L8 := (land_rx m ρ c 8 (rxS 1) (fun _ _ _ => rfl)) $$ H91
  ihave L9 := (land_rx m ρ c 9 (rxS 2) (fun _ _ _ => rfl)) $$ H92
  isplitl [H10]; · iexact H10
  isplitl [H40]; · iexact H40
  isplitl [L0 L2 L4 L6 L7]
  · isplitl [L0]; · iexact L0
    isplitl [L2]; · iexact L2
    isplitl [L4]; · iexact L4
    isplitl [L6]; · iexact L6
    iexact L7
  isplitl [L1 L3 L5 L8]
  · isplitl [L1]; · iexact L1
    isplitl [L3]; · iexact L3
    isplitl [L5]; · iexact L5
    iexact L8
  iexact L9

theorem xg_back : iprop(anyAt (F := F) ((c : Thread nD τ).loc cc0_scratch1) (xgS 0) ∗ xgK m ρ c ∗ sendPay m ρ 2 c ∗ sendPay m ρ 3 c) ⊢ scr (F := F) c cc0_scratch1 := by
  unfold xgK
  iintro ⟨H0, ⟨H10, H11, H30, H31, H20, H21⟩, P2, P3⟩
  ihave H1 := ((recv0 m ρ c).2) $$ [H10 P2 H11]
  · isplitl [H10]; · iexact H10
    isplitl [P2]; · iexact P2
    iexact H11
  ihave H3 := ((recv1 m ρ c).2) $$ [H30 H31 P3]
  · isplitl [H30]; · iexact H30
    isplitl [H31]; · iexact H31
    iexact P3
  ihave H20 := (any_intro _) $$ H20
  ihave H21 := (any_intro _) $$ H21
  ihave H2 := ((any_union (ℓ := (c : Thread nD τ).loc cc0_scratch1) (xgR_disj 2)).2) $$ [H20 H21]
  · isplitl [H20]; · iexact H20
    iexact H21
  ihave H1 := (show recvPay m ρ 0 c ⊢ anyAt (F := F) ((c : Thread nD τ).loc cc0_scratch1) (xgS 1) from any_intro (ℓ := (c : Thread nD τ).loc cc0_scratch1) (XG m ρ c)) $$ H1
  ihave H3 := (show recvPay m ρ 1 c ⊢ anyAt (F := F) ((c : Thread nD τ).loc cc0_scratch1) (xgS 3) from any_intro (ℓ := (c : Thread nD τ).loc cc0_scratch1) (XG m ρ c)) $$ H3
  iapply (xg_cut c).2
  rw [xgS_split 2]
  isplitl [H0]; · iexact H0
  isplitl [H1]; · iexact H1
  isplitl [H2]; · iexact H2
  iexact H3

set_option maxRecDepth 4000 in
theorem wo_back : iprop(anyAt (F := F) ((c : Thread nD τ).loc cc0_scratch4) (woS 0) ∗ (woH m ρ c 1 fullShare.left ∗ woH m ρ c 2 fullShare ∗ woH m ρ c 3 fullShare) ∗ sendPay m ρ 6 c) ⊢ scr (F := F) c cc0_scratch4 := by
  iintro ⟨H0, ⟨H1, H2, H3⟩, P6⟩
  ihave H1 := ((recv4 m ρ c).2) $$ [H1 P6]
  · isplitl [H1]; · iexact H1
    iexact P6
  ihave H1 := (show recvPay m ρ 4 c ⊢ anyAt (F := F) ((c : Thread nD τ).loc cc0_scratch4) (woS 1) from any_intro (ℓ := (c : Thread nD τ).loc cc0_scratch4) (WOALL m ρ c)) $$ H1
  ihave H2 := (any_intro _) $$ H2
  ihave H3 := (any_intro _) $$ H3
  iapply (wo_cut c).2
  isplitl [H0]; · iexact H0
  isplitl [H1]; · iexact H1
  isplitl [H2]; · iexact H2
  iexact H3

set_option maxRecDepth 4000 in
theorem cx_back : iprop(cxH m ρ c 0 ∗ sendPay m ρ 8 c ∗ sendPay m ρ 9 c ∗ sendPay m ρ 7 c) ⊢ scr (F := F) c cc0_scratch8 :=
  (BIClass.sep_mono (any_intro _) (BIClass.sep_mono (show sendPay m ρ 8 c ⊢ anyAt (F := F) ((c : Thread nD τ).loc cc0_scratch8) (cxS 1) from any_intro (ℓ := (c : Thread nD τ).loc cc0_scratch8) (CTXA m ρ c))
    (BIClass.sep_mono (show sendPay m ρ 9 c ⊢ anyAt (F := F) ((c : Thread nD τ).loc cc0_scratch8) (cxS 2) from any_intro (ℓ := (c : Thread nD τ).loc cc0_scratch8) (CTXA m ρ c))
      (show sendPay m ρ 7 c ⊢ anyAt (F := F) ((c : Thread nD τ).loc cc0_scratch8) (cxS 3) from any_intro (ℓ := (c : Thread nD τ).loc cc0_scratch8) (CTXA m ρ c))))).trans (cx_cut c).2
theorem rx_back : iprop(rxH m ρ c 0 ∗ rxH m ρ c 1 ∗ rxH m ρ c 2) ⊢ scr (F := F) c cc0_scratch9 :=
  (BIClass.sep_mono (any_intro _) (BIClass.sep_mono (any_intro _) (any_intro _))).trans (rx_cut c).2

end Cut

/-! ## The body -/

section Body
variable (K : Dev nD × Ck → ℕ) (c : Dev nD)

/-- The scratch buffers, each whole at some contents. -/
def scrs : sProp 𝕄 :=
  iprop(scr (F := F) c cc0_scratch0 ∗ scr (F := F) c cc0_scratch1 ∗ scr (F := F) c cc0_scratch2 ∗ scr (F := F) c cc0_scratch3 ∗ scr (F := F) c cc0_scratch4 ∗ scr (F := F) c cc0_scratch5 ∗ scr (F := F) c cc0_scratch6 ∗ scr (F := F) c cc0_scratch7 ∗ scr (F := F) c cc0_scratch8 ∗ scr (F := F) c cc0_scratch9 ∗ scr (F := F) c cc0_scratch10 ∗ scr (F := F) c cc0_scratch11)

/-- What a device's body starts from, its scratch buffers and its debts apart. -/
def start : sProp 𝕄 :=
  iprop(∃ K, records m ρ K ∗ levAts L lv ∗ barSt (F := F) c ∗ (bigSep Finset.univ fun t : Fin 10 => outg (F := F) t c) ∗ (bigSep Finset.univ fun t : Fin 10 => inc (F := F) t c))
def Φ₀ : sProp 𝕄 := iprop(start m ρ c ∗ scrs (F := F) c)
/-- What it leaves: its semaphores at zero, its scratch buffers at some contents. -/
def Φ₁ : sProp 𝕄 :=
  iprop(semVal (barCell c) 0 ∗ (bigSep Finset.univ fun t : Fin 10 => semVal (sendCell t c) 0) ∗ (bigSep Finset.univ fun t : Fin 10 => semVal (recvCell t c) 0) ∗ scrs (F := F) c)

theorem partQ_intro : iprop(scr (F := F) c cc0_scratch5 ∗ scr (F := F) c cc0_scratch6 ∗ scr (F := F) c cc0_scratch7) ⊢ partQ m ρ c (fun _ => False) := by
  unfold scr anyAt partQ
  iintro ⟨⟨%f5, H5⟩, ⟨%f6, H6⟩, %f7, H7⟩
  isplitl [H5]
  · iapply (part_start c A11 Finset.univ _ (QP m ρ c : Vec F S2x1024x256 .bf16) f5 (fun _ h => h.elim)); iexact H5
  isplitl [H6]
  · iapply (part_start c A12 Finset.univ _ (KP m ρ c : Vec F S2x1024x256 .bf16) f6 (fun _ h => h.elim)); iexact H6
  iapply (part_start c A13 Finset.univ _ (VP m ρ c : Vec F S2x1024x256 .bf16) f7 (fun _ h => h.elim)); iexact H7

set_option maxHeartbeats 1600000 in
/-- The body's stages in order. -/
theorem wp_mainP {Q : PUnit → sProp 𝕄} (f5 : Vec F S2x256x768 .f32) :
    iprop(Φ₀ m ρ c ∗ ins m ρ c ∗ ((c : Thread nD τ).loc cc0_stg5_0 ↦{fullShare} f5) ∗ owes' c (O₀ c))
      ⊢ iprop((Φ₁ (F := F) c -∗ ins m ρ c -∗ outA m ρ c 3 3 -∗ owes' c 0 -∗ |={Set.univ}=> Q ⟨⟩) -∗ WP c mainP Q) := by
  unfold Φ₀ start scrs mainP
  rw [bigSep_fin10, bigSep_fin10]
  iintro ⟨⟨⟨%K, #HR, #Hlev, Hbs, ⟨G0, G1, G2, G3, G4, G5, G6, G7, G8, G9⟩, ⟨I0, I1, I2, I3, I4, I5, I6, I7, I8, I9⟩⟩, ⟨S0, S1, S2, S3, S4, S5, S6, S7, S8, S9, S10, S11⟩⟩, Hins, Hout, HO⟩ Hk
  iapply (show (WP c (barP c <| preP c <| gatP c <| attP c <| outP finP) Q) ⊢ WP c (Prog.op .deviceId fun d0 => barP d0 <| preP d0 <| gatP d0 <| attP d0 <| outP finP) Q from by
    show _ ⊢ wp frame (wpE (defs₀ (F := F)) 𝒱₀ (c : Thread nD τ) none) Set.univ _ Q
    rw [wp_deviceId])
  ihave HL := (lands m ρ c) $$ [S1 S4 S9]
  · isplitl [S1]; · iexact S1
    isplitl [S4]; · iexact S4
    iexact S9
  icases HL with ⟨X0, W0, B0, B1, B2⟩
  iapply (wp_barP m ρ K c) $$ [Hbs B0 B1 B2 HO]
  · isplitr; · iexact HR
    isplitr; · iexact Hlev
    isplitl [Hbs]; · iexact Hbs
    isplitl [B0]; · iexact B0
    isplitl [B1]; · iexact B1
    isplitl [B2]; · iexact B2
    iexact HO
  iintro ⟨B0, B1, B2⟩ Zb HO
  unfold barPay
  icases B0 with ⟨L0, L2, L4, L6, L7⟩
  icases B1 with ⟨L1, L3, L5, L8⟩
  ihave S0 := any_elim $$ S0
  ihave S2 := any_elim $$ S2
  ihave S3 := any_elim $$ S3
  ihave S10 := any_elim $$ S10
  ihave S11 := any_elim $$ S11
  icases S0 with ⟨%f0, S0⟩
  icases S2 with ⟨%f2, S2⟩
  icases S3 with ⟨%f3, S3⟩
  icases S10 with ⟨%f10, S10⟩
  icases S11 with ⟨%f11, S11⟩
  iapply (wp_preP m ρ K c f0 f2 f3 f10 f11) $$ [Hins S0 S2 S3 S10 S11 G0 G1 G4 G5 L0 L1 L4 L5 HO]
  · isplitr; · iexact HR
    isplitl [Hins]; · iexact Hins
    isplitl [S0]; · iexact S0
    isplitl [S2]; · iexact S2
    isplitl [S3]; · iexact S3
    isplitl [S10]; · iexact S10
    isplitl [S11]; · iexact S11
    isplitl [G0 G1 G4 G5]
    · isplitl [G0]; · iexact G0
      isplitl [G1]; · iexact G1
      isplitl [G4]; · iexact G4
      iexact G5
    isplitl [L0 L1 L4 L5]
    · isplitl [L0]; · iexact L0
      isplitl [L1]; · iexact L1
      isplitl [L4]; · iexact L4
      iexact L5
    iexact HO
  iintro Hins Hx Hw Ht ⟨N0, N1, N4, N5⟩ HO
  ihave HQ := (partQ_intro m ρ c) $$ [S5 S6 S7]
  · isplitl [S5]; · iexact S5
    isplitl [S6]; · iexact S6
    iexact S7
  iapply (wp_gatP m ρ K c) $$ [Ht Hx HQ I0 I1 I2 I3 I4 G2 G3 G6 L2 L3 L6 HO]
  · isplitr; · iexact HR
    isplitr; · iexact Hlev
    isplitl [Ht]; · iexact Ht
    isplitl [Hx]; · iexact Hx
    isplitl [HQ]; · iexact HQ
    isplitl [I0 I1 I2 I3 I4]
    · isplitl [I0]; · iexact I0
      isplitl [I1]; · iexact I1
      isplitl [I2]; · iexact I2
      isplitl [I3]; · iexact I3
      iexact I4
    isplitl [G2 G3 G6]
    · isplitl [G2]; · iexact G2
      isplitl [G3]; · iexact G3
      iexact G6
    isplitl [L2 L3 L6]
    · isplitl [L2]; · iexact L2
      isplitl [L3]; · iexact L3
      iexact L6
    iexact HO
  iintro Ht Hx HQ HXG HW1 ⟨N2, N3, N6⟩ ⟨R0, R1, R2, R3, R4⟩ HO
  ihave S8 := (cx_cut c).1 $$ S8
  icases S8 with ⟨C0, C1, C2, C3⟩
  ihave C0 := any_elim $$ C0
  ihave C1 := any_elim $$ C1
  ihave C2 := any_elim $$ C2
  ihave C3 := any_elim $$ C3
  icases C0 with ⟨%g0, C0⟩
  icases C1 with ⟨%g1, C1⟩
  icases C2 with ⟨%g2, C2⟩
  icases C3 with ⟨%g3, C3⟩
  iapply (wp_attP m ρ K c g0 g1 g2 g3) $$ [HQ C0 C1 C2 C3 G9 G8 G7 B2 L8 L7 HO]
  · isplitr; · iexact HR
    isplitl [HQ]; · iexact HQ
    isplitl [C0 C1 C2 C3]
    · isplitl [C0]; · iexact C0
      isplitl [C1]; · iexact C1
      isplitl [C2]; · iexact C2
      iexact C3
    isplitl [G9 G8 G7]
    · isplitl [G9]; · iexact G9
      isplitl [G8]; · iexact G8
      iexact G7
    isplitl [B2 L8 L7]
    · isplitl [B2]; · iexact B2
      isplitl [L8]; · iexact L8
      iexact L7
    iexact HO
  iintro HQ HC ⟨N9, N8, N7⟩ HO
  iapply (wp_outP m ρ K c f5) $$ [I5 I6 I7 I8 I9 HC Hw HW1 Hout HO]
  · isplitr; · iexact HR
    isplitr; · iexact Hlev
    isplitl [I5 I6 I7 I8 I9]
    · isplitl [I5]; · iexact I5
      isplitl [I6]; · iexact I6
      isplitl [I7]; · iexact I7
      isplitl [I8]; · iexact I8
      iexact I9
    isplitl [HC]; · iexact HC
    isplitl [Hw]; · iexact Hw
    isplitl [HW1]; · iexact HW1
    isplitl [Hout]; · iexact Hout
    iexact HO
  iintro HC Hw HW HRX Hout ⟨R5, R6, R7, R8, R9⟩ HO
  iapply (wp_finP m ρ K c) $$ [N0 N1 N2 N3 N4 N5 N6 N9 N8 N7 HO]
  · isplitr; · iexact HR
    isplitr; · iexact Hlev
    isplitl [N0 N1 N2 N3 N4 N5 N6 N9 N8 N7]
    · isplitl [N0]; · iexact N0
      isplitl [N1]; · iexact N1
      isplitl [N2]; · iexact N2
      isplitl [N3]; · iexact N3
      isplitl [N4]; · iexact N4
      isplitl [N5]; · iexact N5
      isplitl [N6]; · iexact N6
      isplitl [N9]; · iexact N9
      isplitl [N8]; · iexact N8
      iexact N7
    iexact HO
  iintro ⟨⟨P0, Z0⟩, ⟨P1, Z1⟩, ⟨P2, Z2⟩, ⟨P3, Z3⟩, ⟨P4, Z4⟩, ⟨P5, Z5⟩, ⟨P6, Z6⟩, ⟨P9, Z9⟩, ⟨P8, Z8⟩, ⟨P7, Z7⟩⟩ HO
  iapply Hk $$ [Zb Z0 Z1 Z2 Z3 Z4 Z5 Z6 Z7 Z8 Z9 R0 R1 R2 R3 R4 R5 R6 R7 R8 R9 P0 P1 P2 P3 P4 P5 P6 P7 P8 P9 Hx Hw Ht HQ HXG HW HC HRX X0 W0] [Hins] [Hout] [HO]
  · unfold Φ₁ scrs
    rw [bigSep_fin10, bigSep_fin10]
    isplitl [Zb]; · iexact Zb
    isplitl [Z0 Z1 Z2 Z3 Z4 Z5 Z6 Z7 Z8 Z9]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      iexact Z9
    isplitl [R0 R1 R2 R3 R4 R5 R6 R7 R8 R9]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact R9
    unfold tabs qkv
    icases Ht with ⟨T10, T11, T2⟩
    icases HQ with ⟨T5, T6, T7⟩
    ihave T0 := ((x16_lend m ρ c).2) $$ [Hx P0 P1]
    · isplitl [Hx]; · iexact Hx
      isplitl [P0]; · iexact P0
      iexact P1
    ihave T3 := ((wo16_lend m ρ c).2) $$ [Hw P4 P5]
    · isplitl [Hw]; · iexact Hw
      isplitl [P4]; · iexact P4
      iexact P5
    ihave T1 := (xg_back m ρ c) $$ [X0 HXG P2 P3]
    · isplitl [X0]; · iexact X0
      isplitl [HXG]; · iexact HXG
      isplitl [P2]; · iexact P2
      iexact P3
    ihave T4 := (wo_back m ρ c) $$ [W0 HW P6]
    · isplitl [W0]; · iexact W0
      isplitl [HW]; · iexact HW
      iexact P6
    ihave T8 := (cx_back m ρ c) $$ [HC P8 P9 P7]
    · isplitl [HC]; · iexact HC
      isplitl [P8]; · iexact P8
      isplitl [P9]; · iexact P9
      iexact P7
    ihave T9 := (rx_back m ρ c) $$ HRX
    isplitl [T0]; · iapply (any_intro _); iexact T0
    isplitl [T1]; · iexact T1
    isplitl [T2]; · iapply (any_intro _); iexact T2
    isplitl [T3]; · iapply (any_intro _); iexact T3
    isplitl [T4]; · iexact T4
    isplitl [T5]; · iapply (any_intro _); iexact T5
    isplitl [T6]; · iapply (any_intro _); iexact T6
    isplitl [T7]; · iapply (any_intro _); iexact T7
    isplitl [T8]; · iexact T8
    isplitl [T9]; · iexact T9
    isplitl [T10]; · iapply (any_intro _); iexact T10
    iapply (any_intro _); iexact T11
  · iexact Hins
  · iexact Hout
  · iexact HO

end Body

/-! ## The pipeline's obligation -/

/-- The pipeline's data on device `c`: the operands staged stay, the result staged is `OUTS … 3 3`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => wqin m ρ c
    | ⟨2, _⟩ => wkin m ρ c
    | ⟨3, _⟩ => wvin m ρ c
    | ⟨4, _⟩ => woin m ρ c
    | ⟨5, _⟩ => OUTS m ρ c 3 3
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ (F := F) c ∗ (dats m ρ 0 c).owesAt () t0_0.succ
    ∗ stg c cc0_stg0_0 (xin m ρ c) ∗ stg c cc0_stg1_0 (wqin m ρ c) ∗ stg c cc0_stg2_0 (wkin m ρ c) ∗ stg c cc0_stg3_0 (wvin m ρ c) ∗ stg c cc0_stg4_0 (woin m ρ c)
    ∗ stg c cc0_stg5_0 (OUTS m ρ c 3 3))

set_option maxRecDepth 20000 in
set_option maxHeartbeats 1600000 in
/-- The library's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (cc0__body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch12 cc0_scratch13 cc0_scratch14 cc0_scratch15 cc0_scratch16 cc0_scratch17) (fun _ => bodyPost m ρ c)
  rw [body_eq]
  unfold bodyPre
  iintro ⟨HΦ, Ho, ⟨%d0, %g0, %h0, H0⟩, ⟨%d1, %g1, %h1, H1⟩, ⟨%d2, %g2, %h2, H2⟩, ⟨%d3, %g3, %h3, H3⟩, ⟨%d4, %g4, %h4, H4⟩, %d5, %g5, %h5, H5⟩
  have e0 : g0 = xin m ρ c := by rw [h0]; unfold Dat.before; rw [if_pos (fetch0_0 t0_0)]; rfl
  have e1 : g1 = wqin m ρ c := by rw [h1]; unfold Dat.before; rw [if_pos (fetch0_1 t0_0)]; rfl
  have e2 : g2 = wkin m ρ c := by rw [h2]; unfold Dat.before; rw [if_pos (fetch0_2 t0_0)]; rfl
  have e3 : g3 = wvin m ρ c := by rw [h3]; unfold Dat.before; rw [if_pos (fetch0_3 t0_0)]; rfl
  have e4 : g4 = woin m ρ c := by rw [h4]; unfold Dat.before; rw [if_pos (fetch0_4 t0_0)]; rfl
  subst e0 e1 e2 e3 e4
  unfold Dat.owesAt Pipeline.owesWithin
  icases Ho with ⟨%W, %hW, HO⟩
  iapply (wp_mainP m ρ c (Q := fun _ => bodyPost m ρ c) g5) $$ [HΦ H0 H1 H2 H3 H4 H5 HO]
  · isplitl [HΦ]; · iexact HΦ
    isplitl [H0 H1 H2 H3 H4]
    · unfold ins
      isplitl [H0]; · iexact H0
      isplitl [H1]; · iexact H1
      isplitl [H2]; · iexact H2
      isplitl [H3]; · iexact H3
      iexact H4
    isplitl [H5]; · iexact H5
    unfold owes'
    iexists W; iexact HO
  iintro HΦ Hi Hout HO
  imodintro
  unfold bodyPost Dat.owesAt Pipeline.owesWithin owes' ins
  icases Hi with ⟨H0, H1, H2, H3, H4⟩
  icases HO with ⟨%W', HO⟩
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact Hout

end Cert.KernelIdeal.Att

end
-- ==== Proof.Run.lean ====
/-
The launch: the cells' invariants allocated on every device, the duty tokens dealt to the devices that pay
them, the credit of the launch, and the run of the whole mesh.
-/
module

public import proofs.«01_k».proof.Proof.Body
public import proofs.«01_k».proof.Proof.Gen.KernelIdeal.Launch
public import Idealize.ShloMosaic.Lib.Pipeline.CollectiveSegs

@[expose] public section

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the send and the receive semaphore of every transfer. -/
abbrev osem : Bool × Fin 10 → SemLoc sig := fun k => csem (some k)
theorem ownSemFacts : Pipeline.OwnSemFacts cfg0.spec osem := by decide
theorem share_eq (c : Dev nD) (w : Fin cfg0.W) : (dats m ρ 0 c).share w = fullShare := by unfold Dat.share; split <;> rfl

/-! ## The launch element -/

def allCells : Finset (GSem nD τ sig) := Finset.univ.map ⟨kcell, kcell_injective⟩
/-- Three duty tokens of every cell (of which a transfer's cell has use for one). -/
abbrev tokOf (x : (Dev nD × Ck) × Fin 3) : GSem nD τ sig × ℕ × Fin 3 := (kcell x.1, 0, x.2)
theorem tokOf_injective : Function.Injective tokOf := fun x y h =>
  Prod.ext (kcell_injective (congrArg (fun z : GSem nD τ sig × ℕ × Fin 3 => z.1) h)) (congrArg (fun z : GSem nD τ sig × ℕ × Fin 3 => z.2.2) h)
def allToks : Finset (GSem nD τ sig × ℕ × Fin 3) := Finset.univ.map ⟨tokOf, tokOf_injective⟩
def u₀ : UU := (initOf (Pipeline.cells cfgs cellOf_inj) (Pipeline.launchToks cfgs cellOf_inj), initOf allCells allToks)

omit [FloatOps F] in
/-- A family over a device's cells, the barrier's apart and the transfers' by kind. -/
theorem bigSep_ck (Φ : Ck → sProp 𝕄) : bigSep Finset.univ Φ
    = iprop(Φ none ∗ (bigSep Finset.univ fun t : Fin 10 => Φ (some (false, t))) ∗ bigSep Finset.univ fun t : Fin 10 => Φ (some (true, t))) := by
  have hk : (bigSep Finset.univ fun k : Bool × Fin 10 => Φ (some k))
      = iprop((bigSep Finset.univ fun t : Fin 10 => Φ (some (false, t))) ∗ bigSep Finset.univ fun t : Fin 10 => Φ (some (true, t))) := by
    rw [bigSep_univ_prod]
    exact bigSep_univ_eq_bigSepL [false, true] (by decide) (by decide) _
  rw [← hk, bigSep_univ_at Φ none]
  have he : (Finset.univ : Finset Ck).erase none = Finset.univ.map ⟨(some : Bool × Fin 10 → Ck), Option.some_injective _⟩ := by decide
  rw [he, bigSep_map]; rfl

/-- The tokens of device `c`'s own cells. -/
def toks (c : Dev nD) : sProp 𝕄 := bigSep Finset.univ fun k : Ck => bigSep Finset.univ fun d : Fin 3 => dutyTok ER (kcell (c, k)) 0 d
/-- What the launch element deals device `c`. -/
def G (c : Dev nD) : sProp 𝕄 :=
  iprop((bigSep Finset.univ fun k : Ck => roundState ER (Rd m ρ) (kcell (c, k)) 0)
    ∗ (bigSep Finset.univ fun k : Ck => iprop(atPos ER (kcell (c, k)) 0 ∅ 0 ∗ reached ER (kcell (c, k)) 0)) ∗ toks (F := F) c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Ck => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun t : Fin 10 => semVal (sendCell t c) 0) ∗ bigSep Finset.univ fun t : Fin 10 => semVal (recvCell t c) 0) := by
  unfold Pipeline.ownSems0
  rw [bigSep_univ_prod]
  exact bigSep_univ_eq_bigSepL [false, true] (by decide) (by decide) _
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [ownSems0_eq, unscopedSems0_eq, bigSep_ck]
  iintro ⟨Ho, Hb⟩
  isplitl [Hb]; · iexact Hb
  iexact Ho

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Ck => semVal (kcell (c, k)) 0) ∗ bigSep Finset.univ fun k : Ck => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- The tokens device `c` pays with. -/
def payToks (c : Dev nD) : sProp 𝕄 :=
  iprop((dutyTok ER (barCell (rot c 3)) 0 0 ∗ dutyTok ER (barCell (rot c 1)) 0 1 ∗ dutyTok ER (barCell (rot c 2)) 0 2)
    ∗ (bigSep Finset.univ fun t : Fin 10 => dutyTok ER (sendCell t c) 0 0) ∗ bigSep Finset.univ fun t : Fin 10 => dutyTok ER (recvCell t (tgt t c)) 0 0)
/-- What stays with device `c`: its positions and the tokens it pays with. -/
def linear (c : Dev nD) : sProp 𝕄 := iprop((bigSep Finset.univ fun k : Ck => atPos ER (kcell (c, k)) 0 ∅ 0) ∗ payToks (F := F) c)
/-- What the global step makes of what the launch dealt. -/
def G' (c : Dev nD) : sProp 𝕄 := iprop(∃ K, records m ρ K ∗ linear (F := F) c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- A transfer and its device, by the device it goes to. -/
def tgtP : Dev nD × Fin 10 ≃ Dev nD × Fin 10 :=
  ⟨fun x => (tgt x.2 x.1, x.2), fun x => (org x.2 x.1, x.2), fun x => Prod.ext (org_tgt x.2 x.1) rfl, fun x => Prod.ext (tgt_org x.2 x.1) rfl⟩

omit [FloatOps F] in
/-- A device's tokens of use. -/
theorem toks_use (c : Dev nD) : toks (F := F) c ⊢ iprop((dutyTok ER (barCell c) 0 0 ∗ dutyTok ER (barCell c) 0 1 ∗ dutyTok ER (barCell c) 0 2)
    ∗ (bigSep Finset.univ fun t : Fin 10 => dutyTok ER (sendCell t c) 0 0) ∗ bigSep Finset.univ fun t : Fin 10 => dutyTok ER (recvCell t c) 0 0) := by
  unfold toks
  rw [bigSep_ck, bigSep_fin3]
  have e (b : Bool) : (bigSep Finset.univ fun t : Fin 10 => bigSep Finset.univ fun d : Fin 3 => (dutyTok ER (kcell (c, some (b, t))) 0 d : sProp 𝕄))
      ⊢ bigSep Finset.univ fun t : Fin 10 => dutyTok ER (kcell (c, some (b, t))) 0 0 := bigSep_mono fun t _ => bigSep_elim (Finset.mem_univ (0 : Fin 3))
  iintro ⟨Hb, Hs, Hr⟩
  isplitl [Hb]; · iexact Hb
  isplitl [Hs]
  · iapply (e false); iexact Hs
  iapply (e true); iexact Hr

omit [FloatOps F] in
/-- Every device's tokens, dealt to the devices that pay with them. -/
theorem toks_around : (bigSep Finset.univ fun c : Dev nD => (toks (F := F) c : sProp 𝕄)) ⊢ bigSep Finset.univ fun c : Dev nD => payToks (F := F) c := by
  refine (show _ ⊢ _ from bigSep_mono fun (c : Dev nD) _ => toks_use (F := F) c).trans ?_
  unfold payToks
  rw [bigSep_sep', bigSep_sep', bigSep_sep', bigSep_sep', bigSep_sep', bigSep_sep', bigSep_sep', bigSep_sep',
    bigSep_univ_equiv rotE1.symm (fun c : Dev nD => (dutyTok ER (barCell c) 0 0 : sProp 𝕄)),
    bigSep_univ_equiv rotE1 (fun c : Dev nD => (dutyTok ER (barCell c) 0 1 : sProp 𝕄)),
    bigSep_univ_equiv rotE2 (fun c : Dev nD => (dutyTok ER (barCell c) 0 2 : sProp 𝕄)),
    ← bigSep_univ_prod (fun x : Dev nD × Fin 10 => (dutyTok ER (recvCell x.2 x.1) 0 0 : sProp 𝕄)),
    bigSep_univ_equiv tgtP (fun x : Dev nD × Fin 10 => (dutyTok ER (recvCell x.2 x.1) 0 0 : sProp 𝕄)), bigSep_univ_prod]
  exact BI.Entails.refl _

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × Ck => iprop(∃ κ : ℕ, cellInv ER (Rd m ρ) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (Rd m ρ) κ (kcell ck) : sProp 𝕄))) $$ HI
  icases HK with ⟨%K, #HI⟩
  ihave Htk := (toks_around (F := F)) $$ Htok
  iapply (with_persistent (R := records m ρ K) (Φ := linear (F := F)) fun c _ => show iprop(records m ρ K ∗ linear (F := F) c) ⊢ G' m ρ c from by
    unfold G'; iintro H; iexists K; iexact H)
  isplitr
  · unfold records; isplitl; · iexact HI
    iexact HR
  · iapply (show iprop((bigSep Finset.univ fun c : Dev nD => bigSep Finset.univ fun k : Ck => (atPos ER (kcell (c, k)) 0 ∅ 0 : sProp 𝕄)) ∗ bigSep Finset.univ fun c : Dev nD => payToks (F := F) c)
      ⊢ bigSep Finset.univ (linear (F := F)) from Entails.of_eq (bigSep_sep' Finset.univ _ _).symm)
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tally_k (a b : Dev nD × Ck) (n : ℕ) : (tallyAt (kcell a) () n : CellTallies nD τ sig Unit) (kcell b) () = if b = a then n else 0 := by
  rw [tallyAt_apply]
  by_cases h : b = a
  · rw [if_pos ⟨by rw [h], rfl⟩, if_pos h]
  · rw [if_neg (fun h' => h (kcell_injective h'.1)), if_neg h]

theorem sum_order (f : Fin 10 → ℕ) : 0 + f 7 + f 8 + f 9 + f 6 + f 3 + f 2 + f 5 + f 4 + f 1 + f 0 = ∑ t, f t := by
  simp only [Fin.sum_univ_succ, Fin.sum_univ_zero]
  change _ = f 0 + (f 1 + (f 2 + (f 3 + (f 4 + (f 5 + (f 6 + (f 7 + (f 8 + (f 9 + 0)))))))))
  omega
theorem owed_order (d : Dev nD) (g : GSem nD τ sig) (u : Unit) :
    owed d order g u = ∑ t : Fin 10, (tallyAt (recvCell t (tgt t d)) () (amt t) : CellTallies nD τ sig Unit) g u := by
  rw [← sum_order]
  simp only [owed, order, Pi.add_apply, Finsupp.add_apply, Pi.zero_apply, Finsupp.zero_apply]

theorem bar_ne (c d : Dev nD) (t : Fin 10) : (c, (none : Ck)) ≠ (d, some (true, t)) := fun h => by
  have := congrArg Prod.snd h
  simp at this

theorem O₀_at (d : Dev nD) (b : Dev nD × Ck) :
    O₀ d (kcell b) () = (∑ t : Fin 10, if b = (tgt t d, some (true, t)) then amt t else 0) + (if b = (rot d 2, none) then 1 else 0)
      + (if b = (rot d 1, none) then 1 else 0) + (if b = (rot d 3, none) then 1 else 0) := by
  unfold O₀ O₁ O₂ O₃
  rw [Pi.add_apply, Finsupp.add_apply, Pi.add_apply, Finsupp.add_apply, Pi.add_apply, Finsupp.add_apply, owed_order, tally_k, tally_k, tally_k]
  simp only [tally_k]

theorem sum_bar : ∀ c : Dev nD, (∑ d : Dev nD, ((if (c, (none : Ck)) = (rot d 2, none) then 1 else 0) + (if (c, (none : Ck)) = (rot d 1, none) then 1 else 0) + (if (c, (none : Ck)) = (rot d 3, none) then 1 else 0))) = 3 := by
  decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_at d (c, none)]
  refine Eq.trans ?_ (sum_bar c)
  refine Finset.sum_congr rfl fun d _ => ?_
  rw [Finset.sum_eq_zero fun t _ => if_neg (bar_ne _ _ _), Nat.zero_add]

theorem launch_recv (t : Fin 10) (c : Dev nD) :
    tallyOn (recvCell t c) (launchCredit (Pipeline.owing O₀) 0 (recvCell t c)) = (tallyAt (recvCell t c) () (amt t) : CellTallies nD τ sig Unit) := by
  unfold tallyAt; refine congrArg _ (Finsupp.ext fun u => ?_); cases u
  rw [Pipeline.launchCredit_owing, Finsupp.single_eq_same, Finset.sum_eq_single (org t c)]
  · rw [O₀_at, Finset.sum_eq_single t]
    · rw [tgt_org, if_pos rfl, if_neg (bar_ne _ _ _).symm, if_neg (bar_ne _ _ _).symm, if_neg (bar_ne _ _ _).symm]
      rfl
    · intro u _ hu
      exact if_neg fun h => hu (congrArg Prod.snd (Option.some.inj (congrArg Prod.snd h))).symm
    · exact fun h => absurd (Finset.mem_univ t) h
  · intro d _ hd
    rw [O₀_at, if_neg (bar_ne _ _ _).symm, if_neg (bar_ne _ _ _).symm, if_neg (bar_ne _ _ _).symm,
      Finset.sum_eq_zero]
    · rfl
    intro u _
    refine if_neg fun h => ?_
    have hu : t = u := congrArg Prod.snd (Option.some.inj (congrArg Prod.snd h))
    subst hu
    exact hd (by rw [show c = tgt t d from congrArg Prod.fst h, org_tgt])
  · exact fun h => absurd (Finset.mem_univ (org t c)) h

omit [FloatOps F] in
theorem creds (c : Dev nD) :
    (Pipeline.launchCred O₀ c : sProp 𝕄) ⊢ iprop(cred (tallyAt (barCell c) () 3) ∗ bigSep Finset.univ fun t : Fin 10 => cred (tallyAt (recvCell t c) () (amt t))) := by
  unfold Pipeline.launchCred
  refine (show _ ⊢ _ from bigSep_subset (Finset.subset_univ (Finset.univ.map ⟨csem, csem_injective⟩))).trans ?_
  rw [bigSep_map, bigSep_ck]
  refine BIClass.sep_mono (Entails.of_eq (congrArg cred (launch_bar c))) ?_
  iintro ⟨-, H⟩
  iapply (show (bigSep Finset.univ fun t : Fin 10 => (cred (tallyOn (recvCell t c) (launchCredit (Pipeline.owing O₀) 0 (recvCell t c))) : sProp 𝕄))
    ⊢ bigSep Finset.univ fun t : Fin 10 => cred (tallyAt (recvCell t c) () (amt t)) from bigSep_mono fun t _ => Entails.of_eq (congrArg cred (launch_recv t c)))
  iexact H

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, #Hlev, Hcr, -, HG⟩
  ihave Hc := (creds (F := F) c) $$ Hcr
  icases Hc with ⟨H1, HN⟩
  imodintro
  unfold start G' linear payToks barSt outg inc
  rw [bigSep_ck]
  icases HG with ⟨%K, #HR, ⟨Hab, Has, Har⟩, ⟨Hb0, Hb1, Hb2⟩, Hts, Htr⟩
  isplitl
  · iexists K
    isplitr; · iexact HR
    isplitr; · iexact Hlev
    isplitl [Hb0 Hb1 Hb2 Hab H1]
    · isplitl [Hb0]; · iexact Hb0
      isplitl [Hb1]; · iexact Hb1
      isplitl [Hb2]; · iexact Hb2
      isplitl [Hab]; · iexact Hab
      iexact H1
    rw [bigSep_sep', bigSep_sep', bigSep_sep']
    isplitl [Hts Htr Has]
    · isplitl [Hts]; · iexact Hts
      isplitl [Htr]; · iexact Htr
      iexact Has
    isplitl [Har]; · iexact Har
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (show (Pipeline.scopedRest cfg0.spec c : sProp 𝕄) ⊢ scrs (F := F) c from Entails.of_eq (scopedRest0_eq c)); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ownSems0_eq, unscopedSems0_eq]
  unfold Φ₁
  iintro ⟨Hb, Hs, Hr, Hscr⟩
  isplitl [Hb]; · iexact Hb
  isplitl [Hs Hr]
  · isplitl [Hs] <;> iassumption
  iapply (show scrs (F := F) c ⊢ (Pipeline.scopedRest cfg0.spec c : sProp 𝕄) from Entails.of_eq (scopedRest0_eq c).symm); iexact Hscr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the run leaves in window `w`'s array on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
set_option maxHeartbeats 1600000 in
/-- From any memory with zero counters, for any float values: every weakly fair execution of the four devices
    terminates, every window's array at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array after the run holds what it held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.KernelIdeal.Att

end
-- ==== Proof.Frames.lean ====
/-
  The frame of the four-device run, read off `run_main`: every argument array ends as it was at the launch, and
  every semaphore counter ends at zero.
-/
module

public import proofs.«01_k».proof.Proof.Run

@[expose] public section

noncomputable section

namespace Cert.KernelIdeal.Att

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ) (ρ : Dev nD → PrngReg)

/-- The five argument arrays of device `c` hold in `r` what they held in the initial memory. -/
def ArgsKept (c : Dev nD) (r : PUnit × MemSt nD τ sig (Elt F)) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- At a final state each device's argument arrays are as at the launch. -/
theorem argsKept (r : PUnit × MemSt nD τ sig (Elt F)) (h : QC m ρ r) (c : Dev nD) : ArgsKept m c r :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

/-- Every weakly fair execution of the four devices terminates with the arguments unchanged and all counters zero. -/
theorem frame : θ_run defs (onTc (τ := τ) (main (F := F))) ⟨m, fun _ => 0, ρ⟩
    (fun r => (∀ c : Dev nD, ArgsKept m c r) ∧ r.2.sem = fun _ => 0) :=
  (θ_run defs _ _).mono (fun r h => ⟨argsKept m ρ r h.1, h.2⟩) (run_main m ρ)

end Cert.KernelIdeal.Att

end
-- ==== Proof.Spec.lean ====
/-
  Attention with rotary positions over the extended reals, as plain functions of the coordinates: what both programs
  compute. With real inputs and real query and key weights every score is real, and then taking a row's greatest score
  from the scores before the exponentials does not change the weights.
-/
module

public import Idealize.ShloMosaic.Lib.Pointwise
public import Idealize.ShloMosaic.Lib.IdealHost
public import Mathlib.Analysis.SpecialFunctions.Pow.Real

@[expose] public section

noncomputable section

namespace Cert.Att

open Idealize.ShloMosaic

/-! ## The constants -/

theorem ofBits_eighth : Ideal.ofBits .f32 0x3E000000#32 = ((1 / 8 : ℝ) : EReal) := by
  simp [Ideal.ofBits, Ideal.ieee, -EReal.coe_mul, -EReal.coe_neg]; norm_num
theorem ofBits_neg_thirtysecond : Ideal.ofBits .f32 0xBD000000#32 = ((-(1 / 32) : ℝ) : EReal) := by
  simp [Ideal.ofBits, Ideal.ieee, -EReal.coe_mul, -EReal.coe_neg]; norm_num
theorem ofBits_ten_thousand : Ideal.ofBits .f32 0x461C4000#32 = ((10000 : ℝ) : EReal) := by
  simp [Ideal.ofBits, Ideal.ieee, -EReal.coe_mul, -EReal.coe_neg]; norm_num
theorem ofBits_sixty_four : Ideal.ofBits .f32 0x42800000#32 = ((64 : ℝ) : EReal) := by
  simp [Ideal.ofBits, Ideal.ieee, -EReal.coe_mul, -EReal.coe_neg]; norm_num
theorem ofBits_neg_one : Ideal.ofBits .f32 0xBF800000#32 = ((-1 : ℝ) : EReal) := by
  simp [Ideal.ofBits, Ideal.ieee, -EReal.coe_mul, -EReal.coe_neg]; norm_num
theorem ofBits_neg_inf : Ideal.ofBits .f32 0xFF800000#32 = ⊥ := by
  simp [Ideal.ofBits, Ideal.ieee]
theorem ofBits_inf : Ideal.ofBits .f32 0x7F800000#32 = ⊤ := by
  simp [Ideal.ofBits, Ideal.ieee]

/-- A small natural as a word, converted to a float, is that natural. -/
theorem sitofp_ofNat (n : ℕ) (h : n < 1024) : FloatOps.sitofp (F := Ideal) .f32 (BitVec.ofNat 32 n) = ((n : ℝ) : EReal) := by
  show ((((BitVec.ofNat 32 n).toInt : ℤ) : ℝ) : EReal) = _
  rw [show (BitVec.ofNat 32 n).toInt = (n : ℤ) by
    rw [BitVec.toInt_eq_toNat_of_lt (by rw [BitVec.toNat_ofNat]; omega), BitVec.toNat_ofNat, Nat.mod_eq_of_lt (by omega)]]
  simp

/-! ## The angle -/

/-- The angle of position `r` and frequency `k`. -/
def ang (r k : ℕ) : ℝ := (r : ℝ) * Real.exp (-((k : ℝ) / 32) * Real.log 10000)

/-! ## The attention -/

variable (X : Fin 2 → Fin 1024 → Fin 768 → EReal) (Wq Wk Wv : Fin 768 → Fin 1024 → EReal) (Wo : Fin 1024 → Fin 768 → EReal)

/-- A projection of the input. -/
def proj (W : Fin 768 → Fin 1024 → EReal) (b : Fin 2) (i n : Fin 1024) : EReal := ∑ k : Fin 768, X b i k * W k n
/-- Each pair of columns turned a quarter: an even column is the odd one after it negated, an odd one the even one before it. -/
def turn (y : Fin 1024 → EReal) (n : Fin 1024) : EReal :=
  if h : n.val % 2 = 0 then -y ⟨n.val + 1, by omega⟩ else y ⟨n.val - 1, by omega⟩
/-- A projection rotated by the angle of its position. -/
def rope (W : Fin 768 → Fin 1024 → EReal) (b : Fin 2) (i n : Fin 1024) : EReal :=
  proj X W b i n * ((Real.cos (ang i.val (n.val % 64 / 2)) : ℝ) : EReal) + turn (proj X W b i) n * ((Real.sin (ang i.val (n.val % 64 / 2)) : ℝ) : EReal)
/-- Column `e` of head `h`. -/
def col (h : Fin 16) (e : Fin 64) : Fin 1024 := ⟨64 * h.val + e.val, by omega⟩
/-- The scaled score of two positions in a head. -/
def score (b : Fin 2) (h : Fin 16) (i j : Fin 1024) : EReal :=
  (∑ e : Fin 64, rope X Wq b i (col h e) * rope X Wk b j (col h e)) * Ideal.ofBits .f32 0x3E000000#32
/-- A row's weights: the exponentials over their sum. -/
def wt (s : Fin 1024 → EReal) (j : Fin 1024) : EReal := Ideal.div (Ideal.exp (s j)) (∑ j' : Fin 1024, Ideal.exp (s j'))
/-- The head a column is of. -/
def hd (n : Fin 1024) : Fin 16 := ⟨n.val / 64, by omega⟩
/-- The context: the values weighted. -/
def ctx (b : Fin 2) (i n : Fin 1024) : EReal := ∑ j : Fin 1024, wt (score X Wq Wk b (hd n) i) j * proj X Wv b j n
/-- The result: the context times the output weights. -/
def out (b : Fin 2) (i : Fin 1024) (o : Fin 768) : EReal := ∑ n : Fin 1024, ctx X Wq Wk Wv b i n * Wo n o

/-! ## Real values -/

/-- The value is a real number. -/
def IsR (z : EReal) : Prop := ∃ r : ℝ, z = (r : EReal)

theorem IsR.add {a b : EReal} : IsR a → IsR b → IsR (a + b) := fun ⟨r, hr⟩ ⟨s, hs⟩ => ⟨r + s, by rw [hr, hs, EReal.coe_add]⟩
theorem IsR.mul {a b : EReal} : IsR a → IsR b → IsR (a * b) := fun ⟨r, hr⟩ ⟨s, hs⟩ => ⟨r * s, by rw [hr, hs, EReal.coe_mul]⟩
theorem IsR.neg {a : EReal} : IsR a → IsR (-a) := fun ⟨r, hr⟩ => ⟨-r, by rw [hr, EReal.coe_neg]⟩
theorem IsR.sum {ι : Type} (s : Finset ι) (f : ι → EReal) (h : ∀ i, IsR (f i)) : IsR (∑ i ∈ s, f i) :=
  Finset.sum_induction f IsR (fun _ _ => IsR.add) ⟨0, rfl⟩ fun i _ => h i
theorem IsR.coe (r : ℝ) : IsR (r : EReal) := ⟨r, rfl⟩

variable {X Wq Wk}

theorem proj_real {W : Fin 768 → Fin 1024 → EReal} (hX : ∀ b i k, IsR (X b i k)) (hW : ∀ k n, IsR (W k n)) (b : Fin 2) (i n : Fin 1024) :
    IsR (proj X W b i n) := IsR.sum _ _ fun k => (hX b i k).mul (hW k n)
theorem turn_real {y : Fin 1024 → EReal} (h : ∀ n, IsR (y n)) (n : Fin 1024) : IsR (turn y n) := by
  unfold turn; split
  · exact (h _).neg
  · exact h _
theorem rope_real {W : Fin 768 → Fin 1024 → EReal} (hX : ∀ b i k, IsR (X b i k)) (hW : ∀ k n, IsR (W k n)) (b : Fin 2) (i n : Fin 1024) :
    IsR (rope X W b i n) := ((proj_real hX hW b i n).mul (.coe _)).add ((turn_real (proj_real hX hW b i) n).mul (.coe _))
/-- With real inputs and real query and key weights every score is real. -/
theorem score_real (hX : ∀ b i k, IsR (X b i k)) (hq : ∀ k n, IsR (Wq k n)) (hk : ∀ k n, IsR (Wk k n)) (b : Fin 2) (h : Fin 16) (i j : Fin 1024) :
    IsR (score X Wq Wk b h i j) := by
  unfold score; rw [ofBits_eighth]
  exact (IsR.sum _ _ fun e => (rope_real hX hq b i _).mul (rope_real hX hk b j _)).mul (.coe _)

/-! ## The weights with the greatest score taken off -/

theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- The weights of real scores, at any real shift of the scores. -/
theorem wt_shift (s : Fin 1024 → ℝ) (μ : ℝ) (j : Fin 1024) :
    Ideal.div (Ideal.exp ((s j : EReal) - (μ : EReal))) (∑ j' : Fin 1024, Ideal.exp ((s j' : EReal) - (μ : EReal))) = wt (fun j => (s j : EReal)) j := by
  have pos (t : Fin 1024 → ℝ) : (∑ j' : Fin 1024, Real.exp (t j')) ≠ 0 :=
    (Finset.sum_pos (fun i _ => Real.exp_pos (t i)) ⟨j, Finset.mem_univ j⟩).ne'
  unfold wt
  simp only [← EReal.coe_sub, Ideal.exp_coe, ← coe_sum]
  rw [Ideal.div_coe (pos _), Ideal.div_coe (pos _), ← EReal.coe_mul, ← EReal.coe_mul]
  congr 1
  simp only [Real.exp_sub]
  rw [← Finset.sum_div]
  have h1 := pos s
  have h2 := (Real.exp_pos μ).ne'
  field_simp

/-- The weights of real scores are those of the scores less their greatest. -/
theorem wt_max (s : Fin 1024 → EReal) (hs : ∀ j, IsR (s j)) (j : Fin 1024) :
    Ideal.div (Ideal.exp (s j - Finset.univ.fold max (Ideal.ofBits .f32 0xFF800000#32) s))
      (∑ j' : Fin 1024, Ideal.exp (s j' - Finset.univ.fold max (Ideal.ofBits .f32 0xFF800000#32) s)) = wt s j := by
  choose t ht using hs
  obtain ⟨i, _, hi⟩ := Finset.exists_mem_eq_sup (Finset.univ : Finset (Fin 1024)) ⟨j, Finset.mem_univ j⟩ s
  have hM : Finset.univ.fold max (Ideal.ofBits .f32 0xFF800000#32) s = ((t i : ℝ) : EReal) := by
    rw [ofBits_neg_inf, ← ht i, ← hi]; rfl
  rw [hM, show s = fun j => (t j : EReal) from funext ht]
  exact wt_shift t (t i) j

end Cert.Att

end
-- ==== Proof.Tables.lean ====
/-
  The kernel's tables at the ideal instance: the cosine and the sine of the angle of a position and a column, and the
  matrix that turns each pair of columns a quarter turn.
-/
module

public import proofs.«01_k».proof.Proof.Vals
public import proofs.«01_k».proof.Proof.Spec

@[expose] public section

set_option maxRecDepth 16384

noncomputable section

namespace Cert.KernelIdeal.Att

open Idealize.ShloMosaic Cert.Att
open Cert.KernelIdeal Cert.KernelIdeal.Gen

/-! ## The angle -/

/-- The column's place in its head, as the kernel's words compute it. -/
def colWord (w : BitVec 32) : BitVec 32 :=
  Scalar.select (IntOp.andi (IntOp.xori (IntOp.cmpi .slt (IntOp.remsi .vector w hd64) 0#32) (Scalar.cmpi .slt hd64 0#32)) (IntOp.cmpi .ne (IntOp.remsi .vector w hd64) 0#32))
    (IntOp.addi (IntOp.remsi .vector w hd64) hd64) (IntOp.remsi .vector w hd64)
/-- The word halved, rounded down, as the kernel's words compute it. -/
def halfWord (b : BitVec 32) : BitVec 32 :=
  Scalar.select (IntOp.andi (IntOp.cmpi .ne (IntOp.subi (BitVec.setWidth 32 (IntOp.cmpi .sgt b 0#32)) (BitVec.setWidth 32 (IntOp.cmpi .slt b 0#32)))
      (Scalar.subi (Scalar.extui (Scalar.cmpi .sgt 2#32 0#32)) (Scalar.extui (Scalar.cmpi .slt 2#32 0#32)))) (IntOp.cmpi .ne (IntOp.remsi .vector b 2#32) 0#32))
    (IntOp.subi (IntOp.divsi .vector b 2#32) 1#32) (IntOp.divsi .vector b 2#32)

theorem halfWord_colWord : ∀ n : Fin 256, halfWord (colWord (BitVec.ofNat 32 n.val)) = BitVec.ofNat 32 (n.val % 64 / 2) := by decide +kernel

/-- The kernel's angle at a position and a column. -/
theorem pay10_apply (r : Fin 1024) (n : Fin 256) :
    k0_pay10 (F := Ideal) k0_pay6 hd64 k0_pay7 k0_pay8 k0_pay9 (ix2 r n) = ((ang r.val (n.val % 64 / 2) : ℝ) : EReal) := by
  have h : k0_pay10 (F := Ideal) k0_pay6 hd64 k0_pay7 k0_pay8 k0_pay9 (ix2 r n)
      = FloatOps.sitofp (F := Ideal) .f32 (BitVec.ofNat 32 r.val) * Ideal.exp (FloatOps.sitofp (F := Ideal) .f32 (halfWord (colWord (BitVec.ofNat 32 n.val)))
          * Ideal.ofBits .f32 0xBD000000#32 * Ideal.log (Ideal.ofBits .f32 0x461C4000#32)) := by
    pointwise [k0_pay10, k0_pay6, k0_pay7, k0_pay8, k0_pay9]
    simp only [halfWord, colWord, hd64]
    rfl
  rw [h, halfWord_colWord, sitofp_ofNat _ r.isLt, sitofp_ofNat _ (by omega), ofBits_neg_thirtysecond, ofBits_ten_thousand, Ideal.log_coe, if_neg (by norm_num),
    ← EReal.coe_mul, ← EReal.coe_mul, Ideal.exp_coe, ← EReal.coe_mul, ang]
  congr 3
  push_cast
  ring_nf

/-- The table of cosines. -/
theorem COS_apply (r : Fin 1024) (n : Fin 256) : COS (F := Ideal) (ix2 r n) = ((Real.cos (ang r.val (n.val % 64 / 2)) : ℝ) : EReal) := by
  have h : COS (F := Ideal) (ix2 r n) = Ideal.cos (k0_pay10 (F := Ideal) k0_pay6 hd64 k0_pay7 k0_pay8 k0_pay9 (ix2 r n)) := by
    unfold COS; pointwise [k0_pay11]
  rw [h, pay10_apply, Ideal.cos_coe]

/-- The table of sines. -/
theorem SIN_apply (r : Fin 1024) (n : Fin 256) : SIN (F := Ideal) (ix2 r n) = ((Real.sin (ang r.val (n.val % 64 / 2)) : ℝ) : EReal) := by
  have h : SIN (F := Ideal) (ix2 r n) = Ideal.sin (k0_pay10 (F := Ideal) k0_pay6 hd64 k0_pay7 k0_pay8 k0_pay9 (ix2 r n)) := by
    unfold SIN; pointwise [k0_pay13, k0_pay12]
  rw [h, pay10_apply, Ideal.sin_coe]

/-! ## The quarter turn -/

/-- The word's parity, as the kernel's words compute it. -/
def parWord (w : BitVec 32) : BitVec 32 :=
  Scalar.select (IntOp.andi (IntOp.xori (IntOp.cmpi .slt (IntOp.remsi .vector w two2) 0#32) (Scalar.cmpi .slt two2 0#32)) (IntOp.cmpi .ne (IntOp.remsi .vector w two2) 0#32))
    (IntOp.addi (IntOp.remsi .vector w two2) two2) (IntOp.remsi .vector w two2)

theorem parWord_odd : ∀ n : Fin 256, IntOp.cmpi .eq (parWord (BitVec.ofNat 32 n.val)) 1#32 = if n.val % 2 = 1 then 1#1 else 0#1 := by decide +kernel
theorem parWord_even : ∀ n : Fin 256, IntOp.cmpi .eq (parWord (BitVec.ofNat 32 n.val)) 0#32 = if n.val % 2 = 0 then 1#1 else 0#1 := by decide +kernel
theorem next_word (a b : Fin 256) : IntOp.cmpi .eq (BitVec.ofNat 32 a.val) (IntOp.addi (BitVec.ofNat 32 b.val) 1#32) = if a.val = b.val + 1 then 1#1 else 0#1 := by
  have e : (BitVec.ofNat 32 a.val = BitVec.ofNat 32 b.val + 1#32) ↔ a.val = b.val + 1 := by
    have := a.isLt; have := b.isLt
    constructor
    · intro h
      have := congrArg BitVec.toNat h
      rw [BitVec.toNat_add, BitVec.toNat_ofNat, BitVec.toNat_ofNat, BitVec.toNat_ofNat] at this
      omega
    · intro h; rw [h, BitVec.ofNat_add]
  by_cases h : a.val = b.val + 1
  · rw [if_pos h]
    show BitVec.ofBool (BitVec.ofNat 32 a.val == BitVec.ofNat 32 b.val + 1#32) = _
    rw [beq_iff_eq.mpr (e.mpr h)]; rfl
  · rw [if_neg h]
    show BitVec.ofBool (BitVec.ofNat 32 a.val == BitVec.ofNat 32 b.val + 1#32) = _
    rw [beq_eq_false_iff_ne.mpr (mt e.mp h)]; rfl

theorem select_and {α : Type} (p q : Prop) [Decidable p] [Decidable q] (x y : α) :
    Scalar.select (IntOp.andi (if p then 1#1 else 0#1) (if q then 1#1 else 0#1)) x y = if p ∧ q then x else y := by
  by_cases hp : p <;> by_cases hq : q <;> simp [hp, hq, Scalar.select, IntOp.andi]

/-- The matrix of the quarter turn: minus one just below the diagonal in the odd rows, one just above it in the even rows. -/
theorem RMAT_apply (r n : Fin 256) : RMAT (F := Ideal) (ix2 r n)
    = if r.val = n.val + 1 ∧ r.val % 2 = 1 then -1 else if n.val = r.val + 1 ∧ r.val % 2 = 0 then 1 else 0 := by
  have h : RMAT (F := Ideal) (ix2 r n)
      = Scalar.select (IntOp.andi (IntOp.cmpi .eq (BitVec.ofNat 32 r.val) (IntOp.addi (BitVec.ofNat 32 n.val) 1#32)) (IntOp.cmpi .eq (parWord (BitVec.ofNat 32 r.val)) 1#32))
          (Ideal.ofBits .f32 0xBF800000#32)
          (Scalar.select (IntOp.andi (IntOp.cmpi .eq (BitVec.ofNat 32 n.val) (IntOp.addi (BitVec.ofNat 32 r.val) 1#32)) (IntOp.cmpi .eq (parWord (BitVec.ofNat 32 r.val)) 0#32)) 1 0) := by
    unfold RMAT
    pointwise [k0_pay14, k0_pay15, k0_pay16, k0_pay17, k0_pay18]
    rfl
  rw [h, next_word, next_word, parWord_odd, parWord_even, select_and, select_and, ofBits_neg_one]
  simp

/-- Turning a row of pairs: an even column takes the odd one after it negated, an odd column the even one before it. -/
theorem turn_sum (y : Fin 256 → EReal) (n : Fin 256) :
    ∑ k : Fin 256, y k * RMAT (F := Ideal) (ix2 k n)
      = if h : n.val % 2 = 0 then -y ⟨n.val + 1, by omega⟩ else y ⟨n.val - 1, by omega⟩ := by
  simp only [RMAT_apply]
  by_cases h : n.val % 2 = 0
  · rw [dif_pos h, Finset.sum_eq_single (⟨n.val + 1, by omega⟩ : Fin 256)]
    · rw [if_pos ⟨rfl, by show (n.val + 1) % 2 = 1; omega⟩, mul_comm, neg_one_mul]
    · intro k _ hk
      have hk' : k.val ≠ n.val + 1 := fun e => hk (Fin.ext e)
      rw [if_neg (fun e => hk' e.1), if_neg (by omega), mul_zero]
    · intro hk; exact absurd (Finset.mem_univ _) hk
  · rw [dif_neg h, Finset.sum_eq_single (⟨n.val - 1, by omega⟩ : Fin 256)]
    · rw [if_neg (by show ¬(n.val - 1 = n.val + 1 ∧ (n.val - 1) % 2 = 1); omega), if_pos (by show n.val = n.val - 1 + 1 ∧ (n.val - 1) % 2 = 0; omega), mul_one]
    · intro k _ hk
      have hk' : k.val ≠ n.val - 1 := fun e => hk (Fin.ext e)
      rw [if_neg (by omega), if_neg (by omega), mul_zero]
    · intro hk; exact absurd (Finset.mem_univ _) hk

end Cert.KernelIdeal.Att

end
-- ==== Proof.PayVals.lean ====
/-
  The kernel's computed blocks at the ideal instance, read at an index: the products with the weights, the rotation
  of the queries and the keys, one head's attention and the partial products of the result.
-/
module

public import proofs.«01_k».proof.Proof.Gen.KernelIdeal.Skeleton
public import Idealize.ShloMosaic.Lib.Pointwise

@[expose] public section

set_option maxRecDepth 16384

noncomputable section

namespace Cert.KernelIdeal.Att

open Idealize.ShloMosaic
open Cert.KernelIdeal Cert.KernelIdeal.Gen

/-- The product of one block of rows with the three weight blocks side by side. -/
theorem pay24_apply (x : Vec Ideal S1x256x768 .bf16) (w : Vec Ideal S768x768 .bf16) (r : Fin 256) (n : Fin 768) :
    k0_pay24 x w (ix2 r n) = ∑ k : Fin 768, x (ix3 0 r k) * w (ix2 k n) := by
  pointwise [k0_pay24]

/-- The rotated queries of one block of rows. -/
theorem pay25_apply (R C S : Vec Ideal S256x256 .f32) (x : Vec Ideal S1x256x768 .bf16) (w : Vec Ideal S768x768 .bf16) (r n : Fin 256) :
    k0_pay25 R C S x w (ix3 0 r n) = k0_pay24 x w (ix2 r ⟨n.val, by omega⟩) * C (ix2 r n)
      + (∑ k : Fin 256, k0_pay24 x w (ix2 r ⟨k.val, by omega⟩) * R (ix2 k n)) * S (ix2 r n) := by
  pointwise [k0_pay25]

/-- The rotated keys of one block of rows. -/
theorem pay26_apply (R C S : Vec Ideal S256x256 .f32) (x : Vec Ideal S1x256x768 .bf16) (w : Vec Ideal S768x768 .bf16) (r n : Fin 256) :
    k0_pay26 R C S x w (ix3 0 r n) = k0_pay24 x w (ix2 r ⟨256 + n.val, by omega⟩) * C (ix2 r n)
      + (∑ k : Fin 256, k0_pay24 x w (ix2 r ⟨256 + k.val, by omega⟩) * R (ix2 k n)) * S (ix2 r n) := by
  pointwise [k0_pay26]

/-- The values of one block of rows. -/
theorem pay27_apply (x : Vec Ideal S1x256x768 .bf16) (w : Vec Ideal S768x768 .bf16) (r n : Fin 256) :
    k0_pay27 x w (ix3 0 r n) = k0_pay24 x w (ix2 r ⟨512 + n.val, by omega⟩) := by
  pointwise [k0_pay27]

/-- One head's attention at one block of positions: the weights are the exponentials of the scaled scores over their sum. -/
theorem pay55_apply (q : Vec Ideal S1x256x64 .bf16) (k v : Vec Ideal S1x1024x64 .bf16) (r : Fin 256) (d : Fin 64) :
    k0_pay55 q k v (ix4 0 0 r d) = ∑ j : Fin 1024,
      Ideal.div (Ideal.exp ((∑ e : Fin 64, q (ix3 0 r e) * k (ix3 0 j e)) * Ideal.ofBits .f32 0x3E000000#32))
        (∑ j' : Fin 1024, Ideal.exp ((∑ e : Fin 64, q (ix3 0 r e) * k (ix3 0 j' e)) * Ideal.ofBits .f32 0x3E000000#32)) * v (ix3 0 j d) := by
  pointwise [k0_pay55]

/-- The device's own partial product. -/
theorem pay117_apply (x : Vec Ideal S1x1x256x256 .bf16) (w : Vec Ideal S256x768 .bf16) (r : Fin 256) (o : Fin 768) :
    k0_pay117 x w (ix3 0 r o) = ∑ n : Fin 256, x (ix4 0 0 r n) * w (ix2 n o) := by
  pointwise [k0_pay117]

/-- A landed partial product added. -/
theorem pay120_apply (a : Vec Ideal S1x256x768 .f32) (x : Vec Ideal S1x1x256x256 .bf16) (w : Vec Ideal S1x256x768 .bf16) (r : Fin 256) (o : Fin 768) :
    k0_pay120 a x w (ix3 0 r o) = a (ix3 0 r o) + ∑ n : Fin 256, x (ix4 0 0 r n) * w (ix3 0 n o) := by
  pointwise [k0_pay120]

/-- Narrowing a block changes nothing over the extended reals. -/
theorem pay1_eq (x : Vec Ideal S2x256x768 .f32) (b : Fin 2) (r : Fin 256) (k : Fin 768) : k0_pay1 x (ix3 b r k) = x (ix3 b r k) := by
  pointwise [k0_pay1]
theorem pay2_eq (w : Vec Ideal S256x768 .f32) (r : Fin 256) (k : Fin 768) : k0_pay2 w (ix2 r k) = w (ix2 r k) := by
  pointwise [k0_pay2]
theorem pay3_eq (w : Vec Ideal S768x256 .f32) (r : Fin 768) (k : Fin 256) : k0_pay3 w (ix2 r k) = w (ix2 r k) := by
  pointwise [k0_pay3]
theorem pay4_eq (w : Vec Ideal S768x256 .f32) (r : Fin 768) (k : Fin 256) : k0_pay4 w (ix2 r k) = w (ix2 r k) := by
  pointwise [k0_pay4]
theorem pay5_eq (w : Vec Ideal S768x256 .f32) (r : Fin 768) (k : Fin 256) : k0_pay5 w (ix2 r k) = w (ix2 r k) := by
  pointwise [k0_pay5]

end Cert.KernelIdeal.Att

end
-- ==== Proof.Kvals.lean ====
/-
  The kernel's blocks over the extended reals: with the devices' blocks read as the blocks of whole arrays, each
  device's queries, keys, values, contexts and result are the attention's at the device's positions and columns.
-/
module

public import proofs.«01_k».proof.Proof.Tables
public import proofs.«01_k».proof.Proof.PayVals

@[expose] public section

set_option maxRecDepth 16384

noncomputable section

namespace Cert.KernelIdeal.Att

open Idealize.ShloMosaic Idealize.ShloMosaic.TcCoe Cert.Att
open Cert.KernelIdeal Cert.KernelIdeal.Gen

/-- Position or column `r` of device `d`'s block. -/
def inWhole (d : Fin 4) (r : Fin 256) : Fin 1024 := ⟨256 * d.val + r.val, by omega⟩

theorem fin_of_lt (n k : ℕ) (h : 0 < n) (hk : k < n) : fin n k h = ⟨k, hk⟩ := Fin.ext (Nat.mod_eq_of_lt hk)

variable (m : (ℓ : Loc nD τ sig) → Buf (Elt Ideal) ℓ) (ρ : Dev nD → PrngReg)
variable (X : Fin 2 → Fin 1024 → Fin 768 → EReal) (Wq Wk Wv : Fin 768 → Fin 1024 → EReal) (Wo : Fin 1024 → Fin 768 → EReal)

/-- The devices' arguments are the blocks of the whole arrays. -/
structure Blocks : Prop where
  x : ∀ (d : Dev nD) (b : Fin 2) (r : Fin 256) (k : Fin 768), xin m ρ d (ix3 b r k) = X b (inWhole d r) k
  q : ∀ (d : Dev nD) (k : Fin 768) (n : Fin 256), wqin m ρ d (ix2 k n) = Wq k (inWhole d n)
  k : ∀ (d : Dev nD) (k : Fin 768) (n : Fin 256), wkin m ρ d (ix2 k n) = Wk k (inWhole d n)
  v : ∀ (d : Dev nD) (k : Fin 768) (n : Fin 256), wvin m ρ d (ix2 k n) = Wv k (inWhole d n)
  o : ∀ (d : Dev nD) (n : Fin 256) (o : Fin 768), woin m ρ d (ix2 n o) = Wo (inWhole d n) o

variable {m ρ X Wq Wk Wv Wo} (H : Blocks m ρ X Wq Wk Wv Wo)
include H

theorem xB_apply (d : Dev nD) (b : Fin 2) (r : Fin 256) (k : Fin 768) : xB m ρ d b (ix3 0 r k) = X b (inWhole d r) k := by
  show X16 m ρ d (ValueIdx.ix3 b r k) = _
  rw [← ix3_eq_valueIdx]
  exact (pay1_eq _ b r k).trans (H.x d b r k)

theorem WQKV_q (c : Dev nD) (k : Fin 768) (n : Fin 256) : WQKV m ρ c (ix2 k ⟨n.val, by omega⟩) = Wq k (inWhole c n) := by
  show (if n.val < 256 then k0_pay3 (wqin m ρ c) (ValueIdx.ix2 k (fin 256 n.val)) else _) = _
  rw [if_pos n.isLt, ← ix2_eq_valueIdx, pay3_eq, H.q, fin_of_lt _ _ _ n.isLt]
theorem WQKV_k (c : Dev nD) (k : Fin 768) (n : Fin 256) : WQKV m ρ c (ix2 k ⟨256 + n.val, by omega⟩) = Wk k (inWhole c n) := by
  show (if 256 + n.val < 256 then _ else if 256 + n.val < 512 then k0_pay4 (wkin m ρ c) (ValueIdx.ix2 k (fin 256 (256 + n.val))) else _) = _
  rw [if_neg (by omega), if_pos (by omega), ← ix2_eq_valueIdx, pay4_eq, H.k]
  exact congrArg _ (congrArg _ (Fin.ext (show (256 + n.val) % 256 = n.val by omega)))
theorem WQKV_v (c : Dev nD) (k : Fin 768) (n : Fin 256) : WQKV m ρ c (ix2 k ⟨512 + n.val, by omega⟩) = Wv k (inWhole c n) := by
  show (if 512 + n.val < 256 then _ else if 512 + n.val < 512 then _ else k0_pay5 (wvin m ρ c) (ValueIdx.ix2 k (fin 256 (512 + n.val)))) = _
  rw [if_neg (by omega), if_neg (by omega), ← ix2_eq_valueIdx, pay5_eq, H.v]
  exact congrArg _ (congrArg _ (Fin.ext (show (512 + n.val) % 256 = n.val by omega)))

theorem pay24_q (c d : Dev nD) (b : Fin 2) (r n : Fin 256) : k0_pay24 (xB m ρ d b) (WQKV m ρ c) (ix2 r ⟨n.val, by omega⟩) = proj X Wq b (inWhole d r) (inWhole c n) := by
  rw [pay24_apply]; exact Finset.sum_congr rfl fun k _ => by rw [xB_apply H, WQKV_q H]
theorem pay24_k (c d : Dev nD) (b : Fin 2) (r n : Fin 256) : k0_pay24 (xB m ρ d b) (WQKV m ρ c) (ix2 r ⟨256 + n.val, by omega⟩) = proj X Wk b (inWhole d r) (inWhole c n) := by
  rw [pay24_apply]; exact Finset.sum_congr rfl fun k _ => by rw [xB_apply H, WQKV_k H]
theorem pay24_v (c d : Dev nD) (b : Fin 2) (r n : Fin 256) : k0_pay24 (xB m ρ d b) (WQKV m ρ c) (ix2 r ⟨512 + n.val, by omega⟩) = proj X Wv b (inWhole d r) (inWhole c n) := by
  rw [pay24_apply]; exact Finset.sum_congr rfl fun k _ => by rw [xB_apply H, WQKV_v H]

omit H in
/-- Turning a device's columns is turning the whole row. -/
theorem turn_block (y : Fin 1024 → EReal) (c : Fin 4) (n : Fin 256) :
    ∑ k : Fin 256, y (inWhole c k) * RMAT (F := Ideal) (ix2 k n) = turn y (inWhole c n) := by
  rw [turn_sum (fun k => y (inWhole c k)) n]
  unfold turn
  have hv : (inWhole c n).val = 256 * c.val + n.val := rfl
  by_cases h : n.val % 2 = 0
  · rw [dif_pos h, dif_pos (by rw [hv]; omega)]; rfl
  · rw [dif_neg h, dif_neg (by rw [hv]; omega)]
    exact congrArg y (Fin.ext (show 256 * c.val + (n.val - 1) = 256 * c.val + n.val - 1 by omega))

omit H in
theorem cosB_apply (d : Fin 4) (r n : Fin 256) (c : Fin 4) :
    cosB (F := Ideal) d.val (ix2 r n) = ((Real.cos (ang (inWhole d r).val ((inWhole c n).val % 64 / 2)) : ℝ) : EReal) := by
  show COS (F := Ideal) (ValueIdx.ix2 (fin 1024 (256 * d.val + r.val)) n) = _
  rw [← ix2_eq_valueIdx, fin_of_lt _ _ _ (by omega), COS_apply]
  rw [show (inWhole c n).val % 64 / 2 = n.val % 64 / 2 by show (256 * c.val + n.val) % 64 / 2 = _; omega]; rfl
omit H in
theorem sinB_apply (d : Fin 4) (r n : Fin 256) (c : Fin 4) :
    sinB (F := Ideal) d.val (ix2 r n) = ((Real.sin (ang (inWhole d r).val ((inWhole c n).val % 64 / 2)) : ℝ) : EReal) := by
  show SIN (F := Ideal) (ValueIdx.ix2 (fin 1024 (256 * d.val + r.val)) n) = _
  rw [← ix2_eq_valueIdx, fin_of_lt _ _ _ (by omega), SIN_apply]
  rw [show (inWhole c n).val % 64 / 2 = n.val % 64 / 2 by show (256 * c.val + n.val) % 64 / 2 = _; omega]; rfl

/-- A device's queries, by the block of the position. -/
theorem QP_apply (c d : Dev nD) (b : Fin 2) (r n : Fin 256) : QP m ρ c (ix3 b (inWhole d r) n) = rope X Wq b (inWhole d r) (inWhole c n) := by
  have hd : (inWhole d r).val / 256 = d.val := by show (256 * d.val + r.val) / 256 = _; omega
  have hr : fin 256 (inWhole d r).val = r := Fin.ext (show (256 * d.val + r.val) % 256 = r.val by omega)
  have h : QP m ρ c (ix3 b (inWhole d r) n) = k0_pay25 RMAT (cosB d.val) (sinB d.val) (xB m ρ d b) (WQKV m ρ c) (ix3 0 r n) := by
    show k0_pay25 RMAT (cosB ((inWhole d r).val / 256)) (sinB ((inWhole d r).val / 256)) (xB m ρ (fin 4 ((inWhole d r).val / 256)) b) (WQKV m ρ c) (ValueIdx.ix3 0 (fin 256 (inWhole d r).val) n) = _
    rw [hd, hr, fin_of_lt _ _ _ d.isLt, ix3_eq_valueIdx]
  rw [h, pay25_apply, cosB_apply d r n c, sinB_apply d r n c, pay24_q H]
  simp only [pay24_q H]
  rw [turn_block (proj X Wq b (inWhole d r)) c n]; rfl
/-- A device's keys, by the block of the position. -/
theorem KP_apply (c d : Dev nD) (b : Fin 2) (r n : Fin 256) : KP m ρ c (ix3 b (inWhole d r) n) = rope X Wk b (inWhole d r) (inWhole c n) := by
  have hd : (inWhole d r).val / 256 = d.val := by show (256 * d.val + r.val) / 256 = _; omega
  have hr : fin 256 (inWhole d r).val = r := Fin.ext (show (256 * d.val + r.val) % 256 = r.val by omega)
  have h : KP m ρ c (ix3 b (inWhole d r) n) = k0_pay26 RMAT (cosB d.val) (sinB d.val) (xB m ρ d b) (WQKV m ρ c) (ix3 0 r n) := by
    show k0_pay26 RMAT (cosB ((inWhole d r).val / 256)) (sinB ((inWhole d r).val / 256)) (xB m ρ (fin 4 ((inWhole d r).val / 256)) b) (WQKV m ρ c) (ValueIdx.ix3 0 (fin 256 (inWhole d r).val) n) = _
    rw [hd, hr, fin_of_lt _ _ _ d.isLt, ix3_eq_valueIdx]
  rw [h, pay26_apply, cosB_apply d r n c, sinB_apply d r n c, pay24_k H]
  simp only [pay24_k H]
  rw [turn_block (proj X Wk b (inWhole d r)) c n]; rfl
/-- A device's values, by the block of the position. -/
theorem VP_apply (c d : Dev nD) (b : Fin 2) (r n : Fin 256) : VP m ρ c (ix3 b (inWhole d r) n) = proj X Wv b (inWhole d r) (inWhole c n) := by
  have hd : (inWhole d r).val / 256 = d.val := by show (256 * d.val + r.val) / 256 = _; omega
  have hr : fin 256 (inWhole d r).val = r := Fin.ext (show (256 * d.val + r.val) % 256 = r.val by omega)
  have h : VP m ρ c (ix3 b (inWhole d r) n) = k0_pay27 (xB m ρ d b) (WQKV m ρ c) (ix3 0 r n) := by
    show k0_pay27 (xB m ρ (fin 4 ((inWhole d r).val / 256)) b) (WQKV m ρ c) (ValueIdx.ix3 0 (fin 256 (inWhole d r).val) n) = _
    rw [hd, hr, fin_of_lt _ _ _ d.isLt, ix3_eq_valueIdx]
  rw [h, pay27_apply, pay24_v H]

omit H in
theorem whole_split (j : Fin 1024) : j = inWhole ⟨j.val / 256, by omega⟩ ⟨j.val % 256, by omega⟩ := Fin.ext (show j.val = 256 * (j.val / 256) + j.val % 256 by omega)
theorem KP_all (c : Dev nD) (b : Fin 2) (j : Fin 1024) (n : Fin 256) : KP m ρ c (ix3 b j n) = rope X Wk b j (inWhole c n) := by
  rw [whole_split j]; exact KP_apply H c _ b _ n
theorem VP_all (c : Dev nD) (b : Fin 2) (j : Fin 1024) (n : Fin 256) : VP m ρ c (ix3 b j n) = proj X Wv b j (inWhole c n) := by
  rw [whole_split j]; exact VP_apply H c _ b _ n

/-- A device's attention in one of its heads is the attention's context at the head's column. -/
theorem head_apply (c d : Dev nD) (b : Fin 2) (n r : Fin 256) :
    head m ρ c d.val b (n.val / 64) (ix4 0 0 r (fin 64 n.val)) = ctx X Wq Wk Wv b (inWhole d r) (inWhole c n) := by
  have hcol (e : Fin 64) : inWhole c (fin 256 (64 * (n.val / 64) + e.val)) = col (hd (inWhole c n)) e := Fin.ext (by
    show 256 * c.val + (64 * (n.val / 64) + e.val) % 256 = 64 * ((256 * c.val + n.val) / 64) + e.val
    omega)
  have hn : fin 256 (64 * (n.val / 64) + (fin 64 n.val).val) = n := Fin.ext (by
    show (64 * (n.val / 64) + n.val % 64) % 256 = n.val
    omega)
  have hq (e : Fin 64) : qH m ρ c d.val b (n.val / 64) (ix3 0 r e) = rope X Wq b (inWhole d r) (col (hd (inWhole c n)) e) := by
    show QP m ρ c (ValueIdx.ix3 b (fin 1024 (256 * d.val + r.val)) (fin 256 (64 * (n.val / 64) + e.val))) = _
    rw [← ix3_eq_valueIdx, fin_of_lt 1024 _ _ (by have : d.val < 4 := d.isLt; omega), ← hcol]; exact QP_apply H c d b r _
  have hk (j : Fin 1024) (e : Fin 64) : kH m ρ c b (n.val / 64) (ix3 0 j e) = rope X Wk b j (col (hd (inWhole c n)) e) := by
    show KP m ρ c (ValueIdx.ix3 b j (fin 256 (64 * (n.val / 64) + e.val))) = _
    rw [← ix3_eq_valueIdx, KP_all H, hcol]
  have hv (j : Fin 1024) : vH m ρ c b (n.val / 64) (ix3 0 j (fin 64 n.val)) = proj X Wv b j (inWhole c n) := by
    show VP m ρ c (ValueIdx.ix3 b j (fin 256 (64 * (n.val / 64) + (fin 64 n.val).val))) = _
    rw [← ix3_eq_valueIdx, VP_all H, hn]
  unfold head
  rw [pay55_apply]
  simp only [hq, hk, hv]; rfl

/-- A slot of a device's context. -/
theorem CTXA_apply (c : Dev nD) (s : Fin 4) (b : Fin 2) (r n : Fin 256) :
    CTXA m ρ c (ix4 s b r n) = ctx X Wq Wk Wv b (inWhole (rot c (4 - s.val)) r) (inWhole c n) := by
  rw [← head_apply H c (rot c (4 - s.val)) b n r, ix4_eq_valueIdx, ix4_eq_valueIdx]; rfl

/-- The context of the device `rxs k` places further at the device's own positions. -/
theorem rxB_apply (c : Dev nD) (k : ℕ) (hk : k < 3) (b : Fin 2) (r n : Fin 256) :
    rxB m ρ c k b (ix4 0 0 r n) = ctx X Wq Wk Wv b (inWhole c r) (inWhole (rot c (rxs k)) n) := by
  have h : rxB m ρ c k b (ix4 0 0 r n) = CTXA m ρ (rot c (rxs k)) (ix4 (fin 4 (rxs k)) b r n) := by
    show CTXA m ρ (rot c (rxs (k % 3))) (ValueIdx.ix4 (fin 4 (rxs (k % 3))) b r n) = _
    rw [← ix4_eq_valueIdx, Nat.mod_eq_of_lt hk]
  rw [h, CTXA_apply H]
  congr 2
  apply Fin.ext
  show ((c.val + rxs k) % 4 + (4 - rxs k % 4)) % 4 = c.val
  have hc : c.val < 4 := c.isLt
  unfold rxs
  split <;> omega

theorem ctx0_apply (c : Dev nD) (b : Fin 2) (r n : Fin 256) : ctx0 m ρ c b (ix4 0 0 r n) = ctx X Wq Wk Wv b (inWhole c r) (inWhole c n) := by
  have h : ctx0 m ρ c b (ix4 0 0 r n) = CTXA m ρ c (ix4 0 b r n) := by
    show CTXA m ρ c (ValueIdx.ix4 0 b r n) = _
    rw [← ix4_eq_valueIdx]
  rw [h, CTXA_apply H]
  congr 2
  exact Fin.ext (show (c.val + 4) % 4 = c.val by have : c.val < 4 := c.isLt; omega)

theorem WO16_apply (c : Dev nD) (n : Fin 256) (o : Fin 768) : WO16 m ρ c (ix2 n o) = Wo (inWhole c n) o :=
  (pay2_eq _ n o).trans (H.o c n o)
theorem woB_apply (c : Dev nD) (k : ℕ) (hk : k < 4) (n : Fin 256) (o : Fin 768) : woB m ρ c k (ix3 0 n o) = Wo (inWhole (rot c (4 - k)) n) o := by
  have h : woB m ρ c k (ix3 0 n o) = WO16 m ρ (rot c (4 - k)) (ix2 n o) := by
    show WO16 m ρ (rot c (4 - k % 4)) (ValueIdx.ix2 n o) = _
    rw [← ix2_eq_valueIdx, Nat.mod_eq_of_lt hk]
  rw [h, WO16_apply H]

omit H in
/-- A sum over all columns is the sum over the device's own and the three other devices' columns. -/
theorem sum_around (c : Dev nD) (f : Fin 1024 → EReal) :
    ((∑ n : Fin 256, f (inWhole c n) + ∑ n : Fin 256, f (inWhole (rot c 3) n)) + ∑ n : Fin 256, f (inWhole (rot c 2) n)) + ∑ n : Fin 256, f (inWhole (rot c 1) n)
      = ∑ n : Fin 1024, f n := by
  have e : ∑ n : Fin 1024, f n = ∑ d : Fin 4, ∑ n : Fin 256, f (inWhole d n) := by
    rw [Fin.sum_univ_tiles 4 256 rfl]
    exact Finset.sum_congr rfl fun d _ => Finset.sum_congr rfl fun n _ => congrArg f (Fin.ext (show d.val * 256 + n.val = 256 * d.val + n.val by omega))
  rw [e, Fin.sum_univ_four]
  generalize hg : (fun d : Fin 4 => ∑ n : Fin 256, f (inWhole d n)) = g
  have hg' (d : Fin 4) : ∑ n : Fin 256, f (inWhole d n) = g d := congrFun hg d
  simp only [hg']
  have h : ∀ c : Fin 4, g c + g (rot c 3) + g (rot c 2) + g (rot c 1) = g 0 + g 1 + g 2 + g 3 := by
    intro c
    fin_cases c
    · show g 0 + g 3 + g 2 + g 1 = _; ac_rfl
    · show g 1 + g 0 + g 3 + g 2 = _; ac_rfl
    · show g 2 + g 1 + g 0 + g 3 = _; ac_rfl
    · show g 3 + g 2 + g 1 + g 0 = _; ac_rfl
  exact h c

/-- The device's result block is the attention's result at the device's positions. -/
theorem OUT_apply (c : Dev nD) (b : Fin 2) (r : Fin 256) (o : Fin 768) : OUT m ρ c (ix3 b r o) = out X Wq Wk Wv Wo b (inWhole c r) o := by
  have h : OUT m ρ c (ix3 b r o) = outS m ρ c b 3 (ix3 0 r o) := by
    show outS m ρ c b (if b.val = 0 then 3 else 3) (ValueIdx.ix3 0 r o) = _
    rw [ite_self, ix3_eq_valueIdx]
  rw [h]
  show k0_pay120 (k0_pay120 (k0_pay120 (k0_pay117 (ctx0 m ρ c b) (WO16 m ρ c)) (rxB m ρ c 0 b) (woB m ρ c 1)) (rxB m ρ c 2 b) (woB m ρ c 2)) (rxB m ρ c 1 b) (woB m ρ c 3) (ix3 0 r o) = _
  rw [pay120_apply, pay120_apply, pay120_apply, pay117_apply]
  simp only [ctx0_apply H, WO16_apply H, rxB_apply H c 0 (by omega), rxB_apply H c 1 (by omega), rxB_apply H c 2 (by omega),
    woB_apply H c 1 (by omega), woB_apply H c 2 (by omega), woB_apply H c 3 (by omega)]
  exact sum_around c fun n => ctx X Wq Wk Wv b (inWhole c r) n * Wo n o

end Cert.KernelIdeal.Att

end
-- ==== Proof.RefVals.lean ====
/-
  The reference's composed term cut into its stages, and each stage read at an index: the angles, the two tables, the
  projections, the quarter turn, the rotation, the scores, the weights, the context and the result.
-/
module

public import proofs.«01_k».proof.Proof.Gen.ReferenceIdeal.Run
public import proofs.«01_k».proof.Proof.Spec

@[expose] public section

set_option maxRecDepth 16384

noncomputable section

namespace Cert.ReferenceIdeal.Att

open Idealize.ShloMosaic Idealize.ShloMosaic.TcCoe Cert.Att
open Cert.ReferenceIdeal Cert.ReferenceIdeal.Gen

variable {F : FTy → Type} [FloatOps F]

/-- The angles: position times the inverse frequency. -/
def angV : Vec F S1024x32 .f32 :=
  mulf (broadcastInDim S1024x32 ![0, 1] bcast_S1024x1_S1024x32_0_1 (sitofp .f32 (broadcastInDim S1024x1 ![0] bcast_S1024_S1024x1_0 (iotaInDim S1024 32 0))))
    (broadcastInDim S1024x32 ![0, 1] bcast_S1x32_S1024x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32)) (muli (broadcastInDim S32 ![] bcast_S_S32 (constantI S_ 32 2#32)) (iotaInDim S32 32 0))))
            (broadcastInDim S32 ![] bcast_S_S32 (constant S_ .f32 0x42800000#32)))))))

/-- A table with each column twice, spread over the batch and the heads. -/
def spread (t : Vec F S1024x32 .f32) : Vec F S2x1024x16x64 .f32 :=
  broadcastInDim S2x1024x16x64 ![0, 1, 2, 3] bcast_S1x1024x1x64_S2x1024x16x64_0_1_2_3 (broadcastInDim S1x1024x1x64 ![1, 3] bcast_S1024x64_S1x1024x1x64_1_3
    (shapeCast _ (broadcastInDim S1024x32x2 ![0, 1] bcast_S1024x32_S1024x32x2_0_1 t) shapeCasts_S1024x32x2_S1024x64))

/-- A projection, its columns by head. -/
def projV (x : Vec F S2x1024x768 .f32) (w : Vec F S768x1024 .f32) : Vec F S2x1024x16x64 .f32 :=
  shapeCast _ (Host.dotGeneral dot_S2x1024x768_S768x1024_S2x1024x1024_2_0_01_1_n_n none x w) shapeCasts_S2x1024x1024_S2x1024x16x64

/-- Each pair of columns turned a quarter. -/
def turnV (p : Vec F S2x1024x16x64 .f32) : Vec F S2x1024x16x64 .f32 :=
  shapeCast _ (concatenate S2x1024x16x32x2 4
    [⟨S2x1024x16x32x1, broadcastInDim S2x1024x16x32x1 ![0, 1, 2, 3] bcast_S2x1024x16x32_S2x1024x16x32x1_0_1_2_3 (Host.negf (shapeCast _ (extractStridedSlice S2x1024x16x32x1 ![0, 0, 0, 0, 1] (shapeCast _ p shapeCasts_S2x1024x16x64_S2x1024x16x32x2) slices_S2x1024x16x32x2_S2x1024x16x32x1_0_0_0_0_1) shapeCasts_S2x1024x16x32x1_S2x1024x16x32))⟩,
     ⟨S2x1024x16x32x1, broadcastInDim S2x1024x16x32x1 ![0, 1, 2, 3] bcast_S2x1024x16x32_S2x1024x16x32x1_0_1_2_3 (shapeCast _ (extractStridedSlice S2x1024x16x32x1 ![0, 0, 0, 0, 0] (shapeCast _ p shapeCasts_S2x1024x16x64_S2x1024x16x32x2) slices_S2x1024x16x32x2_S2x1024x16x32x1_0_0_0_0_0) shapeCasts_S2x1024x16x32x1_S2x1024x16x32)⟩]
    concatenates_S2x1024x16x32x1_S2x1024x16x32x1_S2x1024x16x32x2_d4) shapeCasts_S2x1024x16x32x2_S2x1024x16x64

/-- The rotation. -/
def ropeV (p : Vec F S2x1024x16x64 .f32) : Vec F S2x1024x16x64 .f32 :=
  addf (mulf p (spread (Host.cos angV))) (mulf (turnV p) (spread (Host.sin angV)))

/-- The scaled scores. -/
def scoreV (q k : Vec F S2x1024x16x64 .f32) : Vec F S2x16x1024x1024 .f32 :=
  mulf (Host.dotGeneral dot_S2x1024x16x64_S2x1024x16x64_S2x16x1024x1024_3_3_1_1_02_02 none q k) (broadcastInDim S2x16x1024x1024 ![] bcast_S_S2x16x1024x1024 (constant S_ .f32 0x3E000000#32))

/-- The exponentials of the scores less their row's greatest. -/
def expV (s : Vec F S2x16x1024x1024 .f32) : Vec F S2x16x1024x1024 .f32 :=
  Host.exp (subf s (broadcastInDim S2x16x1024x1024 ![0, 1, 2, 3] bcast_S2x16x1024x1_S2x16x1024x1024_0_1_2_3 (broadcastInDim S2x16x1024x1 ![0, 1, 2] bcast_S2x16x1024_S2x16x1024x1_0_1_2
    (Host.reduce FloatOps.maximumf s (constant S_ .f32 0xFF800000#32) reducesTo_S2x16x1024x1024_S2x16x1024_d3 h_S_))))

/-- The weights: the exponentials over their row's sum. -/
def wtV (e : Vec F S2x16x1024x1024 .f32) : Vec F S2x16x1024x1024 .f32 :=
  Host.divf e (broadcastInDim S2x16x1024x1024 ![0, 1, 2, 3] bcast_S2x16x1024x1_S2x16x1024x1024_0_1_2_3 (broadcastInDim S2x16x1024x1 ![0, 1, 2] bcast_S2x16x1024_S2x16x1024x1_0_1_2
    (Host.reduceAdd e (constant S_ .f32 0x00000000#32) reducesTo_S2x16x1024x1024_S2x16x1024_d3 h_S_)))

/-- The context, heads side by side. -/
def ctxV (v : Vec F S2x1024x16x64 .f32) (w : Vec F S2x16x1024x1024 .f32) : Vec F S2x1024x1024 .f32 :=
  shapeCast _ (transpose S2x1024x16x64 [0, 3, 1, 2] (Host.dotGeneral dot_S2x1024x16x64_S2x16x1024x1024_S2x16x64x1024_1_3_3_2_02_01 none v w) transposes_S2x16x64x1024_S2x1024x16x64_0_3_1_2) shapeCasts_S2x1024x16x64_S2x1024x1024

/-- The result. -/
def outV (x : Vec F S2x1024x768 .f32) (wq wk wv : Vec F S768x1024 .f32) (wo : Vec F S1024x768 .f32) : Vec F S2x1024x768 .f32 :=
  Host.dotGeneral dot_S2x1024x1024_S1024x768_S2x1024x768_2_0_01_1_n_n none
    (ctxV (projV x wv) (wtV (expV (scoreV (ropeV (projV x wq)) (ropeV (projV x wk)))))) wo

/-- The reference's composed term is the last stage. -/
theorem res_eq (m : (ℓ : Loc nD τ sig) → Buf (Elt F) ℓ) (c : Dev nD) :
    Value.res_main_v80 m c = outV (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The stages at an index -/

theorem projV_apply (x : Vec Ideal S2x1024x768 .f32) (w : Vec Ideal S768x1024 .f32) (b : Fin 2) (i : Fin 1024) (h : Fin 16) (e : Fin 64) :
    projV x w (ix4 b i h e) = ∑ k : Fin 768, x (ix3 b i k) * w (ix2 k ⟨h.val * 64 + e.val, by omega⟩) := by
  pointwise [projV]
theorem turnV_apply (p : Vec Ideal S2x1024x16x64 .f32) (b : Fin 2) (i : Fin 1024) (h : Fin 16) (e : Fin 64) :
    turnV p (ix4 b i h e) = if e.val % 2 < 1 then -p (ix4 b i h ⟨e.val / 2 * 2 + 1, by omega⟩) else p (ix4 b i h ⟨e.val / 2 * 2, by omega⟩) := by
  pointwise [turnV]
  split <;> rfl
theorem spread_apply (t : Vec Ideal S1024x32 .f32) (b : Fin 2) (i : Fin 1024) (h : Fin 16) (e : Fin 64) :
    spread t (ix4 b i h e) = t (ix2 i ⟨e.val / 2, by omega⟩) := by
  pointwise [spread]
theorem ropeV_apply (p : Vec Ideal S2x1024x16x64 .f32) (b : Fin 2) (i : Fin 1024) (h : Fin 16) (e : Fin 64) :
    ropeV p (ix4 b i h e) = p (ix4 b i h e) * spread (Host.cos angV) (ix4 b i h e) + turnV p (ix4 b i h e) * spread (Host.sin angV) (ix4 b i h e) := rfl
theorem scoreV_apply (q k : Vec Ideal S2x1024x16x64 .f32) (b : Fin 2) (h : Fin 16) (i j : Fin 1024) :
    scoreV q k (ix4 b h i j) = (∑ e : Fin 64, q (ix4 b i h e) * k (ix4 b j h e)) * Ideal.ofBits .f32 0x3E000000#32 := by
  pointwise [scoreV]
theorem expV_apply (s : Vec Ideal S2x16x1024x1024 .f32) (b : Fin 2) (h : Fin 16) (i j : Fin 1024) :
    expV s (ix4 b h i j) = Ideal.exp (s (ix4 b h i j) - Finset.univ.fold max (Ideal.ofBits .f32 0xFF800000#32) fun j' : Fin 1024 => s (ix4 b h i j')) := by
  pointwise [expV]
theorem wtV_apply (e : Vec Ideal S2x16x1024x1024 .f32) (b : Fin 2) (h : Fin 16) (i j : Fin 1024) :
    wtV e (ix4 b h i j) = Ideal.div (e (ix4 b h i j)) (∑ j' : Fin 1024, e (ix4 b h i j')) := by
  pointwise [wtV]
theorem ctxV_apply (v : Vec Ideal S2x1024x16x64 .f32) (w : Vec Ideal S2x16x1024x1024 .f32) (b : Fin 2) (i n : Fin 1024) :
    ctxV v w (ix3 b i n) = ∑ j : Fin 1024, v (ix4 b j ⟨n.val / 64, by omega⟩ ⟨n.val % 64, by omega⟩) * w (ix4 b ⟨n.val / 64, by omega⟩ i j) := by
  pointwise [ctxV]
theorem outV_apply (x : Vec Ideal S2x1024x768 .f32) (wq wk wv : Vec Ideal S768x1024 .f32) (wo : Vec Ideal S1024x768 .f32) (b : Fin 2) (i : Fin 1024) (o : Fin 768) :
    outV x wq wk wv wo (ix3 b i o)
      = ∑ n : Fin 1024, ctxV (projV x wv) (wtV (expV (scoreV (ropeV (projV x wq)) (ropeV (projV x wk))))) (ix3 b i n) * wo (ix2 n o) := by
  pointwise [outV]

theorem two_mul_word : ∀ k : Fin 32, IntOp.addi 0#32 (IntOp.muli 2#32 (BitVec.ofNat 32 k.val)) = BitVec.ofNat 32 (2 * k.val) := by decide +kernel

/-- The reference's angle at a position and a frequency. -/
theorem angV_apply (i : Fin 1024) (k : Fin 32) : angV (F := Ideal) (ix2 i k) = ((ang i.val k.val : ℝ) : EReal) := by
  have h : angV (F := Ideal) (ix2 i k) = FloatOps.sitofp (F := Ideal) .f32 (BitVec.ofNat 32 i.val) * Ideal.div 1 (Ideal.pow (Ideal.ofBits .f32 0x461C4000#32)
      (Ideal.div (FloatOps.sitofp (F := Ideal) .f32 (IntOp.addi 0#32 (IntOp.muli 2#32 (BitVec.ofNat 32 k.val)))) (Ideal.ofBits .f32 0x42800000#32))) := by
    pointwise [angV]
  rw [h, two_mul_word, sitofp_ofNat _ i.isLt, sitofp_ofNat _ (by omega), ofBits_sixty_four, ofBits_ten_thousand, Ideal.div_coe (by norm_num), ← EReal.coe_mul,
    Ideal.pow_coe_coe]
  have hp : Real.rpow 10000 (((2 * k.val : ℕ) : ℝ) * (1 / 64)) = Real.exp (Real.log 10000 * ((k.val : ℝ) / 32)) := by
    refine (Real.rpow_def_of_pos (by norm_num : (0 : ℝ) < 10000) _).trans ?_
    congr 2
    push_cast
    ring
  rw [hp, Ideal.div_coe (Real.exp_pos _).ne', one_mul, ← EReal.coe_mul, ang]
  congr 2
  rw [one_div, ← Real.exp_neg]
  congr 1
  ring

/-! ## The stages are the attention's -/

section
variable (x : Vec Ideal S2x1024x768 .f32) (wq wk wv : Vec Ideal S768x1024 .f32) (wo : Vec Ideal S1024x768 .f32)

/-- The input's entries by coordinates. -/
abbrev ofX : Fin 2 → Fin 1024 → Fin 768 → EReal := fun b i k => x (ix3 b i k)
/-- A weight matrix's entries by coordinates. -/
abbrev ofW (w : Vec Ideal S768x1024 .f32) : Fin 768 → Fin 1024 → EReal := fun k n => w (ix2 k n)
/-- The output weights' entries by coordinates. -/
abbrev ofWo : Fin 1024 → Fin 768 → EReal := fun n o => wo (ix2 n o)

theorem projV_eq (w : Vec Ideal S768x1024 .f32) (b : Fin 2) (i : Fin 1024) (h : Fin 16) (e : Fin 64) :
    projV x w (ix4 b i h e) = proj (ofX x) (ofW w) b i (col h e) := by
  rw [projV_apply]
  unfold proj col
  refine Finset.sum_congr rfl fun k _ => ?_
  rw [show (⟨h.val * 64 + e.val, by omega⟩ : Fin 1024) = ⟨64 * h.val + e.val, by omega⟩ from Fin.ext (by show h.val * 64 + e.val = 64 * h.val + e.val; omega)]

theorem ropeV_eq (w : Vec Ideal S768x1024 .f32) (b : Fin 2) (i : Fin 1024) (h : Fin 16) (e : Fin 64) :
    ropeV (projV x w) (ix4 b i h e) = rope (ofX x) (ofW w) b i (col h e) := by
  rw [ropeV_apply, turnV_apply, spread_apply, spread_apply, projV_eq, projV_eq, projV_eq]
  unfold rope
  have hc : (col h e).val % 64 / 2 = e.val / 2 := by show (64 * h.val + e.val) % 64 / 2 = _; omega
  rw [hc]
  congr 1
  · congr 1
    exact (congrArg Ideal.cos (angV_apply i ⟨e.val / 2, by omega⟩)).trans (Ideal.cos_coe _)
  · congr 1
    · unfold turn
      have hv : (col h e).val = 64 * h.val + e.val := rfl
      by_cases h2 : e.val % 2 < 1
      · rw [if_pos h2, dif_pos (by rw [hv]; omega)]
        congr 2
        exact Fin.ext (by show 64 * h.val + (e.val / 2 * 2 + 1) = 64 * h.val + e.val + 1; omega)
      · rw [if_neg h2, dif_neg (by rw [hv]; omega)]
        congr 1
        exact Fin.ext (by show 64 * h.val + (e.val / 2 * 2) = 64 * h.val + e.val - 1; omega)
    · exact (congrArg Ideal.sin (angV_apply i ⟨e.val / 2, by omega⟩)).trans (Ideal.sin_coe _)

theorem scoreV_eq (b : Fin 2) (h : Fin 16) (i j : Fin 1024) :
    scoreV (ropeV (projV x wq)) (ropeV (projV x wk)) (ix4 b h i j) = score (ofX x) (ofW wq) (ofW wk) b h i j := by
  rw [scoreV_apply]; simp only [ropeV_eq]; rfl

/-- The reference's result is the attention's, when the inputs and the query and key weights are real. -/
theorem outV_eq (hX : ∀ b i k, IsR (ofX x b i k)) (hq : ∀ k n, IsR (ofW wq k n)) (hk : ∀ k n, IsR (ofW wk k n)) (b : Fin 2) (i : Fin 1024) (o : Fin 768) :
    outV x wq wk wv wo (ix3 b i o) = out (ofX x) (ofW wq) (ofW wk) (ofW wv) (ofWo wo) b i o := by
  rw [outV_apply]
  unfold out
  refine Finset.sum_congr rfl fun n _ => ?_
  congr 1
  rw [ctxV_apply]
  unfold ctx
  refine Finset.sum_congr rfl fun j _ => ?_
  rw [mul_comm, wtV_apply]
  simp only [expV_apply, scoreV_eq]
  rw [wt_max _ (fun j' => score_real hX hq hk b _ i j') j, projV_eq]
  congr 2
  exact Fin.ext (by show 64 * (n.val / 64) + n.val % 64 = n.val; omega)

end

end Cert.ReferenceIdeal.Att

end
-- ==== Proof.Value.lean ====
/-
  The value of the run: the result array of each device is its block of the attention's result, and the finiteness
  the claim assumes makes the inputs and the query and key weights real.
-/
module

public import proofs.«01_k».proof.Defs
public import proofs.«01_k».proof.Proof.Kvals
public import proofs.«01_k».proof.Proof.Frames
public import proofs.«01_k».proof.Proof.RefVals
public import Idealize.ShloMosaic.Lib.ReduceAll

@[expose] public section

set_option maxRecDepth 16384

noncomputable section

namespace Cert.KernelIdeal.Att

open Idealize.ShloMosaic Idealize.ShloMosaic.TcCoe Cert.Att
open Idealize.SL.Sem
open Cert.KernelIdeal Cert.KernelIdeal.Gen

section
variable {F : FTy → Type} [FloatOps F]
variable (m : (ℓ : Loc nD τ sig) → Buf (Elt F) ℓ) (ρ : Dev nD → PrngReg)

/-! ## The one block of a window is its whole array -/

/-- The input block read through its window is the device's first argument. -/
theorem xin_eq (c : Dev nD) : xin m ρ c = m ((c.tc : Thread nD τ).loc main_arg0) :=
  Memref.read_access_unit_zero (Elt F) main_arg0 (funext fun a => by fin_cases a <;> decide) (fun a => by fin_cases a <;> decide) _
/-- The query weights read through their window are the device's second argument. -/
theorem wqin_eq (c : Dev nD) : wqin m ρ c = m ((c.tc : Thread nD τ).loc main_arg1) :=
  Memref.read_access_unit_zero (Elt F) main_arg1 (funext fun a => by fin_cases a <;> decide) (fun a => by fin_cases a <;> decide) _
/-- The key weights read through their window are the device's third argument. -/
theorem wkin_eq (c : Dev nD) : wkin m ρ c = m ((c.tc : Thread nD τ).loc main_arg2) :=
  Memref.read_access_unit_zero (Elt F) main_arg2 (funext fun a => by fin_cases a <;> decide) (fun a => by fin_cases a <;> decide) _
/-- The value weights read through their window are the device's fourth argument. -/
theorem wvin_eq (c : Dev nD) : wvin m ρ c = m ((c.tc : Thread nD τ).loc main_arg3) :=
  Memref.read_access_unit_zero (Elt F) main_arg3 (funext fun a => by fin_cases a <;> decide) (fun a => by fin_cases a <;> decide) _
/-- The output weights read through their window are the device's fifth argument. -/
theorem woin_eq (c : Dev nD) : woin m ρ c = m ((c.tc : Thread nD τ).loc main_arg4) :=
  Memref.read_access_unit_zero (Elt F) main_arg4 (funext fun a => by fin_cases a <;> decide) (fun a => by fin_cases a <;> decide) _

/-- The result array after the run. -/
theorem finalA_out (c : Dev nD) : finalA m ρ c 5 = OUT m ρ c := by
  have h : (win0_5.blk (0 : Fin 1)).view.read (Elt F) (finalA m ρ c 5) = OUT m ρ c := by
    unfold finalA
    rw [show cfg0.N = ((0 : Fin 1) : Fin cfg0.N).val + 1 from rfl, (dats m ρ 0 c).arrAt_succ 5 (0 : Fin 1), show (cfg0.win 5).flush (0 : Fin 1) = true from by decide, if_pos rfl]
    exact View.read_write_univ _ _
  exact (Memref.read_access_unit_zero (Elt F) main_v1 (funext fun a => by fin_cases a <;> decide) (fun a => by fin_cases a <;> decide) _).symm.trans h

end

/-! ## The blocks of whole arrays -/

section
variable {α : Type}

/-- An entry of block `c` of an array cut along its middle axis. -/
theorem block_mid (c : Fin 4) (v : Shape.Idx ⟨3, ![2, 1024, 768]⟩ → α) (b : Fin 2) (r : Fin 256) (k : Fin 768) :
    Layout.block ⟨3, ![2, 256, 768]⟩ ⟨3, ![2, 1024, 768]⟩ 1 4 c v (by decide) (ix3 b r k) = v (ix3 b (inWhole c r) k) :=
  congrArg v (funext fun a => Fin.ext (by fin_cases a <;> (rw [Layout.Tiles.idx_val]; first | rfl | exact congrArg (· + r.val) (Nat.mul_comm _ _))))
/-- An entry of block `c` of a matrix cut along its columns. -/
theorem block_col (c : Fin 4) (v : Shape.Idx ⟨2, ![768, 1024]⟩ → α) (k : Fin 768) (n : Fin 256) :
    Layout.block ⟨2, ![768, 256]⟩ ⟨2, ![768, 1024]⟩ 1 4 c v (by decide) (ix2 k n) = v (ix2 k (inWhole c n)) :=
  congrArg v (funext fun a => Fin.ext (by fin_cases a <;> (rw [Layout.Tiles.idx_val]; first | rfl | exact congrArg (· + n.val) (Nat.mul_comm _ _))))
/-- An entry of block `c` of a matrix cut along its rows. -/
theorem block_row (c : Fin 4) (v : Shape.Idx ⟨2, ![1024, 768]⟩ → α) (n : Fin 256) (o : Fin 768) :
    Layout.block ⟨2, ![256, 768]⟩ ⟨2, ![1024, 768]⟩ 0 4 c v (by decide) (ix2 n o) = v (ix2 (inWhole c n) o) :=
  congrArg v (funext fun a => Fin.ext (by fin_cases a <;> (rw [Layout.Tiles.idx_val]; first | rfl | exact congrArg (· + n.val) (Nat.mul_comm _ _))))
end

/-! ## Finite inputs are real -/

/-- A value whose magnitude is below infinity is real. -/
theorem real_of_lt (z : EReal) (h : Ideal.cmp .olt (max z (-z)) (Ideal.ofBits .f32 0x7F800000#32) = 1#1) : IsR z := by
  have h' : max z (-z) < ⊤ := by
    rw [ofBits_inf] at h
    by_contra hn
    simp [Ideal.cmp, hn] at h
  obtain ⟨hp, hn⟩ := max_lt_iff.mp h'
  have hb : z ≠ ⊥ := fun e => absurd hn (by simp [e])
  exact ⟨z.toReal, (EReal.coe_toReal hp.ne hb).symm⟩

/-- The facts of the precondition over one device's arrays. -/
instance preFacts : Cert.Pre_finite_KernelIdeal.Facts where
  bcast_S_S2x256x768 := by decide
  reducesTo_S2x256x768_S_d0_1_2 := by decide
  h_S_ := by decide
  bcast_S_S768x256 := by decide
  reducesTo_S768x256_S_d0_1 := by decide

/-- What the precondition says of one device's arguments: the input and the query and key weights are real. -/
theorem pre_real (a0 : Vec Ideal S2x256x768 .f32) (a1 a2 a3 : Vec Ideal S768x256 .f32) (a4 : Vec Ideal S256x768 .f32)
    (h : Cert.Pre_finite_KernelIdeal.fn (F := Ideal) a0 a1 a2 a3 a4 = fun _ => 1#1) :
    (∀ i, IsR (a0 i)) ∧ (∀ i, IsR (a1 i)) ∧ ∀ i, IsR (a2 i) := by
  have h0 := congrFun h (Shape.Idx.first (by decide))
  obtain ⟨h01, h2⟩ := IntOp.andi_eq_one.mp h0
  obtain ⟨h0, h1⟩ := IntOp.andi_eq_one.mp h01
  haveI : Subsingleton (Shape.Idx Cert.Pre_finite_KernelIdeal.S_) := ⟨fun a b => funext fun i => i.elim0⟩
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

open Cert.ReferenceIdeal.Att (ofX ofW ofWo outV_eq res_eq)

/-- The value claim: each device's result is its block of the reference's result. -/
theorem algebraic : @Cert.algebraic_KernelIdeal_ReferenceIdeal_pre_finite_KernelIdeal Cert.KernelIdeal.Gen.facts Cert.ReferenceIdeal.Gen.facts preFacts := by
  intro m g m' g' hpre hin
  have hB : Blocks m g (ofX (m' (((0 : Dev Cert.ReferenceIdeal.nD).tc).loc Cert.ReferenceIdeal.main_arg0)))
      (ofW (m' (((0 : Dev Cert.ReferenceIdeal.nD).tc).loc Cert.ReferenceIdeal.main_arg1)))
      (ofW (m' (((0 : Dev Cert.ReferenceIdeal.nD).tc).loc Cert.ReferenceIdeal.main_arg2)))
      (ofW (m' (((0 : Dev Cert.ReferenceIdeal.nD).tc).loc Cert.ReferenceIdeal.main_arg3)))
      (ofWo (m' (((0 : Dev Cert.ReferenceIdeal.nD).tc).loc Cert.ReferenceIdeal.main_arg4))) :=
    { x := fun d b r k => (congrFun ((xin_eq m g d).trans (hin d).1) _).trans (block_mid d _ b r k)
      q := fun d k n => (congrFun ((wqin_eq m g d).trans (hin d).2.1) _).trans (block_col d _ k n)
      k := fun d k n => (congrFun ((wkin_eq m g d).trans (hin d).2.2.1) _).trans (block_col d _ k n)
      v := fun d k n => (congrFun ((wvin_eq m g d).trans (hin d).2.2.2.1) _).trans (block_col d _ k n)
      o := fun d n o => (congrFun ((woin_eq m g d).trans (hin d).2.2.2.2) _).trans (block_row d _ n o) }
  have hr := fun c => pre_real _ _ _ _ _ (hpre c)
  have hX : ∀ b i k, IsR (ofX (m' (((0 : Dev Cert.ReferenceIdeal.nD).tc).loc Cert.ReferenceIdeal.main_arg0)) b i k) := fun b i k => by
    rw [whole_split i, ← hB.x, xin_eq]
    exact (hr _).1 _
  have hQ : ∀ k n, IsR (ofW (m' (((0 : Dev Cert.ReferenceIdeal.nD).tc).loc Cert.ReferenceIdeal.main_arg1)) k n) := fun k n => by
    rw [whole_split n, ← hB.q, wqin_eq]
    exact (hr _).2.1 _
  have hK : ∀ k n, IsR (ofW (m' (((0 : Dev Cert.ReferenceIdeal.nD).tc).loc Cert.ReferenceIdeal.main_arg2)) k n) := fun k n => by
    rw [whole_split n, ← hB.k, wkin_eq]
    exact (hr _).2.2 _
  refine ⟨Cert.ReferenceIdeal.Value.res_main_v80 m' 0, ?_, ?_⟩
  · refine (θ_run _ _ _).mono (fun r h c => ⟨?_, argsKept m g r h.1 c⟩) (run_main (F := Ideal) m g)
    refine ((h.1 c 5).trans (finalA_out m g c)).trans (funext fun i => ?_)
    refine (congrArg _ (eq_ix3 i)).trans ((OUT_apply hB c (i 0) (i 1) (i 2)).trans (Eq.symm ?_))
    refine (congrArg _ (eq_ix3 i)).trans ((block_mid c _ (i 0) (i 1) (i 2)).trans ?_)
    exact (congrFun (res_eq m' 0) _).trans (outV_eq _ _ _ _ _ hX hQ hK (i 0) (inWhole c (i 1)) (i 2))
  · exact (θ_run _ _ _).mono (fun r h => h 0) (Cert.ReferenceIdeal.Value.run (F := Ideal) m' g')

end Cert.KernelIdeal.Att

end
-- ==== Proof.lean ====
/-
  The proof of `Cert.Claim` (Defs.lean): the frames of the kernel at bit patterns and at the ideal instance, the
  frame of the reference, that the idealization rewrote nothing, and that every device's result is its block of the
  reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Bf.Frames
public import proofs.«01_k».proof.Proof.Value
public import Idealize.ShloMosaic.Lib.Quiescent

@[expose] public section

noncomputable section

namespace Cert.Proof

open Idealize.ShloMosaic Idealize.SL.Sem

/-- The kernel's frame at bit patterns. -/
theorem frame_p : @Cert.quiescent_Kernel Cert.Kernel.Gen.facts := fun m g _ => Cert.Kernel.Att.frame (F := Bits) m g

/-- The idealized kernel's frame. -/
theorem frame_pi : @Cert.quiescent_KernelIdeal Cert.KernelIdeal.Gen.facts := fun m g _ => Cert.KernelIdeal.Att.frame (F := Ideal) m g

/-- The reference's frame: its run keeps the arguments, and it has no semaphore. -/
theorem frame_ri : @Cert.quiescent_ReferenceIdeal Cert.ReferenceIdeal.Gen.facts := fun m g _ =>
  (θ_run _ _ _).mono (fun r h => ⟨fun c => (h c).2, sem_eq_zero_of_no_sems rfl r.2⟩) (Cert.ReferenceIdeal.Value.run (F := Ideal) m g)

/-- The facts of the precondition over the reference's whole arrays. -/
theorem preFactsWhole : Cert.Pre_finite_ReferenceIdeal.Facts where
  bcast_S_S2x1024x768 := by decide
  reducesTo_S2x1024x768_S_d0_1_2 := by decide
  h_S_ := by decide
  bcast_S_S768x1024 := by decide
  reducesTo_S768x1024_S_d0_1 := by decide

/-- Every claim of the statement. -/
theorem claim : Cert.Claim :=
  ⟨Cert.Kernel.Gen.facts, Cert.KernelIdeal.Gen.facts, Cert.ReferenceIdeal.Gen.facts, Cert.KernelIdeal.Att.preFacts, preFactsWhole,
    frame_p, frame_pi, fun m g _ => frame_pi m g trivial, frame_ri, fun m g _ => frame_ri m g trivial, trivial, Cert.KernelIdeal.Att.algebraic⟩

end Cert.Proof

end
